-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.BufferStatement Cert.Kernel3Ideal.S131072x2x128 Cert.Kernel3Ideal.S131072x1x128
  ∧ IdealRules.bf16_pair.BufferStatement Cert.Kernel3Ideal.S4096x2x128 Cert.Kernel3Ideal.S4096x1x128
  ∧ IdealRules.bf16_pair.PackStatement Cert.Kernel3Ideal.S256x1024
  ∧ IdealRules.bf16_pair.Statement Cert.Kernel3Ideal.S256x2x128 Cert.Kernel3Ideal.S256x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v17_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16384x3072 : Shape := ⟨2, ![16384, 3072]⟩
abbrev S4x576x256 : Shape := ⟨3, ![4, 576, 256]⟩
abbrev S1024 : Shape := ⟨1, ![1024]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  bcast_S_S4x576x256 : S_.BroadcastsInDim S4x576x256 (![] : Fin 0 → Fin S4x576x256.rank)

variable [Facts]

def fn {F : FTy → Type} [FloatOps F] (main_arg0 : FVec F S16384x3072 .bf16) (main_arg1 : FVec F S4x576x256 .f32) (main_arg2 : FVec F S1024 .f32) : IVec S16384x2048 1 × IVec S4x576x256 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_v5 : FVec F S4x576x256 .f32 := Host.absf main_arg1
  let main_cst_0 : FVec F S_ .f32 := constant S_ .f32 0x7F800000#32
  let main_v6 : FVec F S4x576x256 .f32 := broadcastInDim S4x576x256 ![] bcast_S_S4x576x256 main_cst_0
  let main_v7 : IVec S4x576x256 1 := cmpf .olt main_v5 main_v6
  (main_v4, main_v7)
-- ==== Kernel.lean ====
abbrev S16384x3072 : Shape := ⟨2, ![16384, 3072]⟩
abbrev S4x576x256 : Shape := ⟨3, ![4, 576, 256]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S2x4x576x256 : Shape := ⟨4, ![2, 4, 576, 256]⟩
abbrev S8x4x768x256 : Shape := ⟨4, ![8, 4, 768, 256]⟩
abbrev S64x256 : Shape := ⟨2, ![64, 256]⟩
abbrev S64x128 : Shape := ⟨2, ![64, 128]⟩
abbrev S576x256 : Shape := ⟨2, ![576, 256]⟩
abbrev S4x192x256 : Shape := ⟨3, ![4, 192, 256]⟩
abbrev S1x4x192x256 : Shape := ⟨4, ![1, 4, 192, 256]⟩
abbrev S4x64x256 : Shape := ⟨3, ![4, 64, 256]⟩
abbrev S1x4x64x256 : Shape := ⟨4, ![1, 4, 64, 256]⟩
abbrev S4x128x256 : Shape := ⟨3, ![4, 128, 256]⟩
abbrev S1x4x128x256 : Shape := ⟨4, ![1, 4, 128, 256]⟩
abbrev S256x256 : Shape := ⟨2, ![256, 256]⟩
abbrev S512x256 : Shape := ⟨2, ![512, 256]⟩
abbrev S1x576x256 : Shape := ⟨3, ![1, 576, 256]⟩
abbrev S1x1x576x256 : Shape := ⟨4, ![1, 1, 576, 256]⟩
abbrev S448x256 : Shape := ⟨2, ![448, 256]⟩
abbrev S128x256 : Shape := ⟨2, ![128, 256]⟩
abbrev S1x1x64x256 : Shape := ⟨4, ![1, 1, 64, 256]⟩
abbrev S256 : Shape := ⟨1, ![256]⟩
abbrev S1x256 : Shape := ⟨2, ![1, 256]⟩
abbrev S384x256 : Shape := ⟨2, ![384, 256]⟩
abbrev S192x256 : Shape := ⟨2, ![192, 256]⟩
abbrev S320x256 : Shape := ⟨2, ![320, 256]⟩
abbrev S768x128 : Shape := ⟨2, ![768, 128]⟩
abbrev S1x1x768x128 : Shape := ⟨4, ![1, 1, 768, 128]⟩
abbrev S768x512 : Shape := ⟨2, ![768, 512]⟩
abbrev S512x128 : Shape := ⟨2, ![512, 128]⟩
abbrev S256x128 : Shape := ⟨2, ![256, 128]⟩
abbrev S768x256 : Shape := ⟨2, ![768, 256]⟩
abbrev S128x128 : Shape := ⟨2, ![128, 128]⟩
abbrev S512 : Shape := ⟨1, ![512]⟩
abbrev S512x1 : Shape := ⟨2, ![512, 1]⟩

abbrev nBuf : Space → Nat
  | .hbm => 5
  | .vmem => 17
  | .smem => 0
  | _ => 0

abbrev bufTy : (tb : Table) → Fin (tcTables nBuf tb) → BufTy
  | .hbm, ⟨0, _⟩ => ⟨S16384x3072, .bf16⟩
  | .hbm, ⟨1, _⟩ => ⟨S4x576x256, .f32⟩
  | .hbm, ⟨2, _⟩ => ⟨S1024, .f32⟩
  | .hbm, ⟨3, _⟩ => ⟨S1x1024, .f32⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x576x256, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S2x4x576x256, .f32⟩
  | .local _ .vmem, ⟨15, _⟩ => ⟨S8x4x768x256, .bf16⟩
  | .local _ .vmem, ⟨16, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x576x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S4x576x256 : Shape := ⟨3, ![4, 576, 256]⟩
abbrev S1024 : Shape := ⟨1, ![1024]⟩
abbrev S4x4096x3072 : Shape := ⟨3, ![4, 4096, 3072]⟩
abbrev S4x4096x1024 : Shape := ⟨3, ![4, 4096, 1024]⟩
abbrev S4x576x4x64 : Shape := ⟨4, ![4, 576, 4, 64]⟩
abbrev S4x4x64x576 : Shape := ⟨4, ![4, 4, 64, 576]⟩
abbrev S16x64x576 : Shape := ⟨3, ![16, 64, 576]⟩
abbrev S4x64x64x16x64 : Shape := ⟨5, ![4, 64, 64, 16, 64]⟩
abbrev S_ : Shape := ⟨0, ![]⟩
abbrev S4x72x64x16x64 : Shape := ⟨5, ![4, 72, 64, 16, 64]⟩
abbrev S4x64x576x16x64 : Shape := ⟨5, ![4, 64, 576, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S4x64x16x64x576 : Shape := ⟨5, ![4, 64, 16, 64, 576]⟩
abbrev S1x1x16x64x576 : Shape := ⟨5, ![1, 1, 16, 64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x64x64 : Shape := ⟨5, ![4, 64, 16, 64, 64]⟩
abbrev S16384x1024 : Shape := ⟨2, ![16384, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S4x576x256, .f32⟩
  | .hbm, ⟨2, _⟩ => ⟨S1024, .f32⟩
  | .hbm, ⟨3, _⟩ => ⟨S16384x3072, .f32⟩
  | .hbm, ⟨4, _⟩ => ⟨S4x4096x3072, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x576x4x64, .f32⟩
  | .hbm, ⟨9, _⟩ => ⟨S4x4x64x576, .f32⟩
  | .hbm, ⟨10, _⟩ => ⟨S16x64x576, .f32⟩
  | .hbm, ⟨11, _⟩ => ⟨S4x64x64x16x64, .f32⟩
  | .hbm, ⟨12, _⟩ => ⟨S4x64x64x16x64, .f32⟩
  | .hbm, ⟨13, _⟩ => ⟨S_, .i32⟩
  | .hbm, ⟨14, _⟩ => ⟨S_, .f32⟩
  | .hbm, ⟨15, _⟩ => ⟨S4x72x64x16x64, .f32⟩
  | .hbm, ⟨16, _⟩ => ⟨S4x64x64x16x64, .f32⟩
  | .hbm, ⟨17, _⟩ => ⟨S_, .i32⟩
  | .hbm, ⟨18, _⟩ => ⟨S_, .f32⟩
  | .hbm, ⟨19, _⟩ => ⟨S4x72x64x16x64, .f32⟩
  | .hbm, ⟨20, _⟩ => ⟨S4x64x64x16x64, .f32⟩
  | .hbm, ⟨21, _⟩ => ⟨S4x64x64x16x64, .f32⟩
  | .hbm, ⟨22, _⟩ => ⟨S4x64x64x16x64, .f32⟩
  | .hbm, ⟨23, _⟩ => ⟨S4x64x64x16x64, .f32⟩
  | .hbm, ⟨24, _⟩ => ⟨S4x64x64x16x64, .f32⟩
  | .hbm, ⟨25, _⟩ => ⟨S4x64x64x16x64, .f32⟩
  | .hbm, ⟨26, _⟩ => ⟨S4x64x64x16x64, .f32⟩
  | .hbm, ⟨27, _⟩ => ⟨S4x64x64x16x64, .f32⟩
  | .hbm, ⟨28, _⟩ => ⟨S4x64x64x16x64, .f32⟩
  | .hbm, ⟨29, _⟩ => ⟨S4x64x576x16x64, .f32⟩
  | .hbm, ⟨30, _⟩ => ⟨S4x64x64x16x64, .f32⟩
  | .hbm, ⟨31, _⟩ => ⟨S4x64x64x16x64, .f32⟩
  | .hbm, ⟨32, _⟩ => ⟨S4x64x64x16x64, .f32⟩
  | .hbm, ⟨33, _⟩ => ⟨S4x64x64x16x64, .f32⟩
  | .hbm, ⟨34, _⟩ => ⟨S4x64x64x16x64, .f32⟩
  | .hbm, ⟨35, _⟩ => ⟨S4x64x64x16x64, .f32⟩
  | .hbm, ⟨36, _⟩ => ⟨S4x64x64x16x64, .f32⟩
  | .hbm, ⟨37, _⟩ => ⟨S4x64x64x16x64, .f32⟩
  | .hbm, ⟨38, _⟩ => ⟨S4x64x64x16x64, .f32⟩
  | .hbm, ⟨39, _⟩ => ⟨S4x64x576x16x64, .f32⟩
  | .hbm, ⟨40, _⟩ => ⟨S64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S576, .i32⟩
  | .hbm, ⟨46, _⟩ => ⟨S_, .i32⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S576, .i32⟩
  | .hbm, ⟨51, _⟩ => ⟨S_, .i32⟩
  | .hbm, ⟨52, _⟩ => ⟨S576, .i32⟩
  | .hbm, ⟨53, _⟩ => ⟨S576, .i1⟩
  | .hbm, ⟨54, _⟩ => ⟨S576, .i32⟩
  | .hbm, ⟨55, _⟩ => ⟨S576, .i32⟩
  | .hbm, ⟨56, _⟩ => ⟨S_, .i32⟩
  | .hbm, ⟨57, _⟩ => ⟨S576, .i32⟩
  | .hbm, ⟨58, _⟩ => ⟨S576, .i1⟩
  | .hbm, ⟨59, _⟩ => ⟨S576, .i1⟩
  | .hbm, ⟨60, _⟩ => ⟨S_, .i32⟩
  | .hbm, ⟨61, _⟩ => ⟨S576, .i32⟩
  | .hbm, ⟨62, _⟩ => ⟨S576, .i32⟩
  | .hbm, ⟨63, _⟩ => ⟨S576, .i32⟩
  | .hbm, ⟨64, _⟩ => ⟨S1x576, .i32⟩
  | .hbm, ⟨65, _⟩ => ⟨S64x576, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i1⟩
  | .hbm, ⟨71, _⟩ => ⟨S4x64x16x64x576, .f32⟩
  | .hbm, ⟨72, _⟩ => ⟨S_, .f32⟩
  | .hbm, ⟨73, _⟩ => ⟨S4x64x16x64x576, .f32⟩
  | .hbm, ⟨74, _⟩ => ⟨S4x64x16x64x576, .f32⟩
  | .hbm, ⟨75, _⟩ => ⟨S1x1x16x64x576, .f32⟩
  | .hbm, ⟨76, _⟩ => ⟨S4x64x16x64x576, .f32⟩
  | .hbm, ⟨77, _⟩ => ⟨S4x64x16x64x576, .f32⟩
  | .hbm, ⟨78, _⟩ => ⟨S1x64x1x1x576, .i1⟩
  | .hbm, ⟨79, _⟩ => ⟨S_, .f32⟩
  | .hbm, ⟨80, _⟩ => ⟨S_, .f32⟩
  | .hbm, ⟨81, _⟩ => ⟨S4x64x16x64x576, .i1⟩
  | .hbm, ⟨82, _⟩ => ⟨S4x64x16x64x576, .f32⟩
  | .hbm, ⟨83, _⟩ => ⟨S4x64x16x64x576, .f32⟩
  | .hbm, ⟨84, _⟩ => ⟨S_, .f32⟩
  | .hbm, ⟨85, _⟩ => ⟨S4x64x16x64, .f32⟩
  | .hbm, ⟨86, _⟩ => ⟨S_, .f32⟩
  | .hbm, ⟨87, _⟩ => ⟨S4x64x16x64, .f32⟩
  | .hbm, ⟨88, _⟩ => ⟨S4x64x16x64, .f32⟩
  | .hbm, ⟨89, _⟩ => ⟨S4x64x16x64x1, .f32⟩
  | .hbm, ⟨90, _⟩ => ⟨S4x64x16x64x576, .f32⟩
  | .hbm, ⟨91, _⟩ => ⟨S4x64x16x64x576, .f32⟩
  | .hbm, ⟨92, _⟩ => ⟨S4x64x16x64x576, .f32⟩
  | .hbm, ⟨93, _⟩ => ⟨S_, .f32⟩
  | .hbm, ⟨94, _⟩ => ⟨S4x64x16x64, .f32⟩
  | .hbm, ⟨95, _⟩ => ⟨S4x64x16x64x1, .f32⟩
  | .hbm, ⟨96, _⟩ => ⟨S4x64x16x64x576, .f32⟩
  | .hbm, ⟨97, _⟩ => ⟨S4x64x16x64x576, .f32⟩
  | .hbm, ⟨98, _⟩ => ⟨S4x64x16x64x64, .f32⟩
  | .hbm, ⟨99, _⟩ => ⟨S4x64x64x16x64, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S1x1024, .f32⟩
  | .hbm, ⟨115, _⟩ => ⟨S16384x1024, .f32⟩
  | .hbm, ⟨116, _⟩ => ⟨S16384x1024, .f32⟩
  | .hbm, ⟨117, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_7 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x6144 : Shape := ⟨2, ![2048, 6144]⟩
abbrev S3x1024 : Shape := ⟨2, ![3, 1024]⟩
abbrev S1024 : Shape := ⟨1, ![1024]⟩
abbrev S_ : Shape := ⟨0, ![]⟩
abbrev S8x1024 : Shape := ⟨2, ![8, 1024]⟩
abbrev S1 : Shape := ⟨1, ![1]⟩
abbrev S1x2048 : Shape := ⟨2, ![1, 2048]⟩
abbrev S1x1024 : Shape := ⟨2, ![1, 1024]⟩
abbrev S16384x3072 : Shape := ⟨2, ![16384, 3072]⟩
abbrev S16384x1024 : Shape := ⟨2, ![16384, 1024]⟩
abbrev S512x2048 : Shape := ⟨2, ![512, 2048]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S520x1024 : Shape := ⟨2, ![520, 1024]⟩
abbrev S2048x1536 : Shape := ⟨2, ![2048, 1536]⟩
abbrev S512x1536 : Shape := ⟨2, ![512, 1536]⟩

abbrev nBuf : Space → Nat
  | .hbm => 15
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S3x1024, .f32⟩
  | .hbm, ⟨4, _⟩ => ⟨S1024, .f32⟩
  | .hbm, ⟨5, _⟩ => ⟨S_, .f32⟩
  | .hbm, ⟨6, _⟩ => ⟨S8x1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S1x2048, .f32⟩
  | .hbm, ⟨11, _⟩ => ⟨S2048x6144, .bf16⟩
  | .hbm, ⟨12, _⟩ => ⟨S1x1024, .f32⟩
  | .hbm, ⟨13, _⟩ => ⟨S16384x3072, .bf16⟩
  | .hbm, ⟨14, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6144, .bf16⟩
  | .local _ .vmem, ⟨4, _⟩ => ⟨S8x1024, .f32⟩
  | .local _ .vmem, ⟨5, _⟩ => ⟨S1x1024, .f32⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x2048 : Shape := ⟨2, ![16384, 2048]⟩
abbrev S2048 : Shape := ⟨1, ![2048]⟩
abbrev S2048x6144 : Shape := ⟨2, ![2048, 6144]⟩
abbrev S3x1024 : Shape := ⟨2, ![3, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6144 : Shape := ⟨2, ![16384, 6144]⟩
abbrev S16384x3072 : Shape := ⟨2, ![16384, 3072]⟩
abbrev S4x4096x3072 : Shape := ⟨3, ![4, 4096, 3072]⟩
abbrev S4x4096x1024 : Shape := ⟨3, ![4, 4096, 1024]⟩
abbrev S4x4098x1024 : Shape := ⟨3, ![4, 4098, 1024]⟩
abbrev S1x1024 : Shape := ⟨2, ![1, 1024]⟩
abbrev S1x1x1024 : Shape := ⟨3, ![1, 1, 1024]⟩
abbrev S4x4096 : Shape := ⟨2, ![4, 4096]⟩
abbrev S4x4096x1 : Shape := ⟨3, ![4, 4096, 1]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S3x1024, .f32⟩
  | .hbm, ⟨4, _⟩ => ⟨S1024, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x6144, .f32⟩
  | .hbm, ⟨22, _⟩ => ⟨S16384x3072, .f32⟩
  | .hbm, ⟨23, _⟩ => ⟨S4x4096x3072, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .i32⟩
  | .hbm, ⟨29, _⟩ => ⟨S_, .f32⟩
  | .hbm, ⟨30, _⟩ => ⟨S4x4098x1024, .f32⟩
  | .hbm, ⟨31, _⟩ => ⟨S1x1024, .f32⟩
  | .hbm, ⟨32, _⟩ => ⟨S1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S1x1024, .f32⟩
  | .hbm, ⟨38, _⟩ => ⟨S1024, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S1x1024, .f32⟩
  | .hbm, ⟨45, _⟩ => ⟨S1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S16384x3072, .f32⟩
  | .hbm, ⟨69, _⟩ => ⟨S16384x3072, .bf16⟩
  | .hbm, ⟨70, _⟩ => ⟨S16384x1024, .f32⟩
  | .hbm, ⟨71, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S131072x128 : Shape := ⟨2, ![131072, 128]⟩
abbrev S8x16384 : Shape := ⟨2, ![8, 16384]⟩
abbrev S16384x128 : Shape := ⟨2, ![16384, 128]⟩
abbrev S32x128 : Shape := ⟨2, ![32, 128]⟩
abbrev S512x1024 : Shape := ⟨2, ![512, 1024]⟩
abbrev S512x2048 : Shape := ⟨2, ![512, 2048]⟩
abbrev S4096x128 : Shape := ⟨2, ![4096, 128]⟩
abbrev S8x512 : Shape := ⟨2, ![8, 512]⟩
abbrev S512x128 : Shape := ⟨2, ![512, 128]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S8x256 : Shape := ⟨2, ![8, 256]⟩
abbrev S1x256 : Shape := ⟨2, ![1, 256]⟩
abbrev S32x256 : Shape := ⟨2, ![32, 256]⟩
abbrev S256x256 : Shape := ⟨2, ![256, 256]⟩
abbrev S32x1 : Shape := ⟨2, ![32, 1]⟩
abbrev S120x256 : Shape := ⟨2, ![120, 256]⟩

abbrev nBuf : Space → Nat
  | .hbm => 39
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .i32⟩
  | .hbm, ⟨15, _⟩ => ⟨S1, .i32⟩
  | .hbm, ⟨16, _⟩ => ⟨S2048x128, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S2048x2048, .bf16⟩
  | .hbm, ⟨32, _⟩ => ⟨S1x2048, .f32⟩
  | .hbm, ⟨33, _⟩ => ⟨S2048x128, .bf16⟩
  | .hbm, ⟨34, _⟩ => ⟨S16384x2048, .f32⟩
  | .hbm, ⟨35, _⟩ => ⟨S131072x128, .i32⟩
  | .hbm, ⟨36, _⟩ => ⟨S8x16384, .i32⟩
  | .hbm, ⟨37, _⟩ => ⟨S16384x128, .f32⟩
  | .hbm, ⟨38, _⟩ => ⟨S32x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S4096x128, .i32⟩
  | .local _ .vmem, ⟨13, _⟩ => ⟨S4096x128, .i32⟩
  | .local _ .vmem, ⟨14, _⟩ => ⟨S8x512, .i32⟩
  | .local _ .vmem, ⟨15, _⟩ => ⟨S8x512, .i32⟩
  | .local _ .vmem, ⟨16, _⟩ => ⟨S512x128, .f32⟩
  | .local _ .vmem, ⟨17, _⟩ => ⟨S512x128, .f32⟩
  | .local _ .vmem, ⟨18, _⟩ => ⟨S32x128, .f32⟩
  | .local _ .vmem, ⟨19, _⟩ => ⟨S32x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel3Ideal.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S131072x2x128 : Shape := ⟨3, ![131072, 2, 128]⟩
abbrev S8x16384 : Shape := ⟨2, ![8, 16384]⟩
abbrev S16384x128 : Shape := ⟨2, ![16384, 128]⟩
abbrev S32x128 : Shape := ⟨2, ![32, 128]⟩
abbrev S131072x1x128 : Shape := ⟨3, ![131072, 1, 128]⟩
abbrev S131072x128 : Shape := ⟨2, ![131072, 128]⟩
abbrev S512x1024 : Shape := ⟨2, ![512, 1024]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S8x512 : Shape := ⟨2, ![8, 512]⟩
abbrev S512x128 : Shape := ⟨2, ![512, 128]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S2048x2x128 : Shape := ⟨3, ![2048, 2, 128]⟩
abbrev S256x2x128 : Shape := ⟨3, ![256, 2, 128]⟩
abbrev S256x1x128 : Shape := ⟨3, ![256, 1, 128]⟩
abbrev S128x256 : Shape := ⟨2, ![128, 256]⟩
abbrev S8x256 : Shape := ⟨2, ![8, 256]⟩
abbrev S1x256 : Shape := ⟨2, ![1, 256]⟩
abbrev S32x256 : Shape := ⟨2, ![32, 256]⟩
abbrev S256x256 : Shape := ⟨2, ![256, 256]⟩
abbrev S32x1 : Shape := ⟨2, ![32, 1]⟩
abbrev S120x256 : Shape := ⟨2, ![120, 256]⟩

abbrev nBuf : Space → Nat
  | .hbm => 39
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S2048x128, .f32⟩
  | .hbm, ⟨14, _⟩ => ⟨S_, .i32⟩
  | .hbm, ⟨15, _⟩ => ⟨S1, .i32⟩
  | .hbm, ⟨16, _⟩ => ⟨S2048x128, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S2048x2048, .bf16⟩
  | .hbm, ⟨32, _⟩ => ⟨S1x2048, .f32⟩
  | .hbm, ⟨33, _⟩ => ⟨S2048x128, .bf16⟩
  | .hbm, ⟨34, _⟩ => ⟨S16384x2048, .f32⟩
  | .hbm, ⟨35, _⟩ => ⟨S131072x2x128, .bf16⟩
  | .hbm, ⟨36, _⟩ => ⟨S8x16384, .i32⟩
  | .hbm, ⟨37, _⟩ => ⟨S16384x128, .f32⟩
  | .hbm, ⟨38, _⟩ => ⟨S32x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S4096x2x128, .bf16⟩
  | .local _ .vmem, ⟨13, _⟩ => ⟨S4096x2x128, .bf16⟩
  | .local _ .vmem, ⟨14, _⟩ => ⟨S8x512, .i32⟩
  | .local _ .vmem, ⟨15, _⟩ => ⟨S8x512, .i32⟩
  | .local _ .vmem, ⟨16, _⟩ => ⟨S512x128, .f32⟩
  | .local _ .vmem, ⟨17, _⟩ => ⟨S512x128, .f32⟩
  | .local _ .vmem, ⟨18, _⟩ => ⟨S32x128, .f32⟩
  | .local _ .vmem, ⟨19, _⟩ => ⟨S32x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel4.lean ====
abbrev S16x513 : Shape := ⟨2, ![16, 513]⟩
abbrev S16x1 : Shape := ⟨2, ![16, 1]⟩
abbrev S16x321 : Shape := ⟨2, ![16, 321]⟩
abbrev S16x256 : Shape := ⟨2, ![16, 256]⟩
abbrev S16x63 : Shape := ⟨2, ![16, 63]⟩
abbrev S16x640 : Shape := ⟨2, ![16, 640]⟩
abbrev S16x64 : Shape := ⟨2, ![16, 64]⟩
abbrev S16x576 : Shape := ⟨2, ![16, 576]⟩
abbrev S16 : Shape := ⟨1, ![16]⟩
abbrev S_ : Shape := ⟨0, ![]⟩
abbrev S4x576x256 : Shape := ⟨3, ![4, 576, 256]⟩
abbrev S576x128 : Shape := ⟨2, ![576, 128]⟩
abbrev S576x640 : Shape := ⟨2, ![576, 640]⟩
abbrev S1x640 : Shape := ⟨2, ![1, 640]⟩
abbrev S1x576x128 : Shape := ⟨3, ![1, 576, 128]⟩

abbrev nBuf : Space → Nat
  | .hbm => 39
  | .vmem => 2
  | .smem => 0
  | _ => 0

abbrev bufTy : (tb : Table) → Fin (tcTables nBuf tb) → BufTy
  | .hbm, ⟨0, _⟩ => ⟨S16x513, .f32⟩
  | .hbm, ⟨1, _⟩ => ⟨S16x1, .f32⟩
  | .hbm, ⟨2, _⟩ => ⟨S16x321, .f32⟩
  | .hbm, ⟨3, _⟩ => ⟨S16x256, .f32⟩
  | .hbm, ⟨4, _⟩ => ⟨S16x63, .f32⟩
  | .hbm, ⟨5, _⟩ => ⟨S16x640, .f32⟩
  | .hbm, ⟨6, _⟩ => ⟨S16x64, .f32⟩
  | .hbm, ⟨7, _⟩ => ⟨S16x576, .f32⟩
  | .hbm, ⟨8, _⟩ => ⟨S16x640, .f32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S_, .i1⟩
  | .hbm, ⟨26, _⟩ => ⟨S16, .i1⟩
  | .hbm, ⟨27, _⟩ => ⟨S16, .i1⟩
  | .hbm, ⟨28, _⟩ => ⟨S16, .i1⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S16, .i32⟩
  | .hbm, ⟨34, _⟩ => ⟨S16, .i1⟩
  | .hbm, ⟨35, _⟩ => ⟨S16x1, .i1⟩
  | .hbm, ⟨36, _⟩ => ⟨S16x640, .i1⟩
  | .hbm, ⟨37, _⟩ => ⟨S16x640, .f32⟩
  | .hbm, ⟨38, _⟩ => ⟨S4x576x256, .f32⟩
  | .local _ .vmem, ⟨0, _⟩ => ⟨S16x640, .f32⟩
  | .local _ .vmem, ⟨1, _⟩ => ⟨S4x576x256, .f32⟩
  | _, _ => ⟨S16x513, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_v0 : Ref sig .tc := ⟨.hbm, 36, rfl⟩
abbrev main_v13 : Ref sig .tc := ⟨.hbm, 37, rfl⟩
abbrev main_v14 : Ref sig .tc := ⟨.hbm, 38, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x576x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference4Ideal.lean ====
abbrev S16x513 : Shape := ⟨2, ![16, 513]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S16x64x576 : Shape := ⟨3, ![16, 64, 576]⟩
abbrev S4x4x64x576 : Shape := ⟨4, ![4, 4, 64, 576]⟩
abbrev S4x576x4x64 : Shape := ⟨4, ![4, 576, 4, 64]⟩
abbrev S4x576x256 : Shape := ⟨3, ![4, 576, 256]⟩

abbrev nBuf : Space → Nat
  | .hbm => 34
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S64, .i32⟩
  | .hbm, ⟨2, _⟩ => ⟨S64x1, .i32⟩
  | .hbm, ⟨3, _⟩ => ⟨S576, .i32⟩
  | .hbm, ⟨4, _⟩ => ⟨S1x576, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i1⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S16x64x576, .f32⟩
  | .hbm, ⟨31, _⟩ => ⟨S4x4x64x576, .f32⟩
  | .hbm, ⟨32, _⟩ => ⟨S4x576x4x64, .f32⟩
  | .hbm, ⟨33, _⟩ => ⟨S4x576x256, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.AttnRef.lean ====
module

public import proofs.«01_k».proof.Proof.Gen.ReferenceIdeal
public import proofs.«01_k».proof.Proof.Gen.ReferenceIdeal.Run
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.Attn

open Cert.ReferenceIdeal Cert.ReferenceIdeal.Facts₀

/-! # The reference's attention, by stages and at an index -/

/-- A slab of 1024 columns by sequence, chunk, row, head and lane. -/
def rSlab (A : FVec Ideal S16384x3072 .bf16) (off : ℕ) (h : S4x4096x3072.Slices ![0, 0, off] S4x4096x1024) : FVec Ideal S4x64x64x16x64 .f32 :=
  shapeCast _ (extractStridedSlice S4x4096x1024 ![0, 0, off] (shapeCast S4x4096x3072 (extf .f32 A bitsLt_bf16_f32) shapeCasts_S16384x3072_S4x4096x3072) h) shapeCasts_S4x4096x1024_S4x64x64x16x64

/-- A slab with eight chunks of zeros before each sequence. -/
def rPad (x : FVec Ideal S4x64x64x16x64 .f32) : FVec Ideal S4x72x64x16x64 .f32 :=
  pad S4x72x64x16x64 ![0, 8, 0, 0, 0] ![0, 0, 0, 0, 0] ![0, 0, 0, 0, 0] x (sitofp .f32 (constantI S_ 32 0#32)) pads_S4x64x64x16x64_S4x72x64x16x64_000_800_000_000_000 h_S_

/-- Each chunk's band: its own chunk and the eight before it. -/
def rBand (y : FVec Ideal S4x72x64x16x64 .f32) : FVec Ideal S4x64x576x16x64 .f32 :=
  concatenate S4x64x576x16x64 2 [⟨S4x64x64x16x64, extractStridedSlice S4x64x64x16x64 ![0, 0, 0, 0, 0] y slices_S4x72x64x16x64_S4x64x64x16x64_0_0_0_0_0⟩,
    ⟨S4x64x64x16x64, extractStridedSlice S4x64x64x16x64 ![0, 1, 0, 0, 0] y slices_S4x72x64x16x64_S4x64x64x16x64_0_1_0_0_0⟩,
    ⟨S4x64x64x16x64, extractStridedSlice S4x64x64x16x64 ![0, 2, 0, 0, 0] y slices_S4x72x64x16x64_S4x64x64x16x64_0_2_0_0_0⟩,
    ⟨S4x64x64x16x64, extractStridedSlice S4x64x64x16x64 ![0, 3, 0, 0, 0] y slices_S4x72x64x16x64_S4x64x64x16x64_0_3_0_0_0⟩,
    ⟨S4x64x64x16x64, extractStridedSlice S4x64x64x16x64 ![0, 4, 0, 0, 0] y slices_S4x72x64x16x64_S4x64x64x16x64_0_4_0_0_0⟩,
    ⟨S4x64x64x16x64, extractStridedSlice S4x64x64x16x64 ![0, 5, 0, 0, 0] y slices_S4x72x64x16x64_S4x64x64x16x64_0_5_0_0_0⟩,
    ⟨S4x64x64x16x64, extractStridedSlice S4x64x64x16x64 ![0, 6, 0, 0, 0] y slices_S4x72x64x16x64_S4x64x64x16x64_0_6_0_0_0⟩,
    ⟨S4x64x64x16x64, extractStridedSlice S4x64x64x16x64 ![0, 7, 0, 0, 0] y slices_S4x72x64x16x64_S4x64x64x16x64_0_7_0_0_0⟩,
    ⟨S4x64x64x16x64, extractStridedSlice S4x64x64x16x64 ![0, 8, 0, 0, 0] y slices_S4x72x64x16x64_S4x64x64x16x64_0_8_0_0_0⟩]
    concatenates_S4x64x64x16x64_S4x64x64x16x64_S4x64x64x16x64_S4x64x64x16x64_S4x64x64x16x64_S4x64x64x16x64_S4x64x64x16x64_S4x64x64x16x64_S4x64x64x16x64_S4x64x576x16x64_d2

/-- The chunk of the band a key is in. -/
def rChunk : IVec S576 32 :=
  let x := iotaInDim S576 32 0
  let d := id (constantI S_ 32 64#32)
  let q := Host.divsi x (broadcastInDim S576 ![] bcast_S_S576 d)
  select (andi (cmpi .ne (signi x) (broadcastInDim S576 ![] bcast_S_S576 (signi d)))
      (cmpi .ne (Host.remsi x (broadcastInDim S576 ![] bcast_S_S576 d)) (broadcastInDim S576 ![] bcast_S_S576 (constantI S_ 32 0#32))))
    (subi q (broadcastInDim S576 ![] bcast_S_S576 (constantI S_ 32 1#32))) q

/-- Whether a chunk's key is of the sequence. -/
def rValid (k : IVec S576 32) : IVec S64x576 1 :=
  cmpi .sge (addi (broadcastInDim S64x576 ![0, 1] bcast_S64x1_S64x576_0_1 (subi (broadcastInDim S64x1 ![0] bcast_S64_S64x1_0 (iotaInDim S64 32 0)) (broadcastInDim S64x1 ![] bcast_S_S64x1 (constantI S_ 32 8#32))))
    (broadcastInDim S64x576 ![0, 1] bcast_S1x576_S64x576_0_1 (broadcastInDim S1x576 ![1] bcast_S576_S1x576_1 k))) (broadcastInDim S64x576 ![] bcast_S_S64x576 (constantI S_ 32 0#32))

/-- The bias by head, query of the chunk and key of the band. -/
def rBias (B : FVec Ideal S4x576x256 .f32) : FVec Ideal S16x64x576 .f32 :=
  shapeCast _ (transpose S4x4x64x576 [0, 2, 3, 1] (shapeCast _ B shapeCasts_S4x576x256_S4x576x4x64) transposes_S4x576x4x64_S4x4x64x576_0_2_3_1) shapeCasts_S4x4x64x576_S16x64x576

/-- The scores. -/
def rScore (q : FVec Ideal S4x64x64x16x64 .f32) (k : FVec Ideal S4x64x576x16x64 .f32) (b : FVec Ideal S16x64x576 .f32) (v : IVec S64x576 1) : FVec Ideal S4x64x16x64x576 .f32 :=
  select (broadcastInDim S4x64x16x64x576 ![0, 1, 2, 3, 4] bcast_S1x64x1x1x576_S4x64x16x64x576_0_1_2_3_4 (broadcastInDim S1x64x1x1x576 ![1, 4] bcast_S64x576_S1x64x1x1x576_1_4 v))
    (addf (mulf (Host.dotGeneral dot_S4x64x64x16x64_S4x64x576x16x64_S4x64x16x64x576_4_4_2_2_013_013 none q k)
        (broadcastInDim S4x64x16x64x576 ![] bcast_S_S4x64x16x64x576 (constant S_ .f32 0x3E000000#32)))
      (broadcastInDim S4x64x16x64x576 ![0, 1, 2, 3, 4] bcast_S1x1x16x64x576_S4x64x16x64x576_0_1_2_3_4 (broadcastInDim S1x1x16x64x576 ![2, 3, 4] bcast_S16x64x576_S1x1x16x64x576_2_3_4 b)))
    (broadcastInDim S4x64x16x64x576 ![] bcast_S_S4x64x16x64x576 (id (constant S_ .f32 0xFF800000#32)))

/-- The largest score of each query. -/
def rMax (s : FVec Ideal S4x64x16x64x576 .f32) : FVec Ideal S4x64x16x64 .f32 :=
  maximumf (broadcastInDim S4x64x16x64 ![] bcast_S_S4x64x16x64 (constant S_ .f32 0xFF800000#32)) (Host.reduce FloatOps.maximumf s (constant S_ .f32 0xFF800000#32) reducesTo_S4x64x16x64x576_S4x64x16x64_d4 h_S_)

/-- The scores' exponentials. -/
def rExp (s : FVec Ideal S4x64x16x64x576 .f32) : FVec Ideal S4x64x16x64x576 .f32 :=
  Host.exp (subf s (broadcastInDim S4x64x16x64x576 ![0, 1, 2, 3, 4] bcast_S4x64x16x64x1_S4x64x16x64x576_0_1_2_3_4 (broadcastInDim S4x64x16x64x1 ![0, 1, 2, 3] bcast_S4x64x16x64_S4x64x16x64x1_0_1_2_3 (rMax s))))

/-- The attention's result, back at the rows of the layer. -/
def rOut (v : FVec Ideal S4x64x576x16x64 .f32) (p : FVec Ideal S4x64x16x64x576 .f32) : FVec Ideal S16384x1024 .f32 :=
  shapeCast _ (transpose S4x64x64x16x64 [0, 1, 4, 2, 3] (Host.dotGeneral dot_S4x64x576x16x64_S4x64x16x64x576_S4x64x16x64x64_2_4_4_3_013_012 none v
    (Host.divf p (broadcastInDim S4x64x16x64x576 ![0, 1, 2, 3, 4] bcast_S4x64x16x64x1_S4x64x16x64x576_0_1_2_3_4 (broadcastInDim S4x64x16x64x1 ![0, 1, 2, 3] bcast_S4x64x16x64_S4x64x16x64x1_0_1_2_3
      (Host.reduceAdd p (constant S_ .f32 0x00000000#32) reducesTo_S4x64x16x64x576_S4x64x16x64_d4 h_S_))))) transposes_S4x64x16x64x64_S4x64x64x16x64_0_1_4_2_3) shapeCasts_S4x64x64x16x64_S16384x1024

/-- Its normalisation. -/
def rNorm (y : FVec Ideal S16384x1024 .f32) (g : FVec Ideal S1024 .f32) : FVec Ideal S16384x1024 .bf16 :=
  truncf .bf16 (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) bitsLt_bf16_f32

/-- The reference's scores from its arguments. -/
def rS (A : FVec Ideal S16384x3072 .bf16) (B : FVec Ideal S4x576x256 .f32) : FVec Ideal S4x64x16x64x576 .f32 :=
  rScore (rSlab A 0 slices_S4x4096x3072_S4x4096x1024_0_0_0) (rBand (rPad (rSlab A 1024 slices_S4x4096x3072_S4x4096x1024_0_0_1024))) (rBias B) (rValid rChunk)

/-- The reference's result from its arguments. -/
def rRes (A : FVec Ideal S16384x3072 .bf16) (B : FVec Ideal S4x576x256 .f32) (g : FVec Ideal S1024 .f32) : FVec Ideal S16384x1024 .bf16 :=
  rNorm (rOut (rBand (rPad (rSlab A 2048 slices_S4x4096x3072_S4x4096x1024_0_0_2048))) (rExp (rS A B))) g

/-- The reference runs to the result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = rRes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.Value.run (F := Ideal) m ρ)

end Cert.Attn

end
-- ==== Proof.AttnRefAt.lean ====
module

public import proofs.«01_k».proof.Proof.AttnRef
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.Attn

open Cert.ReferenceIdeal Cert.ReferenceIdeal.Facts₀

/-! # The reference's stages at an index -/

theorem zero_word : (FloatOps.sitofp FTy.f32 (0#32) : Ideal FTy.f32) = (0 : EReal) := by
  show (((0#32).toInt : ℝ) : EReal) = 0
  simp

theorem bot_word : Ideal.ofBits FTy.f32 4286578688#32 = (⊥ : EReal) := by
  rfl

theorem rSlab_at (A : FVec Ideal S16384x3072 .bf16) (off : ℕ) (h) (b : Fin 4) (n i : Fin 64) (H : Fin 16) (d : Fin 64) (hoff : off + 1024 ≤ 3072) :
    rSlab A off h (ix5 b n i H d) = A (ix2 ⟨b.val * 4096 + (n.val * 64 + i.val), by omega⟩ ⟨off + (H.val * 64 + d.val), by omega⟩) := by
  pointwise [rSlab]

theorem rPad_at (x : FVec Ideal S4x64x64x16x64 .f32) (b : Fin 4) (n : Fin 72) (i : Fin 64) (H : Fin 16) (d : Fin 64) :
    rPad x (ix5 b n i H d) = if h : 8 ≤ n.val then x (ix5 b ⟨n.val - 8, by omega⟩ i H d) else 0 := by
  rw [← zero_word]
  pointwise [rPad]
  by_cases h : 8 ≤ n.val
  · rw [dif_pos h, dif_pos ⟨h, by omega⟩]
  · rw [dif_neg h, dif_neg fun h' => h h'.1]

theorem rBand_at (y : FVec Ideal S4x72x64x16x64 .f32) (b : Fin 4) (n : Fin 64) (e : Fin 576) (H : Fin 16) (d : Fin 64) :
    rBand y (ix5 b n e H d) = y (ix5 b ⟨n.val + e.val / 64, by omega⟩ ⟨e.val % 64, by omega⟩ H d) := by
  have he := e.isLt
  have key : ∀ (k r : ℕ) (hk : k < 72) (hr : r < 64), k = n.val + e.val / 64 → r = e.val % 64 →
      y (ix5 b ⟨k, hk⟩ ⟨r, hr⟩ H d) = y (ix5 b ⟨n.val + e.val / 64, by omega⟩ ⟨e.val % 64, by omega⟩ H d) := by
    intro k r hk hr h1 h2
    subst h1 h2
    rfl
  pointwise [rBand]
  repeat' split
  all_goals exact key _ _ _ _ (by omega) (by omega)

theorem rBias_at (B : FVec Ideal S4x576x256 .f32) (H : Fin 16) (i : Fin 64) (e : Fin 576) :
    rBias B (ix3 H i e) = B (ix3 ⟨H.val / 4, by omega⟩ e ⟨H.val % 4 * 64 + i.val, by omega⟩) := by
  pointwise [rBias]

theorem rScore_at (q : FVec Ideal S4x64x64x16x64 .f32) (k : FVec Ideal S4x64x576x16x64 .f32) (bi : FVec Ideal S16x64x576 .f32) (v : IVec S64x576 1)
    (b : Fin 4) (n : Fin 64) (H : Fin 16) (i : Fin 64) (e : Fin 576) :
    rScore q k bi v (ix5 b n H i e) = Scalar.select (v (ix2 n e)) ((∑ d, q (ix5 b n i H d) * k (ix5 b n e H d)) * Ideal.ofBits .f32 1040187392#32 + bi (ix3 H i e)) ⊥ := by
  pointwise [rScore]
  rfl

/-- A maximum over the last of five axes. -/
theorem redMax_at {n0 n1 n2 n3 n4 : ℕ} (s : FVec Ideal ⟨5, ![n0, n1, n2, n3, n4]⟩ .f32) (init : FVec Ideal S_ .f32)
    (h : (⟨5, ![n0, n1, n2, n3, n4]⟩ : Shape).ReducesTo [4] ⟨4, ![n0, n1, n2, n3]⟩) (hu : 0 < S_.numel)
    (b : Fin n0) (n : Fin n1) (H : Fin n2) (i : Fin n3) :
    Host.reduce FloatOps.maximumf s init h hu (ix4 b n H i) = Finset.univ.fold max (init (Shape.Idx.first hu)) fun e => s (ix5 b n H i e) := by
  pointwise

theorem maximumf_at {s : Shape} (x y : FVec Ideal s .f32) (j : s.Idx) (p q : EReal) (hx : x j = p) (hy : y j = q) :
    maximumf x y j = max p q := by
  subst hx hy
  rfl

theorem const_at (z : EReal) (h : Ideal.ofBits FTy.f32 0xFF800000#32 = z) (j : S_.Idx) : constant (F := Ideal) S_ .f32 0xFF800000#32 j = z := h

theorem bcast_at (z : EReal) (x : FVec Ideal S_ .f32) (h : ∀ j, x j = z) (j : S4x64x16x64.Idx) : broadcastInDim S4x64x16x64 ![] bcast_S_S4x64x16x64 x j = z := h _

theorem rMax_sup (s : FVec Ideal S4x64x16x64x576 .f32) (b : Fin 4) (n : Fin 64) (H : Fin 16) (i : Fin 64) :
    rMax s (ix4 b n H i) = Finset.univ.sup fun e => s (ix5 b n H i e) := by
  refine (maximumf_at _ _ _ ⊥ (Finset.univ.fold max ⊥ fun e => s (ix5 b n H i e)) (bcast_at ⊥ _ (const_at ⊥ bot_word) _) ?_).trans (max_eq_right bot_le)
  rw [redMax_at, const_at ⊥ bot_word]

theorem rExp_at (s : FVec Ideal S4x64x16x64x576 .f32) (b : Fin 4) (n : Fin 64) (H : Fin 16) (i : Fin 64) (e : Fin 576) :
    rExp s (ix5 b n H i e) = Ideal.exp (s (ix5 b n H i e) - rMax s (ix4 b n H i)) := by
  pointwise [rExp]

theorem rOut_at (v : FVec Ideal S4x64x576x16x64 .f32) (p : FVec Ideal S4x64x16x64x576 .f32) (R : Fin 16384) (l : Fin 1024) :
    rOut v p (ix2 R l) = ∑ e, v (ix5 ⟨R.val / 4096, by omega⟩ ⟨R.val / 64 % 64, by omega⟩ e ⟨l.val / 64, by omega⟩ ⟨l.val % 64, by omega⟩)
      * Ideal.div (p (ix5 ⟨R.val / 4096, by omega⟩ ⟨R.val / 64 % 64, by omega⟩ ⟨l.val / 64, by omega⟩ ⟨R.val % 64, by omega⟩ e))
        (∑ e', p (ix5 ⟨R.val / 4096, by omega⟩ ⟨R.val / 64 % 64, by omega⟩ ⟨l.val / 64, by omega⟩ ⟨R.val % 64, by omega⟩ e')) := by
  pointwise [rOut]

theorem rNorm_at (y : FVec Ideal S16384x1024 .f32) (g : FVec Ideal S1024 .f32) (R : Fin 16384) (l : Fin 1024) :
    rNorm y g (ix2 R l) = y (ix2 R l) * Ideal.rsqrt (Ideal.div (∑ x, y (ix2 R x) * y (ix2 R x)) (Ideal.ofBits FTy.f32 1149239296#32) + Ideal.ofBits FTy.f32 897988541#32) * g (ix1 l) := by
  pointwise [rNorm]

theorem rChunk_at : ∀ e : Fin 576, rChunk (ix1 e) = BitVec.ofNat 32 (e.val / 64) := by
  decide +kernel

theorem rValid_at (n : Fin 64) (e : Fin 576) : rValid rChunk (ix2 n e) = if 8 ≤ n.val + e.val / 64 then 1#1 else 0#1 := by
  have key : ∀ (n : Fin 64) (k : Fin 9), IntOp.cmpi CmpIPredicate.sge (IntOp.addi (IntOp.subi (BitVec.ofNat 32 n.val) 8#32) (BitVec.ofNat 32 k.val)) 0#32
      = if 8 ≤ n.val + k.val then 1#1 else 0#1 := by decide +kernel
  have h := key n ⟨e.val / 64, by omega⟩
  pointwise [rValid]
  rw [rChunk_at]
  exact h

end Cert.Attn

end
-- ==== Proof.AttnMath.lean ====
module

public import Idealize.ShloMosaic.Lib.Pipeline.ValueKit

@[expose] public section

set_option maxRecDepth 16384

noncomputable section

open Idealize.ShloMosaic Idealize.ShloMosaic.TcCoe
open scoped BigOperators

namespace Cert.Attn

/-! # The attention's mathematics: one closed form of a query's row -/

/-- A finite extended real. -/
def Fi (x : EReal) : Prop := ∃ r : ℝ, x = (r : EReal)

theorem Fi.mul {x y : EReal} (hx : Fi x) (hy : Fi y) : Fi (x * y) := by
  obtain ⟨a, rfl⟩ := hx
  obtain ⟨b, rfl⟩ := hy
  exact ⟨a * b, (EReal.coe_mul a b).symm⟩

theorem Fi.add {x y : EReal} (hx : Fi x) (hy : Fi y) : Fi (x + y) := by
  obtain ⟨a, rfl⟩ := hx
  obtain ⟨b, rfl⟩ := hy
  exact ⟨a + b, (EReal.coe_add a b).symm⟩

theorem fi_zero : Fi 0 := ⟨0, rfl⟩

theorem Fi.sum {ι : Type} (s : Finset ι) (f : ι → EReal) (h : ∀ i ∈ s, Fi (f i)) : Fi (∑ i ∈ s, f i) := by
  classical
  induction s using Finset.induction_on with
  | empty => exact fi_zero
  | insert a s ha ih =>
    rw [Finset.sum_insert ha]
    exact (h a (Finset.mem_insert_self a s)).add (ih fun i hi => h i (Finset.mem_insert_of_mem hi))

theorem fi_of_ne {x : EReal} (h1 : x ≠ ⊤) (h2 : x ≠ ⊥) : Fi x := ⟨x.toReal, (EReal.coe_toReal h1 h2).symm⟩

theorem coe_sum' {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- A factor that is not negative and not infinite leaves a sum. -/
theorem sum_mul' {ι : Type} (s : Finset ι) (f : ι → EReal) (c : EReal) (h0 : 0 ≤ c) (h1 : c ≠ ⊤) : ∑ i ∈ s, f i * c = (∑ i ∈ s, f i) * c := by
  classical
  induction s using Finset.induction_on with
  | empty => exact (zero_mul c).symm
  | insert a s ha ih => rw [Finset.sum_insert ha, Finset.sum_insert ha, ih, EReal.right_distrib_of_nonneg_of_ne_top h0 h1]

/-- The score's scale, 1/8. -/
def sc8 : EReal := Ideal.ofBits .f32 1040187392#32

theorem sc8_coe : sc8 = ((1 / 8 : ℝ) : EReal) := by
  unfold sc8
  simp [Ideal.ofBits, Ideal.ieee, -EReal.coe_mul]; norm_num

theorem sc8_bf : Ideal.ofBits .bf16 15872#16 = sc8 := by
  rw [sc8_coe]
  simp [Ideal.ofBits, Ideal.ieee, -EReal.coe_mul]; norm_num

theorem sc8_nonneg : 0 ≤ sc8 := by
  rw [sc8_coe]
  exact_mod_cast (by norm_num : (0 : ℝ) ≤ 1 / 8)

theorem sc8_ne_top : sc8 ≠ ⊤ := by
  rw [sc8_coe]
  exact EReal.coe_ne_top _

section Soft
variable {n : ℕ} (S W : Fin n → EReal)

/-- A score's exponential under the maximum. -/
def pexp (e : Fin n) : EReal := Ideal.exp (S e - Finset.univ.sup S)

variable (hS : ∀ e, S e = ⊥ ∨ Fi (S e)) (e0 : Fin n) (h0 : Fi (S e0))
include hS h0

theorem sup_fi : Fi (Finset.univ.sup S) := by
  obtain ⟨e1, -, h1⟩ := Finset.exists_mem_eq_sup Finset.univ ⟨e0, Finset.mem_univ e0⟩ S
  rcases hS e1 with h | h
  · exfalso
    have h2 : S e0 ≤ ⊥ := by
      rw [← h, ← h1]
      exact Finset.le_sup (Finset.mem_univ e0)
    obtain ⟨r, hr⟩ := h0
    rw [hr] at h2
    exact EReal.coe_ne_bot r (le_bot_iff.mp h2)
  · rw [h1]
    exact h

theorem pexp_real : ∃ p : Fin n → ℝ, (∀ e, pexp S e = (p e : EReal)) ∧ (∀ e, 0 ≤ p e) ∧ 0 < p e0 ∧ ∀ e, S e = ⊥ → p e = 0 := by
  obtain ⟨M, hM⟩ := sup_fi S hS e0 h0
  have key : ∀ e, ∃ r : ℝ, pexp S e = (r : EReal) ∧ 0 ≤ r ∧ (Fi (S e) → 0 < r) ∧ (S e = ⊥ → r = 0) := by
    intro e
    unfold pexp
    rw [hM]
    rcases hS e with h | ⟨s, h⟩
    · refine ⟨0, ?_, le_refl _, fun hf => ?_, fun _ => rfl⟩
      · rw [h, EReal.bot_sub]
        rfl
      · obtain ⟨r, hr⟩ := hf
        exact absurd (hr.symm.trans h) (EReal.coe_ne_bot r)
    · refine ⟨Real.exp (s - M), ?_, (Real.exp_pos _).le, fun _ => Real.exp_pos _, fun hb => ?_⟩
      · rw [h, ← EReal.coe_sub]
        rfl
      · exact absurd (h.symm.trans hb) (EReal.coe_ne_bot s)
  choose p hp using key
  exact ⟨p, fun e => (hp e).1, fun e => (hp e).2.1, (hp e0).2.2.1 h0, fun e => (hp e).2.2.2⟩

theorem pexp_masked (e : Fin n) (h : S e = ⊥) : pexp S e = 0 := by
  obtain ⟨p, hp, -, -, hz⟩ := pexp_real S hS e0 h0
  rw [hp, hz e h]
  rfl

/-- Weights divided one by one gather what the sum divided at the end does. -/
theorem soft : ∑ e, W e * Ideal.div (pexp S e) (∑ e', pexp S e') = (∑ e, pexp S e * W e) * Ideal.div 1 (∑ e', pexp S e') := by
  obtain ⟨p, hp, hn, hpos, -⟩ := pexp_real S hS e0 h0
  have hL : ∑ e', pexp S e' = ((∑ e, p e : ℝ) : EReal) := by
    rw [← coe_sum']
    exact Finset.sum_congr rfl fun e _ => hp e
  have hL0 : 0 < ∑ e, p e := lt_of_lt_of_le hpos (Finset.single_le_sum (fun e _ => hn e) (Finset.mem_univ e0))
  rw [hL, Ideal.div_coe hL0.ne', one_mul, ← sum_mul' _ _ _ (by exact_mod_cast (one_div_pos.mpr hL0).le) (EReal.coe_ne_top _)]
  refine Finset.sum_congr rfl fun e _ => ?_
  rw [Ideal.div_coe hL0.ne', ← mul_assoc, mul_comm (W e)]

end Soft

/-- An entry of the projected array. -/
def aN (A : (⟨2, ![16384, 3072]⟩ : Shape).Idx → EReal) (R l : ℕ) : EReal :=
  if h : R < 16384 ∧ l < 3072 then A (ix2 ⟨R, h.1⟩ ⟨l, h.2⟩) else 0

/-- An entry of the table of biases. -/
def bN (B : (⟨3, ![4, 576, 256]⟩ : Shape).Idx → EReal) (h e c : ℕ) : EReal :=
  if w : h < 4 ∧ e < 576 ∧ c < 256 then B (ix3 ⟨h, w.1⟩ ⟨e, w.2.1⟩ ⟨c, w.2.2⟩) else 0

variable (A : (⟨2, ![16384, 3072]⟩ : Shape).Idx → EReal) (B : (⟨3, ![4, 576, 256]⟩ : Shape).Idx → EReal)

theorem aN_eq (R : Fin 16384) (l : Fin 3072) : A (ix2 R l) = aN A R.val l.val := by
  unfold aN
  rw [dif_pos ⟨R.isLt, l.isLt⟩]

theorem bN_eq (h : Fin 4) (e : Fin 576) (c : Fin 256) : B (ix3 h e c) = bN B h.val e.val c.val := by
  unfold bN
  rw [dif_pos ⟨h.isLt, e.isLt, c.isLt⟩]

/-- The score of the layer's row `R` at head `H` with key `e` of its band. -/
def Sc (R H : ℕ) (e : Fin 576) : EReal :=
  if 512 ≤ R % 4096 / 64 * 64 + e.val then
    (∑ d : Fin 64, aN A R (64 * H + d.val) * aN A (R / 64 * 64 + e.val - 512) (1024 + (64 * H + d.val))) * sc8
      + bN B (H / 4) e.val (64 * (H % 4) + R % 64)
  else ⊥

/-- The attention's result at row `R` and lane `l`, before its norm. -/
def Yv (R l : ℕ) : EReal :=
  (∑ e, pexp (Sc A B R (l / 64)) e * aN A (R / 64 * 64 + e.val - 512) (2048 + l)) * Ideal.div 1 (∑ e, pexp (Sc A B R (l / 64)) e)

/-- The queries, the keys and the biases are finite. -/
def Fin3 : Prop := (∀ R l, l < 2048 → Fi (aN A R l)) ∧ ∀ h e c, Fi (bN B h e c)

variable {A B}

theorem Sc_fi (hF : Fin3 A B) (R H : ℕ) (hH : H < 16) (e : Fin 576) : Sc A B R H e = ⊥ ∨ Fi (Sc A B R H e) := by
  unfold Sc
  split
  · refine .inr (((Fi.sum _ _ fun d _ => (hF.1 _ _ (by omega)).mul (hF.1 _ _ (by omega))).mul ⟨_, sc8_coe⟩).add (hF.2 _ _ _))
  · exact .inl rfl

theorem Sc_fi0 (hF : Fin3 A B) (R H : ℕ) (hH : H < 16) : Fi (Sc A B R H 575) := by
  unfold Sc
  rw [if_pos (by show 512 ≤ R % 4096 / 64 * 64 + 575; omega)]
  exact ((Fi.sum _ _ fun d _ => (hF.1 _ _ (by omega)).mul (hF.1 _ _ (by omega))).mul ⟨_, sc8_coe⟩).add (hF.2 _ _ _)

/-- A gathered value from weights divided one by one, over values that are the layer's where the key is of the sequence. -/
theorem Yv_ref (hF : Fin3 A B) (R l : ℕ) (hl : l < 1024) (W : Fin 576 → EReal)
    (hW : ∀ e : Fin 576, 512 ≤ R % 4096 / 64 * 64 + e.val → W e = aN A (R / 64 * 64 + e.val - 512) (2048 + l)) :
    ∑ e, W e * Ideal.div (pexp (Sc A B R (l / 64)) e) (∑ e', pexp (Sc A B R (l / 64)) e') = Yv A B R l := by
  have h1 := Sc_fi hF R (l / 64) (by omega)
  have h2 := Sc_fi0 hF R (l / 64) (by omega)
  rw [soft _ W h1 575 h2]
  unfold Yv
  congr 1
  refine Finset.sum_congr rfl fun e _ => ?_
  by_cases h : 512 ≤ R % 4096 / 64 * 64 + e.val
  · rw [hW e h]
  · rw [pexp_masked _ h1 575 h2 e (if_neg h), zero_mul, zero_mul]

/-- The same from weights divided at the end. -/
theorem Yv_ker (hF : Fin3 A B) (R l : ℕ) (hl : l < 1024) (W : Fin 576 → EReal)
    (hW : ∀ e : Fin 576, 512 ≤ R % 4096 / 64 * 64 + e.val → W e = aN A (R / 64 * 64 + e.val - 512) (2048 + l)) :
    (∑ e, pexp (Sc A B R (l / 64)) e * W e) * Ideal.div 1 (∑ e, pexp (Sc A B R (l / 64)) e) = Yv A B R l := by
  have h1 := Sc_fi hF R (l / 64) (by omega)
  have h2 := Sc_fi0 hF R (l / 64) (by omega)
  unfold Yv
  congr 1
  refine Finset.sum_congr rfl fun e _ => ?_
  by_cases h : 512 ≤ R % 4096 / 64 * 64 + e.val
  · rw [hW e h]
  · rw [pexp_masked _ h1 575 h2 e (if_neg h), zero_mul, zero_mul]

/-- A sum over the lanes of four heads in which one head's lanes count is the sum over that head's. -/
theorem sum_head (h : ℕ) (hh : h < 4) (f : Fin 256 → EReal) (g : Fin 256 → EReal) :
    ∑ l : Fin 256, f l * (if l.val / 64 = h then g l else 0) = ∑ d : Fin 64, f ⟨64 * h + d.val, by omega⟩ * g ⟨64 * h + d.val, by omega⟩ := by
  symm
  refine Finset.sum_of_injOn (fun d : Fin 64 => (⟨64 * h + d.val, by omega⟩ : Fin 256)) ?_ (fun _ _ => Finset.mem_coe.mpr (Finset.mem_univ _)) ?_ ?_
  · intro x _ y _ e
    have e' : 64 * h + x.val = 64 * h + y.val := congrArg Fin.val e
    exact Fin.ext (by omega)
  · intro l _ hl
    rw [if_neg, mul_zero]
    intro hq
    exact hl ⟨⟨l.val - 64 * h, by omega⟩, Finset.mem_coe.mpr (Finset.mem_univ _), Fin.ext (by show 64 * h + (l.val - 64 * h) = l.val; omega)⟩
  · intro d _
    rw [if_pos (by show (64 * h + d.val) / 64 = h; omega)]

/-- A sum over the rows of a group's window in which one band counts is the sum over the band. -/
theorem sum_band (o : ℕ) (ho : o ≤ 192) (f : Fin 576 → EReal) (g : Fin 768 → EReal) :
    ∑ r : Fin 768, (if h : o ≤ r.val ∧ r.val - o < 576 then f ⟨r.val - o, h.2⟩ else 0) * g r = ∑ e : Fin 576, f e * g ⟨o + e.val, by omega⟩ := by
  symm
  refine Finset.sum_of_injOn (fun e : Fin 576 => (⟨o + e.val, by omega⟩ : Fin 768)) ?_ (fun _ _ => Finset.mem_coe.mpr (Finset.mem_univ _)) ?_ ?_
  · intro x _ y _ e
    have e' : o + x.val = o + y.val := congrArg Fin.val e
    exact Fin.ext (by omega)
  · intro r _ hr
    rw [dif_neg, zero_mul]
    intro hq
    exact hr ⟨⟨r.val - o, hq.2⟩, Finset.mem_coe.mpr (Finset.mem_univ _), Fin.ext (by show o + (r.val - o) = r.val; omega)⟩
  · intro e _
    have e2 : (⟨o + e.val - o, by omega⟩ : Fin 576) = e := Fin.ext (by show o + e.val - o = e.val; omega)
    rw [dif_pos ⟨by show o ≤ o + e.val; omega, by show o + e.val - o < 576; omega⟩]
    exact congrArg (fun z => f z * _) e2.symm

/-- The weights of a score and its scale, gathered at one side. -/
theorem score_sum (f g : Fin 64 → EReal) : ∑ d, g d * (f d * sc8) = (∑ d, f d * g d) * sc8 := by
  rw [← sum_mul' _ _ _ sc8_nonneg sc8_ne_top]
  refine Finset.sum_congr rfl fun d _ => ?_
  rw [← mul_assoc, mul_comm (g d)]

end Cert.Attn

end
-- ==== Proof.AttnProg.lean ====
module

public import proofs.«01_k».proof.Proof.Gen.KernelIdeal
public import Idealize.ShloMosaic.Lib.VecWindow

@[expose] public section

set_option maxRecDepth 16384

noncomputable section

namespace Cert.Attn

open Idealize.ShloMosaic Idealize.ShloMosaic.TcCoe Idealize.SL.Sem
open Cert.KernelIdeal Cert.KernelIdeal.Shapes1.Facts₀

/-! # The attention's body as a program over named buffers

A tile of the attention is a long straight line of loads and stores on eleven buffers. Here that line is written once, as a
list of the steps it is made of; each step's offsets are computed from the block it is at. -/

/-- The buffers a tile works on: the queries, the keys and the values before and in the tile's own part of the sequence, the
    bias, the norm's weights, the output, and the scores, the exponentials and the gathered values it keeps. -/
inductive B where
  | q | kp | kc | vp | vc | bi | g | o | st | p | a
  deriving DecidableEq

instance : Fintype B := ⟨{.q, .kp, .kc, .vp, .vc, .bi, .g, .o, .st, .p, .a}, fun b => by cases b <;> decide⟩

/-- A buffer's shape. -/
@[reducible] def B.shape : B → Shape
  | .q => S512x1024 | .kp => S512x1024 | .kc => S512x1024 | .vp => S512x1024 | .vc => S512x1024
  | .bi => S4x576x256 | .g => S1x1024 | .o => S512x1024 | .st => S2x4x576x256 | .p => S8x4x768x256 | .a => S512x1024

/-- A buffer's element type. -/
@[reducible] def B.elt : B → EltTy
  | .q => .bf16 | .kp => .bf16 | .kc => .bf16 | .vp => .bf16 | .vc => .bf16
  | .bi => .f32 | .g => .f32 | .o => .bf16 | .st => .f32 | .p => .bf16 | .a => .f32

/-- A reference to each buffer. -/
abbrev Mem : Type := ∀ b : B, Memref sig .tc .vmem b.shape b.elt

variable {F : FTy → Type} [FloatOps F] [Named F]

/-- What the buffers hold. -/
abbrev St (F : FTy → Type) [FloatOps F] : Type := ∀ b : B, b.shape.Idx → Elt F b.elt

/-- A straight line of loads and stores through rectangles of unit stride. -/
inductive MP (F : FTy → Type) [FloatOps F] (M : Mem) : Type where
  | done : MP F M
  | load (b : B) (off size : Fin b.shape.rank → ℕ) (inb : ∀ a, off a + size a ≤ b.shape.size a)
      (hl : (M b).view.LoadsAt (Rect.unit off size inb).toLoadRect)
      (k : ((Rect.unit off size inb).shape.Idx → Elt F b.elt) → MP F M) : MP F M
  | store (b : B) (off size : Fin b.shape.rank → ℕ) (inb : ∀ a, off a + size a ≤ b.shape.size a)
      (w : (Rect.unit off size inb).shape.Idx → Elt F b.elt) (hx : ((M b).access (Rect.unit off size inb)).Stores Finset.univ)
      (k : MP F M) : MP F M

/-- The program such a line is. -/
def MP.prog {M : Mem} : MP F M → Prog (TpuEff nD τ sig (Elt F) Λ₀ .tc) PUnit
  | .done => .ret ⟨⟩
  | .load b off size inb hl k => .op (.load (M b) (Rect.unit off size inb).toLoadRect hl) fun x => (k x).prog
  | .store b off size inb w hx k => .op (.store (M b) (Rect.unit off size inb) w Finset.univ hx (.inl rfl)) fun _ => k.prog

/-- What such a line does to what the buffers hold. -/
def MP.exec {M : Mem} : MP F M → St F → St F
  | .done, s => s
  | .load b off size inb _ k, s => (k (VecWindow.window (s b) off size inb)).exec s
  | .store b off size _ w _ k, s => k.exec (Function.update s b (VecWindow.put (s b) off size w))

variable (M : Mem) (hM : ∀ b, (M b).IsWhole)

/-! ## Bounds -/

theorem inb_q (ci : Fin 8) (hq : Fin 4) : ∀ a, (![64 * ci.val, 256 * hq.val] : Fin 2 → ℕ) a + S64x256.size a ≤ S512x1024.size a := by
  revert ci hq; decide +kernel
theorem inb_kp (ci : Fin 8) (hq : Fin 4) : ∀ a, (![64 * ci.val, 256 * hq.val] : Fin 2 → ℕ) a + (![512 - 64 * ci.val, 256] : Fin 2 → ℕ) a ≤ S512x1024.size a := by
  revert ci hq; decide +kernel
theorem inb_kc (ci : Fin 8) (hq : Fin 4) : ∀ a, (![0, 256 * hq.val] : Fin 2 → ℕ) a + (![64 + 64 * ci.val, 256] : Fin 2 → ℕ) a ≤ S512x1024.size a := by
  revert ci hq; decide +kernel
theorem inb_bi (hq : Fin 4) : ∀ a, (![hq.val, 0, 0] : Fin 3 → ℕ) a + S1x576x256.size a ≤ S4x576x256.size a := by
  revert hq; decide +kernel
theorem inb_st (ci : Fin 8) (hq : Fin 4) : ∀ a, (![ci.val % 2, hq.val, 0, 0] : Fin 4 → ℕ) a + S1x1x576x256.size a ≤ S2x4x576x256.size a := by
  revert ci hq; decide +kernel
theorem inb_str (ci : Fin 8) (hq : Fin 4) (rb : Fin 9) : ∀ a, (![ci.val % 2, hq.val, 64 * rb.val, 0] : Fin 4 → ℕ) a + S1x1x64x256.size a ≤ S2x4x576x256.size a := by
  revert ci hq rb; decide +kernel
theorem inb_pr (ci : Fin 8) (hq : Fin 4) (rb : Fin 9) :
    ∀ a, (![ci.val, hq.val, 64 * (ci.val % 4) + 64 * rb.val, 0] : Fin 4 → ℕ) a + S1x1x64x256.size a ≤ S8x4x768x256.size a := by
  revert ci hq rb; decide +kernel
theorem packed_pr (ci : Fin 8) (hq : Fin 4) (rb : Fin 9) :
    (Rect.unit (s := S8x4x768x256) ![ci.val, hq.val, 64 * (ci.val % 4) + 64 * rb.val, 0] S1x1x64x256.size (inb_pr ci hq rb)).PackedRows (EltTy.packing .bf16) := by
  revert ci hq rb; decide +kernel
theorem cat_k (ci : Fin 8) : Shape.Concatenates [(⟨2, ![512 - 64 * ci.val, 256]⟩ : Shape), ⟨2, ![64 + 64 * ci.val, 256]⟩] S576x256 0 := by
  revert ci; decide +kernel
theorem inb_pw (ci : Fin 8) (hp : Fin 8) :
    ∀ a, (![ci.val, hp.val / 2, 0, 128 * (hp.val % 2)] : Fin 4 → ℕ) a + S1x1x768x128.size a ≤ S8x4x768x256.size a := by
  revert ci hp; decide +kernel
theorem inb_vp (g : Fin 2) (hp : Fin 8) : ∀ a, (![256 * g.val, 128 * hp.val] : Fin 2 → ℕ) a + (![512 - 256 * g.val, 128] : Fin 2 → ℕ) a ≤ S512x1024.size a := by
  revert g hp; decide +kernel
theorem inb_vc (g : Fin 2) (hp : Fin 8) : ∀ a, (![0, 128 * hp.val] : Fin 2 → ℕ) a + (![256 + 256 * g.val, 128] : Fin 2 → ℕ) a ≤ S512x1024.size a := by
  revert g hp; decide +kernel
theorem cat_v (g : Fin 2) : Shape.Concatenates [(⟨2, ![512 - 256 * g.val, 128]⟩ : Shape), ⟨2, ![256 + 256 * g.val, 128]⟩] S768x128 0 := by
  revert g; decide +kernel
theorem inb_a (ci : Fin 8) (hp : Fin 8) : ∀ a, (![64 * ci.val, 128 * hp.val] : Fin 2 → ℕ) a + S64x128.size a ≤ S512x1024.size a := by
  revert ci hp; decide +kernel
theorem slice_a (j : Fin 4) : S512x128.Slices ![128 * j.val, 0] S128x128 := by
  revert j; decide +kernel
theorem inb_z (b : Fin 8) (lo n : Fin 13) (h : lo.val + n.val ≤ 12) :
    ∀ a, (![b.val, 0, 64 * lo.val, 0] : Fin 4 → ℕ) a + (![1, 4, 64 * n.val, 256] : Fin 4 → ℕ) a ≤ S8x4x768x256.size a := by
  revert b lo n; decide +kernel
theorem packed_z (b : Fin 8) (lo n : Fin 13) (h : lo.val + n.val ≤ 12) :
    (Rect.unit (s := S8x4x768x256) ![b.val, 0, 64 * lo.val, 0] ![1, 4, 64 * n.val, 256] (inb_z b lo n h)).PackedRows (EltTy.packing .bf16) := by
  revert b lo n; decide +kernel
theorem num_z (n : Fin 13) (h : 0 < n.val) : 0 < (⟨4, ![1, 4, 64 * n.val, 256]⟩ : Shape).numel := by
  revert n; decide +kernel
theorem cast_z (n : Fin 13) : (⟨3, ![4, 64 * n.val, 256]⟩ : Shape).ShapeCasts (⟨4, ![1, 4, 64 * n.val, 256]⟩ : Shape) := by
  revert n; decide +kernel
theorem num_kp (ci : Fin 8) : 0 < (⟨2, ![512 - 64 * ci.val, 256]⟩ : Shape).numel := by
  revert ci; decide +kernel
theorem num_kc (ci : Fin 8) : 0 < (⟨2, ![64 + 64 * ci.val, 256]⟩ : Shape).numel := by
  revert ci; decide +kernel
theorem num_vp (g : Fin 2) : 0 < (⟨2, ![512 - 256 * g.val, 128]⟩ : Shape).numel := by
  revert g; decide +kernel
theorem num_vc (g : Fin 2) : 0 < (⟨2, ![256 + 256 * g.val, 128]⟩ : Shape).numel := by
  revert g; decide +kernel

/-! ## The steps -/

/-- The lane's head within a block of four. -/
def headOf : IVec S64x256 32 :=
  let v0 : IVec S64x256 32 := iota .tc S64x256 32 [1] iota_S64x256_d1_w32
  let v2 : IVec S64x256 32 := divsi v0 (broadcast S64x256 64#32)
  let v9 : IVec S64x256 32 := subi (extui 32 (cmpi .sgt v0 (broadcast S64x256 0#32)) natLt_1_32)
    (extui 32 (cmpi .slt v0 (broadcast S64x256 0#32)) natLt_1_32)
  let v14 : BitVec 32 := Scalar.subi (Scalar.extui (Scalar.cmpi .sgt 64#32 0#32)) (Scalar.extui (Scalar.cmpi .slt 64#32 0#32))
  let v20 : IVec S64x256 1 := cmpi .ne (remsi v0 (broadcast S64x256 64#32)) (broadcast S64x256 0#32)
  select (andi (cmpi .ne v9 (broadcast S64x256 v14)) v20) (subi v2 (broadcast S64x256 1#32)) v2

/-- Whether the lane is of the first head of a pair. -/
def firstOf : IVec S64x128 1 :=
  cmpi .slt (iota .tc S64x128 32 [1] iota_S64x128_d1_w32) (broadcast S64x128 64#32)

/-- The key's number within a window. -/
def keyOf : IVec S576x256 32 := iota .tc S576x256 32 [0] iota_S576x256_d0_w32

/-- The queries of a block at the lanes of one head, zero at the others. -/
def qhead (x : FVec F S64x256 .bf16) (h : BitVec 32) : FVec F S64x256 .bf16 :=
  select (cmpi .eq headOf (broadcast S64x256 h)) (mulf x (broadcast S64x256 (Scalar.ofBits .bf16 0x3E00#16)))
    (broadcast S64x256 (Scalar.ofBits .bf16 0x0000#16))

/-- The queries of a block, its four heads one below the other. -/
def qcat (x : FVec F S64x256 .bf16) : FVec F S256x256 .bf16 :=
  concatenate S256x256 0 [⟨S64x256, qhead x 0#32⟩, ⟨S64x256, qhead x 1#32⟩, ⟨S64x256, qhead x 2#32⟩, ⟨S64x256, qhead x 3#32⟩]
    concatenates_S64x256_S64x256_S64x256_S64x256_S256x256_d0

/-- The scores of a block before any is masked. -/
def scRaw (x : FVec F S64x256 .bf16) (k : FVec F S576x256 .bf16) (b : FVec F S1x576x256 .f32) : FVec F S576x256 .f32 :=
  addf (matmul dot_S576x256_S256x256_S576x256_1_1_0_0_n_n none k (qcat x) (constant S576x256 .f32 0x00000000#32))
    (shapeCast S576x256 b shapeCasts_S1x576x256_S576x256)

/-- The scores of a block: of the first tile those of the keys before the sequence are masked. -/
def scOf (mk : Bool) (ci : Fin 8) (y : FVec F S576x256 .f32) : FVec F S576x256 .f32 :=
  match mk with
  | true => select (cmpi .sge (addi keyOf (broadcast S576x256 (BitVec.ofNat 32 (64 * ci.val)))) (broadcast S576x256 512#32)) y
      (broadcast S576x256 (Named.named κ "mask" 0xF149F2CA#32))
  | false => y

/-- Zeros into rows `64 lo ..< 64 (lo + n)` of block `b` of the exponentials. -/
def zfill (b : Fin 8) (lo n : Fin 13) (h : lo.val + n.val ≤ 12) (h0 : 0 < n.val) (K : MP F M) : MP F M :=
  .load .p ![b.val, 0, 64 * lo.val, 0] ![1, 4, 64 * n.val, 256] (inb_z b lo n h)
    (View.loadsAt_vmem (num_z n h0)) fun _ =>
  .store .p ![b.val, 0, 64 * lo.val, 0] ![1, 4, 64 * n.val, 256] (inb_z b lo n h)
    (shapeCast (⟨4, ![1, 4, 64 * n.val, 256]⟩ : Shape) (broadcast (⟨3, ![4, 64 * n.val, 256]⟩ : Shape) (Scalar.ofBits (F := F) .bf16 0x0000#16)) (cast_z n))
    (View.stores_vmem (num_z n h0) ((hM .p).storeExact_slice rfl _ (packed_z b lo n h)) (fun _ => rfl)) K

/-- The scores of block `ci` at heads `4 hq ..< 4 hq + 4`. -/
def scores (mk : Bool) (ci : Fin 8) (hq : Fin 4) (K : MP F M) : MP F M :=
  .load .q ![64 * ci.val, 256 * hq.val] S64x256.size (inb_q ci hq) (View.loadsAt_vmem h_S64x256) fun x =>
  .load .kp ![64 * ci.val, 256 * hq.val] ![512 - 64 * ci.val, 256] (inb_kp ci hq) (View.loadsAt_vmem (num_kp ci)) fun k0 =>
  .load .kc ![0, 256 * hq.val] ![64 + 64 * ci.val, 256] (inb_kc ci hq) (View.loadsAt_vmem (num_kc ci)) fun k1 =>
  .load .bi ![hq.val, 0, 0] S1x576x256.size (inb_bi hq) (View.loadsAt_vmem h_S1x576x256) fun b =>
  .load .st ![ci.val % 2, hq.val, 0, 0] S1x1x576x256.size (inb_st ci hq) (View.loadsAt_vmem h_S1x1x576x256) fun _ =>
  .store .st ![ci.val % 2, hq.val, 0, 0] S1x1x576x256.size (inb_st ci hq)
    (shapeCast S1x1x576x256 (scOf mk ci (scRaw x
      (concatenate S576x256 0 [⟨(⟨2, ![512 - 64 * ci.val, 256]⟩ : Shape), k0⟩, ⟨(⟨2, ![64 + 64 * ci.val, 256]⟩ : Shape), k1⟩] (cat_k ci)) b))
      shapeCasts_S576x256_S1x1x576x256)
    (View.stores_vmem_bits_univ h_S1x1x576x256 rfl) K

/-- A block of rows of the scores. -/
def ldSt (ci : Fin 8) (hq : Fin 4) (rb : Fin 9) (K : FVec F S64x256 .f32 → MP F M) : MP F M :=
  .load .st ![ci.val % 2, hq.val, 64 * rb.val, 0] S1x1x64x256.size (inb_str ci hq rb) (View.loadsAt_vmem h_S1x1x64x256) fun x =>
  K (shapeCast S64x256 x shapeCasts_S1x1x64x256_S64x256)

/-- The maximum over blocks of rows, of the ones already met and the ones listed. -/
def maxLoop (ci : Fin 8) (hq : Fin 4) (K : FVec F S64x256 .f32 → MP F M) : List (Fin 9) → FVec F S64x256 .f32 → MP F M
  | [], m => K m
  | rb :: l, m => ldSt M ci hq rb fun x => maxLoop ci hq K l (maximumf m x)

/-- The maximum down the columns. -/
def colMax (m : FVec F S64x256 .f32) : FVec F S1x256 .f32 :=
  shapeCast S1x256 (multiReduction .maximumf [0] S256 m 0xFF800000#32 reduces_S64x256_S256 (.inl rfl) rfl) shapeCasts_S256_S1x256

/-- The exponentials of a block of rows of scores, under their columns' maxima. -/
def exOf (x : FVec F S64x256 .f32) (m : FVec F S1x256 .f32) : FVec F S1x1x64x256 .bf16 :=
  shapeCast S1x1x64x256 (truncf .bf16 (exp (subf x (broadcastTo S64x256 m broadcasts_S1x256_S64x256))) bitsLt_bf16_f32)
    shapeCasts_S64x256_S1x1x64x256

/-- The exponentials of the listed blocks of rows. -/
def expLoop (ci : Fin 8) (hq : Fin 4) (m : FVec F S1x256 .f32) (K : MP F M) : List (Fin 9) → MP F M
  | [] => K
  | rb :: l => ldSt M ci hq rb fun x =>
      .load .p ![ci.val, hq.val, 64 * (ci.val % 4) + 64 * rb.val, 0] S1x1x64x256.size (inb_pr ci hq rb) (View.loadsAt_vmem h_S1x1x64x256) fun _ =>
      .store .p ![ci.val, hq.val, 64 * (ci.val % 4) + 64 * rb.val, 0] S1x1x64x256.size (inb_pr ci hq rb) (exOf x m)
        (View.stores_vmem h_S1x1x64x256 ((hM .p).storeExact_slice rfl _ (packed_pr ci hq rb)) (fun _ => rfl)) (expLoop ci hq m K l)

/-- The exponentials of block `ci` at heads `4 hq ..< 4 hq + 4`. -/
def exps (ci : Fin 8) (hq : Fin 4) (K : MP F M) : MP F M :=
  ldSt M ci hq 0 fun x0 => maxLoop M ci hq (fun m => expLoop M hM ci hq (colMax m) K [0, 1, 2, 3, 4, 5, 6, 7, 8]) [1, 2, 3, 4, 5, 6, 7, 8] x0

/-- A pair of heads' exponentials of one block. -/
def ldP (ci : Fin 8) (hp : Fin 8) (K : FVec F S768x128 .bf16 → MP F M) : MP F M :=
  .load .p ![ci.val, hp.val / 2, 0, 128 * (hp.val % 2)] S1x1x768x128.size (inb_pw ci hp) (View.loadsAt_vmem h_S1x1x768x128) fun x =>
  K (shapeCast S768x128 x shapeCasts_S1x1x768x128_S768x128)

/-- The values weighted by the exponentials, over the exponentials' sums. -/
def avOf (p : FVec F S768x512 .bf16) (v : FVec F S768x128 .bf16) : FVec F S512x128 .f32 :=
  let y : FVec F S512x256 .f32 := matmul dot_S768x512_S768x256_S512x256_0_0_1_1_n_n none p
    (concatenate S768x256 1 [⟨S768x128, v⟩, ⟨S768x128, broadcast S768x128 (Scalar.ofBits .bf16 0x3F80#16)⟩] concatenates_S768x128_S768x128_S768x256_d1)
    (constant S512x256 .f32 0x00000000#32)
  mulf (extractStridedSlice S512x128 ![0, 0] y slices_S512x256_o0_0_S512x128)
    (divf (broadcast S512x128 (Scalar.ofBits .f32 0x3F800000#32)) (extractStridedSlice S512x128 ![0, 128] y slices_S512x256_o0_128_S512x128))

/-- One block's rows of the pair's two heads, each at its own lanes. -/
def avPair (y : FVec F S512x128 .f32) (j : Fin 4) : FVec F S64x128 .f32 :=
  select firstOf (extractStridedSlice S64x128 ![0, 0] (extractStridedSlice S128x128 ![128 * j.val, 0] y (slice_a j)) slices_S128x128_o0_0_S64x128)
    (extractStridedSlice S64x128 ![64, 0] (extractStridedSlice S128x128 ![128 * j.val, 0] y (slice_a j)) slices_S128x128_o64_0_S64x128)

/-- The block numbered `j` of group `g`. -/
def blk (g : Fin 2) (j : Fin 4) : Fin 8 := ⟨4 * g.val + j.val, by omega⟩

/-- The listed blocks' rows of a pair of heads' values. -/
def avLoop (g : Fin 2) (hp : Fin 8) (y : FVec F S512x128 .f32) (K : MP F M) : List (Fin 4) → MP F M
  | [] => K
  | j :: l =>
      .load .a ![64 * (blk g j).val, 128 * hp.val] S64x128.size (inb_a (blk g j) hp) (View.loadsAt_vmem h_S64x128) fun _ =>
      .store .a ![64 * (blk g j).val, 128 * hp.val] S64x128.size (inb_a (blk g j) hp)
        (shapeCast S64x128 (avPair y j) shapeCasts_S64x128_S64x128) (View.stores_vmem_bits_univ h_S64x128 rfl) (avLoop g hp y K l)

/-- The values of group `g` of four blocks at heads `2 hp, 2 hp + 1`. -/
def values (g : Fin 2) (hp : Fin 8) (K : MP F M) : MP F M :=
  ldP M (blk g 0) hp fun p0 => ldP M (blk g 1) hp fun p1 => ldP M (blk g 2) hp fun p2 => ldP M (blk g 3) hp fun p3 =>
  .load .vp ![256 * g.val, 128 * hp.val] ![512 - 256 * g.val, 128] (inb_vp g hp) (View.loadsAt_vmem (num_vp g)) fun v0 =>
  .load .vc ![0, 128 * hp.val] ![256 + 256 * g.val, 128] (inb_vc g hp) (View.loadsAt_vmem (num_vc g)) fun v1 =>
  avLoop M g hp (avOf
    (concatenate S768x512 1 [⟨S768x128, p0⟩, ⟨S768x128, p1⟩, ⟨S768x128, p2⟩, ⟨S768x128, p3⟩] concatenates_S768x128_S768x128_S768x128_S768x128_S768x512_d1)
    (concatenate S768x128 0 [⟨(⟨2, ![512 - 256 * g.val, 128]⟩ : Shape), v0⟩, ⟨(⟨2, ![256 + 256 * g.val, 128]⟩ : Shape), v1⟩] (cat_v g)))
    K [0, 1, 2, 3]

/-! ## The schedule -/

/-- A step of a tile. -/
inductive Step where
  | zero (b : Fin 8) (lo n : Fin 13) (h : lo.val + n.val ≤ 12) (h0 : 0 < n.val)
  | scores (ci : Fin 8) (hq : Fin 4)
  | exps (ci : Fin 8) (hq : Fin 4)
  | values (g : Fin 2) (hp : Fin 8)

/-- The step's loads and stores, before the rest `K`. -/
def Step.line (mk : Bool) : Step → MP F M → MP F M
  | .zero b lo n h h0, K => Cert.Attn.zfill M hM b lo n h h0 K
  | .scores ci hq, K => Cert.Attn.scores M mk ci hq K
  | .exps ci hq, K => Cert.Attn.exps M hM ci hq K
  | .values g hp, K => Cert.Attn.values M g hp K

/-- The steps' loads and stores in turn, before the rest `K`. -/
def lines (mk : Bool) : List Step → MP F M → MP F M
  | [], K => K
  | x :: l, K => x.line M hM mk (lines mk l K)

/-- The zeros around the exponentials of each block. -/
def zeros : List Step :=
  [.zero 0 9 3 (by decide) (by decide), .zero 1 0 1 (by decide) (by decide), .zero 1 10 2 (by decide) (by decide), .zero 2 0 2 (by decide) (by decide),
   .zero 2 11 1 (by decide) (by decide), .zero 3 0 3 (by decide) (by decide), .zero 4 9 3 (by decide) (by decide), .zero 5 0 1 (by decide) (by decide),
   .zero 5 10 2 (by decide) (by decide), .zero 6 0 2 (by decide) (by decide), .zero 6 11 1 (by decide) (by decide), .zero 7 0 3 (by decide) (by decide)]

/-- What goes with the exponentials of block `ci` at heads `4 hq ..< 4 hq + 4`: the next block's scores, and the values of two heads of the first group. -/
def around (ci : Fin 8) (hq : Fin 4) : List Step :=
  (if h : ci.val + 1 < 8 then [Step.scores ⟨ci.val + 1, h⟩ hq] else [])
    ++ (if 4 ≤ ci.val ∧ hq.val % 2 = 0 then [Step.values 0 ⟨2 * (ci.val % 4) + hq.val / 2, by omega⟩] else []) ++ [Step.exps ci hq]

/-- The blocks' steps in turn. -/
def blocks : List (Fin 8) → List Step
  | [] => []
  | ci :: l => around ci 0 ++ (around ci 1 ++ (around ci 2 ++ (around ci 3 ++ blocks l)))

/-- The steps of a tile. -/
def sched : List Step :=
  zeros ++ ([.scores 0 0, .scores 0 1, .scores 0 2, .scores 0 3] ++ (blocks [0, 1, 2, 3, 4, 5, 6, 7]
    ++ [.values 1 0, .values 1 1, .values 1 2, .values 1 3, .values 1 4, .values 1 5, .values 1 6, .values 1 7]))

/-! ## The norm -/

/-- The rows' mean squares with the norm's epsilon, their reciprocal roots. -/
def rsOf (x : FVec F S512x1024 .f32) : FVec F S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- The normalised rows. -/
def normOf (x : FVec F S512x1024 .f32) (g : FVec F S1x1024 .f32) : FVec F S512x1024 .bf16 :=
  truncf .bf16 (mulf (mulf x (broadcastTo S512x1024 (rsOf x) broadcasts_S512x1_S512x1024))
    (broadcastTo S512x1024 (shapeCast S1x1024 g shapeCasts_S1x1024_S1x1024) broadcasts_S1x1024_S512x1024)) bitsLt_bf16_f32

/-- The norm of the gathered values, into the output. -/
def norm : MP F M :=
  .load .a ![0, 0] S512x1024.size inb_S512x1024_S512x1024_0_0 (View.loadsAt_vmem h_S512x1024) fun x =>
  .load .g ![0, 0] S1x1024.size inb_S1x1024_S1x1024_0_0 (View.loadsAt_vmem h_S1x1024) fun g =>
  .load .o ![0, 0] S512x1024.size inb_S512x1024_S512x1024_0_0 (View.loadsAt_vmem h_S512x1024) fun _ =>
  .store .o ![0, 0] S512x1024.size inb_S512x1024_S512x1024_0_0 (normOf x g)
    (View.stores_vmem h_S512x1024 ((hM .o).storeExact_slice rfl _ packedbf16_S512x1024_S512x1024_0_0) (fun _ => rfl)) .done

/-- A tile's body. -/
def body (mk : Bool) : MP F M := lines M hM mk sched (norm M hM)

end Cert.Attn
-- ==== Proof.AttnAt.lean ====
module

public import proofs.«01_k».proof.Proof.AttnProg
public import Idealize.ShloMosaic.Lib.Pipeline.ValueKit

@[expose] public section

set_option maxRecDepth 16384

noncomputable section

namespace Cert.Attn

open Idealize.ShloMosaic Idealize.ShloMosaic.TcCoe Idealize.SL.Sem
open Cert.KernelIdeal Cert.KernelIdeal.Shapes1.Facts₀
open scoped BigOperators

/-! # The steps' values at an index -/

/-- A window at an index, of a buffer of two axes. -/
theorem window_at2 {α : Type} {n m : ℕ} (x : (⟨2, ![n, m]⟩ : Shape).Idx → α) (a b n' m' : ℕ)
    (inb : ∀ d, (![a, b] : Fin 2 → ℕ) d + (![n', m'] : Fin 2 → ℕ) d ≤ (⟨2, ![n, m]⟩ : Shape).size d) (i : Fin n') (j : Fin m') :
    VecWindow.window x ![a, b] ![n', m'] inb (ix2 i j)
      = x (ix2 ⟨a + i.val, by have := inb 0; simp at this; omega⟩ ⟨b + j.val, by have := inb 1; simp at this; omega⟩) := by
  refine congrArg x (funext fun d => Fin.ext ?_)
  fin_cases d
  · show a + 1 * i.val = a + i.val
    omega
  · show b + 1 * j.val = b + j.val
    omega

/-- A window at an index, of a buffer of three axes. -/
theorem window_at3 {α : Type} {n m l : ℕ} (x : (⟨3, ![n, m, l]⟩ : Shape).Idx → α) (a b c n' m' l' : ℕ)
    (inb : ∀ d, (![a, b, c] : Fin 3 → ℕ) d + (![n', m', l'] : Fin 3 → ℕ) d ≤ (⟨3, ![n, m, l]⟩ : Shape).size d) (i : Fin n') (j : Fin m') (k : Fin l') :
    VecWindow.window x ![a, b, c] ![n', m', l'] inb (ix3 i j k)
      = x (ix3 ⟨a + i.val, by have := inb 0; simp at this; omega⟩ ⟨b + j.val, by have := inb 1; simp at this; omega⟩
          ⟨c + k.val, by have := inb 2; simp at this; omega⟩) := by
  refine congrArg x (funext fun d => Fin.ext ?_)
  fin_cases d
  · show a + 1 * i.val = a + i.val
    omega
  · show b + 1 * j.val = b + j.val
    omega
  · show c + 1 * k.val = c + k.val
    omega

/-- A window at an index, of a buffer of four axes. -/
theorem window_at4 {α : Type} {n m l r : ℕ} (x : (⟨4, ![n, m, l, r]⟩ : Shape).Idx → α) (a b c e n' m' l' r' : ℕ)
    (inb : ∀ d, (![a, b, c, e] : Fin 4 → ℕ) d + (![n', m', l', r'] : Fin 4 → ℕ) d ≤ (⟨4, ![n, m, l, r]⟩ : Shape).size d)
    (i : Fin n') (j : Fin m') (k : Fin l') (t : Fin r') :
    VecWindow.window x ![a, b, c, e] ![n', m', l', r'] inb (ix4 i j k t)
      = x (ix4 ⟨a + i.val, by have := inb 0; simp at this; omega⟩ ⟨b + j.val, by have := inb 1; simp at this; omega⟩
          ⟨c + k.val, by have := inb 2; simp at this; omega⟩ ⟨e + t.val, by have := inb 3; simp at this; omega⟩) := by
  refine congrArg x (funext fun d => Fin.ext ?_)
  fin_cases d
  · show a + 1 * i.val = a + i.val
    omega
  · show b + 1 * j.val = b + j.val
    omega
  · show c + 1 * k.val = c + k.val
    omega
  · show e + 1 * t.val = e + t.val
    omega

theorem headOf_at (i : Fin 64) (l : Fin 256) : headOf (ix2 i l) = BitVec.ofNat 32 (l.val / 64) := by
  have key : ∀ l : Fin 256, headOf (ix2 (0 : Fin 64) l) = BitVec.ofNat 32 (l.val / 64) := by decide +kernel
  exact key l

theorem firstOf_at (i : Fin 64) (l : Fin 128) : firstOf (ix2 i l) = if l.val < 64 then 1#1 else 0#1 := by
  have key : ∀ l : Fin 128, firstOf (ix2 (0 : Fin 64) l) = if l.val < 64 then 1#1 else 0#1 := by decide +kernel
  exact key l

theorem qhead_at (x : FVec Ideal S64x256 .bf16) (h : Fin 4) (i : Fin 64) (l : Fin 256) :
    qhead x (BitVec.ofNat 32 h.val) (ix2 i l) = if l.val / 64 = h.val then x (ix2 i l) * Ideal.ofBits .bf16 15872#16 else 0 := by
  have key : ∀ (h : Fin 4) (l : Fin 256), IntOp.cmpi .eq (BitVec.ofNat 32 (l.val / 64)) (BitVec.ofNat 32 h.val) = if l.val / 64 = h.val then 1#1 else 0#1 := by
    decide +kernel
  pointwise [qhead]
  rw [headOf_at, key]
  split <;> rfl

theorem qcat_at (x : FVec Ideal S64x256 .bf16) (c : Fin 256) (l : Fin 256) :
    qcat x (ix2 c l) = if l.val / 64 = c.val / 64 then x (ix2 ⟨c.val % 64, by omega⟩ l) * Ideal.ofBits .bf16 15872#16 else 0 := by
  pointwise [qcat]
  have e : ∀ (h : Fin 4) (i : Fin 64), c.val = 64 * h.val + i.val → qhead x (BitVec.ofNat 32 h.val) (ix2 i l)
      = if l.val / 64 = c.val / 64 then x (ix2 ⟨c.val % 64, by omega⟩ l) * Ideal.ofBits .bf16 15872#16 else 0 := by
    intro h i hc
    rw [qhead_at]
    have h1 : c.val / 64 = h.val := by omega
    have h2 : (⟨c.val % 64, by omega⟩ : Fin 64) = i := Fin.ext (by show c.val % 64 = i.val; omega)
    rw [h1, h2]
  split
  · exact e 0 ⟨c.val, _⟩ (by simp)
  · split
    · exact e 1 ⟨c.val - 64, _⟩ (by simp; omega)
    · split
      · exact e 2 ⟨c.val - 64 - 64, _⟩ (by simp; omega)
      · exact e 3 ⟨c.val - 64 - 64 - 64, _⟩ (by simp; omega)

theorem scRaw_at (x : FVec Ideal S64x256 .bf16) (k : FVec Ideal S576x256 .bf16) (b : FVec Ideal S1x576x256 .f32) (e : Fin 576) (c : Fin 256) :
    scRaw x k b (ix2 e c)
      = ∑ l : Fin 256, k (ix2 e l) * (if l.val / 64 = c.val / 64 then x (ix2 ⟨c.val % 64, by omega⟩ l) * Ideal.ofBits .bf16 15872#16 else 0) + b (ix3 0 e c) := by
  pointwise [scRaw]
  simp only [qcat_at]

theorem keyOf_at (e : Fin 576) (c : Fin 256) : keyOf (ix2 e c) = BitVec.ofNat 32 e.val := by
  pointwise [keyOf]

theorem scOf_at (mk : Bool) (ci : Fin 8) (y : FVec Ideal S576x256 .f32) (e : Fin 576) (c : Fin 256) :
    scOf mk ci y (ix2 e c) = if mk = true ∧ 64 * ci.val + e.val < 512 then (⊥ : EReal) else y (ix2 e c) := by
  have key : ∀ (ci : Fin 8) (e : Fin 576), IntOp.cmpi .sge (IntOp.addi (BitVec.ofNat 32 e.val) (BitVec.ofNat 32 (64 * ci.val))) 512#32
      = if 64 * ci.val + e.val < 512 then 0#1 else 1#1 := by decide +kernel
  cases mk
  · rfl
  · pointwise [scOf]
    rw [keyOf_at, key]
    by_cases h : 64 * ci.val + e.val < 512
    · rw [if_pos h]
      exact (if_pos h).symm
    · rw [if_neg h]
      exact (if_neg h).symm

theorem colMax_at (y : FVec Ideal S64x256 .f32) (c : Fin 256) :
    colMax y (ix2 0 c) = Finset.univ.sup fun i : Fin 64 => (y (ix2 i c) : EReal) := by
  pointwise [colMax]
  rfl

theorem exOf_at (y : FVec Ideal S64x256 .f32) (m : FVec Ideal S1x256 .f32) (z w : Fin 1) (i : Fin 64) (c : Fin 256) :
    exOf y m (ix4 z w i c) = Ideal.exp (y (ix2 i c) - m (ix2 0 c)) := by
  obtain rfl : z = 0 := Subsingleton.elim _ _
  obtain rfl : w = 0 := Subsingleton.elim _ _
  pointwise [exOf]

theorem avOf_at (p : FVec Ideal S768x512 .bf16) (v : FVec Ideal S768x128 .bf16) (c : Fin 512) (l : Fin 128) :
    avOf p v (ix2 c l) = (∑ x, p (ix2 x c) * v (ix2 x l)) * Ideal.div 1 (∑ x, p (ix2 x c)) := by
  pointwise [avOf]

theorem avPair_at (y : FVec Ideal S512x128 .f32) (j : Fin 4) (i : Fin 64) (l : Fin 128) :
    avPair y j (ix2 i l) = y (ix2 ⟨128 * j.val + 64 * (l.val / 64) + i.val, by omega⟩ l) := by
  pointwise [avPair]
  rw [firstOf_at]
  by_cases h : l.val < 64
  · rw [if_pos h]
    refine congrArg (fun r => y (ix2 r l)) (Fin.ext ?_)
    show 128 * j.val + i.val = 128 * j.val + 64 * (l.val / 64) + i.val
    omega
  · rw [if_neg h]
    refine congrArg (fun r => y (ix2 r l)) (Fin.ext ?_)
    show 128 * j.val + (64 + i.val) = 128 * j.val + 64 * (l.val / 64) + i.val
    omega

theorem norm_at (y : FVec Ideal S512x1024 .f32) (g : FVec Ideal S1x1024 .f32) (i : Fin 512) (l : Fin 1024) :
    normOf y g (ix2 i l) = y (ix2 i l) *
        Ideal.rsqrt
          (Ideal.div (∑ x, y (ix2 i x) * y (ix2 i x)) (Ideal.ofBits FTy.f32 1149239296#32) +
            Ideal.ofBits FTy.f32 897988541#32) *
      g (ix2 0 l) := by
  pointwise [normOf, rsOf]

theorem catK_at (ci : Fin 8) (k0 : (⟨2, ![512 - 64 * ci.val, 256]⟩ : Shape).Idx → EReal) (k1 : (⟨2, ![64 + 64 * ci.val, 256]⟩ : Shape).Idx → EReal)
    (e : Fin 576) (l : Fin 256) :
    concatenate S576x256 0 [⟨(⟨2, ![512 - 64 * ci.val, 256]⟩ : Shape), k0⟩, ⟨(⟨2, ![64 + 64 * ci.val, 256]⟩ : Shape), k1⟩] (cat_k ci) (ix2 e l)
      = if h : e.val < 512 - 64 * ci.val then k0 (ix2 ⟨e.val, h⟩ l) else k1 (ix2 ⟨e.val - (512 - 64 * ci.val), by omega⟩ l) := by
  pointwise []
  split
  · refine congrArg k0 (funext fun d => Fin.ext ?_)
    fin_cases d <;> simp [Shape.Idx.norm]
  · refine congrArg k1 (funext fun d => Fin.ext ?_)
    fin_cases d <;> simp [Shape.Idx.norm]

theorem catV_at (g : Fin 2) (k0 : (⟨2, ![512 - 256 * g.val, 128]⟩ : Shape).Idx → EReal) (k1 : (⟨2, ![256 + 256 * g.val, 128]⟩ : Shape).Idx → EReal)
    (e : Fin 768) (l : Fin 128) :
    concatenate S768x128 0 [⟨(⟨2, ![512 - 256 * g.val, 128]⟩ : Shape), k0⟩, ⟨(⟨2, ![256 + 256 * g.val, 128]⟩ : Shape), k1⟩] (cat_v g) (ix2 e l)
      = if h : e.val < 512 - 256 * g.val then k0 (ix2 ⟨e.val, h⟩ l) else k1 (ix2 ⟨e.val - (512 - 256 * g.val), by omega⟩ l) := by
  pointwise []
  split
  · refine congrArg k0 (funext fun d => Fin.ext ?_)
    fin_cases d <;> simp [Shape.Idx.norm]
  · refine congrArg k1 (funext fun d => Fin.ext ?_)
    fin_cases d <;> simp [Shape.Idx.norm]

theorem catP_at (p0 p1 p2 p3 : FVec Ideal S768x128 .bf16) (r : Fin 768) (c : Fin 512) :
    concatenate S768x512 1 [⟨S768x128, p0⟩, ⟨S768x128, p1⟩, ⟨S768x128, p2⟩, ⟨S768x128, p3⟩] concatenates_S768x128_S768x128_S768x128_S768x128_S768x512_d1 (ix2 r c)
      = (![p0, p1, p2, p3] : Fin 4 → _) ⟨c.val / 128, by omega⟩ (ix2 r ⟨c.val % 128, by omega⟩) := by
  pointwise []
  have e : ∀ (h : Fin 4) (i : Fin 128), c.val = 128 * h.val + i.val → (![p0, p1, p2, p3] : Fin 4 → FVec Ideal S768x128 .bf16) h (ix2 r i)
      = (![p0, p1, p2, p3] : Fin 4 → FVec Ideal S768x128 .bf16) ⟨c.val / 128, by omega⟩ (ix2 r ⟨c.val % 128, by omega⟩) := by
    intro h i hc
    have h1 : (⟨c.val / 128, by omega⟩ : Fin 4) = h := Fin.ext (by show c.val / 128 = h.val; omega)
    have h2 : (⟨c.val % 128, by omega⟩ : Fin 128) = i := Fin.ext (by show c.val % 128 = i.val; omega)
    rw [h1, h2]
  split
  · exact e 0 ⟨c.val, _⟩ (by simp)
  · split
    · exact e 1 ⟨c.val - 128, _⟩ (by simp; omega)
    · split
      · exact e 2 ⟨c.val - 128 - 128, _⟩ (by simp; omega)
      · exact e 3 ⟨c.val - 128 - 128 - 128, _⟩ (by simp; omega)

end Cert.Attn
-- ==== Proof.AttnExec.lean ====
module

public import proofs.«01_k».proof.Proof.AttnAt

@[expose] public section

set_option maxRecDepth 16384

noncomputable section

namespace Cert.Attn

open Idealize.ShloMosaic Idealize.ShloMosaic.TcCoe Idealize.SL.Sem
open Cert.KernelIdeal Cert.KernelIdeal.Shapes1.Facts₀
open scoped BigOperators

/-! # What a tile's body computes

First what each step leaves in the buffers, at an index, from what the inputs hold. Then one pass along the schedule: which of
the blocks are known to be in place after each step. -/

/-! ## Puts at an index -/

/-- A put at an index inside it, of a buffer of two axes. -/
theorem put_hit2 {α : Type} {n m : ℕ} (x : (⟨2, ![n, m]⟩ : Shape).Idx → α) (a b n' m' : ℕ) (w : (⟨2, ![n', m']⟩ : Shape).Idx → α)
    (i : Fin n) (j : Fin m) (i' : Fin n') (j' : Fin m') (hi : i.val = a + i'.val) (hj : j.val = b + j'.val) :
    VecWindow.put (s := ⟨2, ![n, m]⟩) x ![a, b] ![n', m'] w (ix2 i j) = w (ix2 i' j') := by
  have h : ∀ d, (![a, b] : Fin 2 → ℕ) d ≤ ((ix2 i j : (⟨2, ![n, m]⟩ : Shape).Idx) d).val
      ∧ ((ix2 i j : (⟨2, ![n, m]⟩ : Shape).Idx) d).val < (![a, b] : Fin 2 → ℕ) d + (![n', m'] : Fin 2 → ℕ) d := by
    intro d
    fin_cases d
    · show a ≤ i.val ∧ i.val < a + n'
      omega
    · show b ≤ j.val ∧ j.val < b + m'
      omega
  refine (dif_pos h).trans (congrArg w (funext fun d => Fin.ext ?_))
  fin_cases d
  · show i.val - a = i'.val
    omega
  · show j.val - b = j'.val
    omega

/-- A put at an index apart from it on some axis, of a buffer of two axes. -/
theorem put_miss2 {α : Type} {n m : ℕ} (x : (⟨2, ![n, m]⟩ : Shape).Idx → α) (a b n' m' : ℕ) (w : (⟨2, ![n', m']⟩ : Shape).Idx → α)
    (i : Fin n) (j : Fin m) (h : ¬ ((a ≤ i.val ∧ i.val < a + n') ∧ (b ≤ j.val ∧ j.val < b + m'))) :
    VecWindow.put (s := ⟨2, ![n, m]⟩) x ![a, b] ![n', m'] w (ix2 i j) = x (ix2 i j) :=
  dif_neg fun h' => h ⟨h' 0, h' 1⟩

/-- A put at an index inside it, of a buffer of four axes. -/
theorem put_hit4 {α : Type} {n m l r : ℕ} (x : (⟨4, ![n, m, l, r]⟩ : Shape).Idx → α) (a b c e n' m' l' r' : ℕ) (w : (⟨4, ![n', m', l', r']⟩ : Shape).Idx → α)
    (i : Fin n) (j : Fin m) (k : Fin l) (t : Fin r) (i' : Fin n') (j' : Fin m') (k' : Fin l') (t' : Fin r')
    (hi : i.val = a + i'.val) (hj : j.val = b + j'.val) (hk : k.val = c + k'.val) (ht : t.val = e + t'.val) :
    VecWindow.put (s := ⟨4, ![n, m, l, r]⟩) x ![a, b, c, e] ![n', m', l', r'] w (ix4 i j k t) = w (ix4 i' j' k' t') := by
  have h : ∀ d, (![a, b, c, e] : Fin 4 → ℕ) d ≤ ((ix4 i j k t : (⟨4, ![n, m, l, r]⟩ : Shape).Idx) d).val
      ∧ ((ix4 i j k t : (⟨4, ![n, m, l, r]⟩ : Shape).Idx) d).val < (![a, b, c, e] : Fin 4 → ℕ) d + (![n', m', l', r'] : Fin 4 → ℕ) d := by
    intro d
    fin_cases d
    · show a ≤ i.val ∧ i.val < a + n'
      omega
    · show b ≤ j.val ∧ j.val < b + m'
      omega
    · show c ≤ k.val ∧ k.val < c + l'
      omega
    · show e ≤ t.val ∧ t.val < e + r'
      omega
  refine (dif_pos h).trans (congrArg w (funext fun d => Fin.ext ?_))
  fin_cases d
  · show i.val - a = i'.val
    omega
  · show j.val - b = j'.val
    omega
  · show k.val - c = k'.val
    omega
  · show t.val - e = t'.val
    omega

/-- A put at an index apart from it on some axis, of a buffer of four axes. -/
theorem put_miss4 {α : Type} {n m l r : ℕ} (x : (⟨4, ![n, m, l, r]⟩ : Shape).Idx → α) (a b c e n' m' l' r' : ℕ) (w : (⟨4, ![n', m', l', r']⟩ : Shape).Idx → α)
    (i : Fin n) (j : Fin m) (k : Fin l) (t : Fin r)
    (h : ¬ ((a ≤ i.val ∧ i.val < a + n') ∧ (b ≤ j.val ∧ j.val < b + m') ∧ (c ≤ k.val ∧ k.val < c + l') ∧ (e ≤ t.val ∧ t.val < e + r'))) :
    VecWindow.put (s := ⟨4, ![n, m, l, r]⟩) x ![a, b, c, e] ![n', m', l', r'] w (ix4 i j k t) = x (ix4 i j k t) :=
  dif_neg fun h' => h ⟨h' 0, h' 1, h' 2, h' 3⟩

/-! ## The values -/

/-- A row of the tile before followed by this tile. -/
def pc (p c : S512x1024.Idx → EReal) (r : Fin 1024) (l : Fin 1024) : EReal :=
  if h : r.val < 512 then p (ix2 ⟨r.val, h⟩ l) else c (ix2 ⟨r.val - 512, by omega⟩ l)

variable (mk : Bool) (X : St Ideal)

/-- The score of query `c % 64` of block `ci` at head `4 hq + c / 64` with key `e` of the block's band. -/
def SCf (ci : Fin 8) (hq : Fin 4) (e : Fin 576) (c : Fin 256) : EReal :=
  if mk = true ∧ 64 * ci.val + e.val < 512 then ⊥ else
    ∑ l : Fin 256, pc (X .kp) (X .kc) ⟨64 * ci.val + e.val, by omega⟩ ⟨256 * hq.val + l.val, by omega⟩
      * (if l.val / 64 = c.val / 64 then (X .q (ix2 ⟨64 * ci.val + c.val % 64, by omega⟩ ⟨256 * hq.val + l.val, by omega⟩) : EReal) * Ideal.ofBits .bf16 15872#16 else 0)
      + X .bi (ix3 hq e c)

/-- That score's exponential under the maximum over the band. -/
def PEf (ci : Fin 8) (hq : Fin 4) (e : Fin 576) (c : Fin 256) : EReal :=
  Ideal.exp (SCf mk X ci hq e c - Finset.univ.sup fun e' => SCf mk X ci hq e' c)

/-- The exponentials at the block's place among the rows of its group of four. -/
def PXf (ci : Fin 8) (hq : Fin 4) (r : Fin 768) (c : Fin 256) : EReal :=
  if h : 64 * (ci.val % 4) ≤ r.val ∧ r.val - 64 * (ci.val % 4) < 576 then PEf mk X ci hq ⟨r.val - 64 * (ci.val % 4), h.2⟩ c else 0

/-- The value gathered for query `i` of block `ci` at lane `l` of all heads. -/
def AVf (ci : Fin 8) (i : Fin 64) (l : Fin 1024) : EReal :=
  (∑ r : Fin 768, PXf mk X ci ⟨l.val / 256, by omega⟩ r ⟨64 * (l.val % 256 / 64) + i.val, by omega⟩
      * pc (X .vp) (X .vc) ⟨256 * (ci.val / 4) + r.val, by omega⟩ l)
    * Ideal.div 1 (∑ r : Fin 768, PXf mk X ci ⟨l.val / 256, by omega⟩ r ⟨64 * (l.val % 256 / 64) + i.val, by omega⟩)

/-- All the gathered values. -/
def AVs : FVec Ideal S512x1024 .f32 := fun y => AVf mk X ⟨(y 0).val / 64, by have : (y 0).val < 512 := (y 0).isLt; omega⟩ ⟨(y 0).val % 64, by omega⟩ (y 1)

/-! ## What is known of the buffers -/

/-- Block `ci`'s scores at heads `4 hq ..< 4 hq + 4` are in place. -/
def HS (s : St Ideal) (ci : Fin 8) (hq : Fin 4) : Prop :=
  ∀ (e : Fin 576) (c : Fin 256), s .st (ix4 ⟨ci.val % 2, by omega⟩ hq e c) = SCf mk X ci hq e c

/-- Block `ci`'s exponentials at those heads are in place. -/
def HP (s : St Ideal) (ci : Fin 8) (hq : Fin 4) : Prop :=
  ∀ (e : Fin 576) (c : Fin 256), s .p (ix4 ci hq ⟨64 * (ci.val % 4) + e.val, by omega⟩ c) = PEf mk X ci hq e c

/-- The rows `64 z ..< 64 z + 64` of block `b` of the exponentials are zero. -/
def HZ (s : St Ideal) (b : Fin 8) (z : Fin 12) : Prop :=
  ∀ (hq : Fin 4) (r : Fin 768) (c : Fin 256), r.val / 64 = z.val → s .p (ix4 b hq r c) = (0 : EReal)

/-- Block `ci`'s values at heads `2 hp, 2 hp + 1` are gathered. -/
def HA (s : St Ideal) (ci : Fin 8) (hp : Fin 8) : Prop :=
  ∀ (i : Fin 64) (l : Fin 128), s .a (ix2 ⟨64 * ci.val + i.val, by omega⟩ ⟨128 * hp.val + l.val, by omega⟩) = AVf mk X ci i ⟨128 * hp.val + l.val, by omega⟩

variable (M : Mem) (hM : ∀ b, (M b).IsWhole)

/-! ## Each step -/

/-- The payload of the zeros is zero. -/
theorem zero_pay (n : Fin 13) (y) :
    shapeCast (⟨4, ![1, 4, 64 * n.val, 256]⟩ : Shape) (broadcast (⟨3, ![4, 64 * n.val, 256]⟩ : Shape) (Scalar.ofBits (F := Ideal) .bf16 0x0000#16)) (cast_z n) y = (0 : EReal) := by
  have : (Scalar.ofBits (F := Ideal) .bf16 0x0000#16 : EReal) = 0 := by pointwise []
  exact this

theorem cast_sc (x : FVec Ideal S576x256 .f32) (e : Fin 576) (c : Fin 256) :
    shapeCast S1x1x576x256 x shapeCasts_S576x256_S1x1x576x256 (ix4 0 0 e c) = x (ix2 e c) := by
  pointwise []

theorem cast_rows (x : FVec Ideal S1x1x64x256 .f32) (i : Fin 64) (c : Fin 256) :
    shapeCast S64x256 x shapeCasts_S1x1x64x256_S64x256 (ix2 i c) = x (ix4 0 0 i c) := by
  pointwise []

theorem cast_p (x : FVec Ideal S1x1x768x128 .bf16) (r : Fin 768) (c : Fin 128) :
    shapeCast S768x128 x shapeCasts_S1x1x768x128_S768x128 (ix2 r c) = x (ix4 0 0 r c) := by
  pointwise []

theorem cast_a (x : FVec Ideal S64x128 .f32) (i : Fin 64) (l : Fin 128) :
    shapeCast S64x128 x shapeCasts_S64x128_S64x128 (ix2 i l) = x (ix2 i l) := by
  pointwise []

/-- The scores' payload. -/
theorem scores_pay (s : St Ideal) (hq' : s .q = X .q) (hkp : s .kp = X .kp) (hkc : s .kc = X .kc) (hbi : s .bi = X .bi) (ci : Fin 8) (hq : Fin 4) (e : Fin 576) (c : Fin 256) :
    (shapeCast S1x1x576x256 (scOf (F := Ideal) mk ci (scRaw (VecWindow.window (s .q) ![64 * ci.val, 256 * hq.val] S64x256.size (inb_q ci hq))
      (concatenate S576x256 0 [⟨(⟨2, ![512 - 64 * ci.val, 256]⟩ : Shape), VecWindow.window (s .kp) ![64 * ci.val, 256 * hq.val] ![512 - 64 * ci.val, 256] (inb_kp ci hq)⟩,
        ⟨(⟨2, ![64 + 64 * ci.val, 256]⟩ : Shape), VecWindow.window (s .kc) ![0, 256 * hq.val] ![64 + 64 * ci.val, 256] (inb_kc ci hq)⟩] (cat_k ci))
      (VecWindow.window (s .bi) ![hq.val, 0, 0] S1x576x256.size (inb_bi hq))))
      shapeCasts_S576x256_S1x1x576x256 : FVec Ideal S1x1x576x256 .f32) (ix4 0 0 e c) = SCf mk X ci hq e c := by
  refine (cast_sc _ e c).trans ?_
  rw [scOf_at, SCf, hq', hkp, hkc, hbi]
  refine if_congr Iff.rfl rfl ?_
  rw [scRaw_at]
  congr 1
  · refine Finset.sum_congr rfl fun l _ => ?_
    rw [catK_at]
    congr 1
    · rw [pc]
      by_cases h : 64 * ci.val + e.val < 512
      · rw [dif_pos h, dif_pos (show e.val < 512 - 64 * ci.val by omega)]
        exact window_at2 _ _ _ _ _ _ _ _
      · rw [dif_neg h, dif_neg (show ¬ e.val < 512 - 64 * ci.val by omega)]
        refine (window_at2 _ _ _ _ _ _ _ _).trans (congrArg (X .kc) ?_)
        congr 1
        refine Fin.ext ?_
        show 0 + (e.val - (512 - 64 * ci.val)) = 64 * ci.val + e.val - 512
        omega
    · refine if_congr Iff.rfl ?_ rfl
      congr 1
      exact window_at2 _ _ _ _ _ _ _ _
  · refine (window_at3 _ _ _ _ _ _ _ _ _ _ _).trans (congrArg (X .bi) ?_)
    congr 1 <;> exact Fin.ext (by simp)

/-- A block of rows of a table. -/
def rowsV (Y : Fin 576 → Fin 256 → EReal) (rb : Fin 9) : FVec Ideal S64x256 .f32 :=
  fun z => Y ⟨64 * rb.val + (z 0).val, by have : (z 0).val < 64 := (z 0).isLt; omega⟩ (z 1)

theorem exec_ldSt (s : St Ideal) (ci : Fin 8) (hq : Fin 4) (h : HS mk X s ci hq) (rb : Fin 9) (K : FVec Ideal S64x256 .f32 → MP Ideal M) :
    (ldSt M ci hq rb K).exec s = (K (rowsV (SCf mk X ci hq) rb)).exec s := by
  have e : shapeCast S64x256 (VecWindow.window (s .st) ![ci.val % 2, hq.val, 64 * rb.val, 0] S1x1x64x256.size (inb_str ci hq rb)) shapeCasts_S1x1x64x256_S64x256
      = rowsV (SCf mk X ci hq) rb := by
    funext y
    idx_vars y
    refine (cast_rows _ _ _).trans ((window_at4 _ _ _ _ _ _ _ _ _ _ _ _ _ _).trans ((congrArg (s .st) ?_).trans (h _ _)))
    congr 1 <;> exact Fin.ext (by simp)
  exact congrArg (fun x => (K x).exec s) e

theorem exec_maxLoop (s : St Ideal) (ci : Fin 8) (hq : Fin 4) (h : HS mk X s ci hq) (K : FVec Ideal S64x256 .f32 → MP Ideal M) :
    ∀ (l : List (Fin 9)) (m : FVec Ideal S64x256 .f32),
      (maxLoop M ci hq K l m).exec s = (K (l.foldl (fun m rb => maximumf m (rowsV (SCf mk X ci hq) rb)) m)).exec s
  | [], _ => rfl
  | rb :: l, m => (exec_ldSt mk X M s ci hq h rb _).trans (exec_maxLoop s ci hq h K l _)

/-- The exponentials' puts, in turn. -/
def exPuts (ci : Fin 8) (hq : Fin 4) (m : FVec Ideal S1x256 .f32) (l : List (Fin 9)) (x : S8x4x768x256.Idx → Elt Ideal .bf16) : S8x4x768x256.Idx → Elt Ideal .bf16 :=
  l.foldl (fun x rb => VecWindow.put x ![ci.val, hq.val, 64 * (ci.val % 4) + 64 * rb.val, 0] S1x1x64x256.size (exOf (rowsV (SCf mk X ci hq) rb) m)) x

theorem exec_expLoop (ci : Fin 8) (hq : Fin 4) (m : FVec Ideal S1x256 .f32) (K : MP Ideal M) :
    ∀ (l : List (Fin 9)) (s : St Ideal), HS mk X s ci hq →
      (expLoop M hM ci hq m K l).exec s = K.exec (Function.update s .p (exPuts mk X ci hq m l (s .p)))
  | [], s, _ => congrArg K.exec (Function.update_eq_self B.p s).symm
  | rb :: l, s, h => by
    refine (exec_ldSt mk X M s ci hq h rb _).trans ?_
    refine (exec_expLoop ci hq m K l (Function.update s .p _) ?_).trans ?_
    · intro e c
      rw [Function.update_of_ne (by decide)]
      exact h e c
    · rw [Function.update_idem, Function.update_self]
      rfl

theorem exPuts_miss (ci : Fin 8) (hq : Fin 4) (m : FVec Ideal S1x256 .f32) (i : Fin 8) (j : Fin 4) (k : Fin 768) (t : Fin 256) :
    ∀ (l : List (Fin 9)) (x : S8x4x768x256.Idx → Elt Ideal .bf16),
      (∀ rb ∈ l, ¬ (i = ci ∧ j = hq ∧ 64 * (ci.val % 4) + 64 * rb.val ≤ k.val ∧ k.val < 64 * (ci.val % 4) + 64 * rb.val + 64)) →
      exPuts mk X ci hq m l x (ix4 i j k t) = x (ix4 i j k t)
  | [], _, _ => rfl
  | rb :: l, x, h => by
    refine (exPuts_miss ci hq m i j k t l _ fun r hr => h r (List.mem_cons_of_mem _ hr)).trans ?_
    refine put_miss4 _ _ _ _ _ _ _ _ _ _ _ _ _ _ fun h' => h rb List.mem_cons_self ⟨Fin.ext ?_, Fin.ext ?_, h'.2.2.1.1, h'.2.2.1.2⟩
    · omega
    · omega

theorem exPuts_hit (ci : Fin 8) (hq : Fin 4) (m : FVec Ideal S1x256 .f32) (e : Fin 576) (t : Fin 256) :
    ∀ (l : List (Fin 9)) (x : S8x4x768x256.Idx → Elt Ideal .bf16), (⟨e.val / 64, by omega⟩ : Fin 9) ∈ l →
      exPuts mk X ci hq m l x (ix4 ci hq ⟨64 * (ci.val % 4) + e.val, by omega⟩ t) = Ideal.exp (SCf mk X ci hq e t - m (ix2 0 t))
  | [], _, h => absurd h List.not_mem_nil
  | rb :: l, x, h => by
    by_cases hl : (⟨e.val / 64, by omega⟩ : Fin 9) ∈ l
    · exact exPuts_hit ci hq m e t l _ hl
    · have hrb : rb.val = e.val / 64 := (congrArg Fin.val ((List.mem_cons.1 h).resolve_right hl)).symm
      refine (exPuts_miss mk X ci hq m _ _ _ _ l _ fun r hr h' => hl ?_).trans ?_
      · have h1 := h'.2.2.1
        have h2 := h'.2.2.2
        simp only at h1 h2
        have : r = ⟨e.val / 64, by omega⟩ := Fin.ext (by show r.val = e.val / 64; omega)
        exact this ▸ hr
      · refine (put_hit4 _ _ _ _ _ _ _ _ _ _ _ _ _ _ 0 0 ⟨e.val % 64, by omega⟩ t ?_ ?_ ?_ ?_).trans ?_
        · simp
        · simp
        · show 64 * (ci.val % 4) + e.val = 64 * (ci.val % 4) + 64 * rb.val + e.val % 64
          omega
        · simp
        · rw [exOf_at]
          have : SCf mk X ci hq e t = rowsV (SCf mk X ci hq) rb (ix2 ⟨e.val % 64, by omega⟩ t) := by
            refine congrArg (fun r => SCf mk X ci hq r t) (Fin.ext ?_)
            show e.val = 64 * rb.val + e.val % 64
            omega
          rw [this]

/-- A maximum over blocks of rows is below a bound where each of them is. -/
theorem foldl_max_le (Y : Fin 576 → Fin 256 → EReal) (z : S64x256.Idx) (b : EReal) :
    ∀ (l : List (Fin 9)) (m : FVec Ideal S64x256 .f32),
      l.foldl (fun m rb => maximumf m (rowsV Y rb)) m z ≤ b ↔ (m z : EReal) ≤ b ∧ ∀ rb ∈ l, rowsV Y rb z ≤ b
  | [], m => by simp
  | rb :: l, m => by
    refine (foldl_max_le Y z b l _).trans ?_
    have e : maximumf m (rowsV Y rb) z = max (m z : EReal) (rowsV Y rb z) := rfl
    show (maximumf m (rowsV Y rb) z : EReal) ≤ b ∧ _ ↔ _
    rw [e, max_le_iff, List.forall_mem_cons, and_assoc]

theorem colMax_rows (Y : Fin 576 → Fin 256 → EReal) (c : Fin 256) :
    colMax (([1, 2, 3, 4, 5, 6, 7, 8] : List (Fin 9)).foldl (fun m rb => maximumf m (rowsV Y rb)) (rowsV Y 0)) (ix2 0 c) = Finset.univ.sup fun e => Y e c := by
  rw [colMax_at]
  refine eq_of_forall_ge_iff fun b => ?_
  rw [Finset.sup_le_iff, Finset.sup_le_iff]
  have key : ∀ rb : Fin 9, rb = 0 ∨ rb ∈ ([1, 2, 3, 4, 5, 6, 7, 8] : List (Fin 9)) := by decide
  constructor
  · intro h e _
    have h1 := (foldl_max_le Y _ b _ _).1 (h ⟨e.val % 64, by omega⟩ (Finset.mem_univ _))
    have h2 : ∀ rb : Fin 9, rowsV Y rb (ix2 ⟨e.val % 64, by omega⟩ c) ≤ b := fun rb => (key rb).elim (fun hr => hr ▸ h1.1) (h1.2 rb)
    have h3 : Y e c = rowsV Y ⟨e.val / 64, by omega⟩ (ix2 ⟨e.val % 64, by omega⟩ c) := by
      refine congrArg (fun r => Y r c) (Fin.ext ?_)
      show e.val = 64 * (e.val / 64) + e.val % 64
      omega
    rw [h3]
    exact h2 _
  · intro h i _
    exact (foldl_max_le Y _ b _ _).2 ⟨h _ (Finset.mem_univ _), fun rb _ => h _ (Finset.mem_univ _)⟩

theorem exec_exps (s : St Ideal) (ci : Fin 8) (hq : Fin 4) (h : HS mk X s ci hq) (K : MP Ideal M) :
    (exps M hM ci hq K).exec s = K.exec (Function.update s .p (exPuts mk X ci hq
      (colMax (([1, 2, 3, 4, 5, 6, 7, 8] : List (Fin 9)).foldl (fun m rb => maximumf m (rowsV (SCf mk X ci hq) rb)) (rowsV (SCf mk X ci hq) 0)))
      [0, 1, 2, 3, 4, 5, 6, 7, 8] (s .p))) :=
  (exec_ldSt mk X M s ci hq h 0 _).trans ((exec_maxLoop mk X M s ci hq h _ _ _).trans (exec_expLoop mk X M hM ci hq _ K _ s h))

end Cert.Attn
-- ==== Proof.AttnSched.lean ====
module

public import proofs.«01_k».proof.Proof.AttnExec

@[expose] public section

set_option maxRecDepth 16384

noncomputable section

namespace Cert.Attn

open Idealize.ShloMosaic Idealize.ShloMosaic.TcCoe Idealize.SL.Sem
open Cert.KernelIdeal Cert.KernelIdeal.Shapes1.Facts₀
open scoped BigOperators

variable (mk : Bool) (X : St Ideal) (M : Mem) (hM : ∀ b, (M b).IsWhole)

/-! # The values of a group, and the pass along the schedule -/

/-- The exponentials of a block with the zeros around them are in place. -/
theorem px_of (s : St Ideal) (ci : Fin 8) (hq : Fin 4) (hp : HP mk X s ci hq)
    (hz : ∀ z : Fin 12, ¬ (ci.val % 4 ≤ z.val ∧ z.val < ci.val % 4 + 9) → HZ s ci z) (r : Fin 768) (c : Fin 256) :
    s .p (ix4 ci hq r c) = PXf mk X ci hq r c := by
  rw [PXf]
  by_cases h : 64 * (ci.val % 4) ≤ r.val ∧ r.val - 64 * (ci.val % 4) < 576
  · rw [dif_pos h, ← hp]
    refine congrArg (fun r => s .p (ix4 ci hq r c)) (Fin.ext ?_)
    show r.val = 64 * (ci.val % 4) + (r.val - 64 * (ci.val % 4))
    omega
  · rw [dif_neg h]
    exact hz ⟨r.val / 64, by omega⟩ (by show ¬ (ci.val % 4 ≤ r.val / 64 ∧ r.val / 64 < ci.val % 4 + 9); omega) hq r c rfl

/-- A group's weighted values from what the buffers hold. -/
def avIn (s : St Ideal) (g : Fin 2) (hp : Fin 8) : FVec Ideal S512x128 .f32 :=
  avOf
    (concatenate S768x512 1 [⟨S768x128, shapeCast S768x128 (VecWindow.window (s .p) ![(blk g 0).val, hp.val / 2, 0, 128 * (hp.val % 2)] S1x1x768x128.size (inb_pw (blk g 0) hp)) shapeCasts_S1x1x768x128_S768x128⟩,
      ⟨S768x128, shapeCast S768x128 (VecWindow.window (s .p) ![(blk g 1).val, hp.val / 2, 0, 128 * (hp.val % 2)] S1x1x768x128.size (inb_pw (blk g 1) hp)) shapeCasts_S1x1x768x128_S768x128⟩,
      ⟨S768x128, shapeCast S768x128 (VecWindow.window (s .p) ![(blk g 2).val, hp.val / 2, 0, 128 * (hp.val % 2)] S1x1x768x128.size (inb_pw (blk g 2) hp)) shapeCasts_S1x1x768x128_S768x128⟩,
      ⟨S768x128, shapeCast S768x128 (VecWindow.window (s .p) ![(blk g 3).val, hp.val / 2, 0, 128 * (hp.val % 2)] S1x1x768x128.size (inb_pw (blk g 3) hp)) shapeCasts_S1x1x768x128_S768x128⟩]
      concatenates_S768x128_S768x128_S768x128_S768x128_S768x512_d1)
    (concatenate S768x128 0 [⟨(⟨2, ![512 - 256 * g.val, 128]⟩ : Shape), VecWindow.window (s .vp) ![256 * g.val, 128 * hp.val] ![512 - 256 * g.val, 128] (inb_vp g hp)⟩,
      ⟨(⟨2, ![256 + 256 * g.val, 128]⟩ : Shape), VecWindow.window (s .vc) ![0, 128 * hp.val] ![256 + 256 * g.val, 128] (inb_vc g hp)⟩] (cat_v g))

/-- The values' puts, in turn. -/
def avPuts (g : Fin 2) (hp : Fin 8) (y : FVec Ideal S512x128 .f32) (l : List (Fin 4)) (x : S512x1024.Idx → Elt Ideal .f32) : S512x1024.Idx → Elt Ideal .f32 :=
  l.foldl (fun x j => VecWindow.put x ![64 * (blk g j).val, 128 * hp.val] S64x128.size (shapeCast S64x128 (avPair y j) shapeCasts_S64x128_S64x128)) x

theorem exec_avLoop (g : Fin 2) (hp : Fin 8) (y : FVec Ideal S512x128 .f32) (K : MP Ideal M) :
    ∀ (l : List (Fin 4)) (s : St Ideal), (avLoop M g hp y K l).exec s = K.exec (Function.update s .a (avPuts g hp y l (s .a)))
  | [], s => congrArg K.exec (Function.update_eq_self B.a s).symm
  | j :: l, s => by
    refine (exec_avLoop g hp y K l (Function.update s .a _)).trans ?_
    rw [Function.update_idem, Function.update_self]
    rfl

theorem exec_values (s : St Ideal) (g : Fin 2) (hp : Fin 8) (K : MP Ideal M) :
    (values M g hp K).exec s = K.exec (Function.update s .a (avPuts g hp (avIn s g hp) [0, 1, 2, 3] (s .a))) :=
  exec_avLoop M g hp (avIn s g hp) K [0, 1, 2, 3] s

theorem avPuts_miss (g : Fin 2) (hp : Fin 8) (y : FVec Ideal S512x128 .f32) (r : Fin 512) (c : Fin 1024) :
    ∀ (l : List (Fin 4)) (x : S512x1024.Idx → Elt Ideal .f32),
      (∀ j ∈ l, ¬ (64 * (blk g j).val ≤ r.val ∧ r.val < 64 * (blk g j).val + 64 ∧ 128 * hp.val ≤ c.val ∧ c.val < 128 * hp.val + 128)) →
      avPuts g hp y l x (ix2 r c) = x (ix2 r c)
  | [], _, _ => rfl
  | j :: l, x, h => by
    refine (avPuts_miss g hp y r c l _ fun r hr => h r (List.mem_cons_of_mem _ hr)).trans ?_
    exact put_miss2 _ _ _ _ _ _ _ _ fun h' => h j List.mem_cons_self ⟨h'.1.1, h'.1.2, h'.2.1, h'.2.2⟩

theorem avPuts_hit (g : Fin 2) (hp : Fin 8) (y : FVec Ideal S512x128 .f32) (j : Fin 4) (i : Fin 64) (c : Fin 128) :
    ∀ (l : List (Fin 4)) (x : S512x1024.Idx → Elt Ideal .f32), j ∈ l →
      avPuts g hp y l x (ix2 ⟨64 * (blk g j).val + i.val, by omega⟩ ⟨128 * hp.val + c.val, by omega⟩) = avPair y j (ix2 i c)
  | [], _, h => absurd h List.not_mem_nil
  | j' :: l, x, h => by
    by_cases hl : j ∈ l
    · exact avPuts_hit g hp y j i c l _ hl
    · have hj : j = j' := (List.mem_cons.1 h).resolve_right hl
      subst hj
      refine (avPuts_miss g hp y _ _ l _ fun r hr h' => hl ?_).trans ?_
      · have h1 := h'.1
        have h2 := h'.2.1
        simp only [blk] at h1 h2
        have : r = j := Fin.ext (by omega)
        exact this ▸ hr
      · refine (put_hit2 _ _ _ _ _ _ _ _ i c rfl rfl).trans ?_
        exact cast_a _ _ _

/-- A pair of heads' values at an index, where the exponentials of the group's four blocks are in place. -/
theorem avIn_at (s : St Ideal) (hvp : s .vp = X .vp) (hvc : s .vc = X .vc) (g : Fin 2) (hp : Fin 8)
    (h : ∀ (j : Fin 4) (r : Fin 768) (c : Fin 256), s .p (ix4 (blk g j) ⟨hp.val / 2, by omega⟩ r c) = PXf mk X (blk g j) ⟨hp.val / 2, by omega⟩ r c)
    (j : Fin 4) (i : Fin 64) (l : Fin 128) :
    avPair (avIn s g hp) j (ix2 i l) = AVf mk X (blk g j) i ⟨128 * hp.val + l.val, by omega⟩ := by
  have hw : ∀ (j : Fin 4) (r : Fin 768) (c : Fin 128),
      shapeCast S768x128 (VecWindow.window (s .p) ![(blk g j).val, hp.val / 2, 0, 128 * (hp.val % 2)] S1x1x768x128.size (inb_pw (blk g j) hp)) shapeCasts_S1x1x768x128_S768x128 (ix2 r c)
        = PXf mk X (blk g j) ⟨hp.val / 2, by omega⟩ r ⟨128 * (hp.val % 2) + c.val, by omega⟩ := by
    intro j r c
    refine (cast_p _ _ _).trans ((window_at4 _ _ _ _ _ _ _ _ _ _ _ _ _ _).trans ((congrArg (s .p) ?_).trans (h j r _)))
    congr 1 <;> exact Fin.ext (by simp)
  have hp4 : ∀ (r : Fin 768),
      concatenate S768x512 1 [⟨S768x128, shapeCast S768x128 (VecWindow.window (s .p) ![(blk g 0).val, hp.val / 2, 0, 128 * (hp.val % 2)] S1x1x768x128.size (inb_pw (blk g 0) hp)) shapeCasts_S1x1x768x128_S768x128⟩,
      ⟨S768x128, shapeCast S768x128 (VecWindow.window (s .p) ![(blk g 1).val, hp.val / 2, 0, 128 * (hp.val % 2)] S1x1x768x128.size (inb_pw (blk g 1) hp)) shapeCasts_S1x1x768x128_S768x128⟩,
      ⟨S768x128, shapeCast S768x128 (VecWindow.window (s .p) ![(blk g 2).val, hp.val / 2, 0, 128 * (hp.val % 2)] S1x1x768x128.size (inb_pw (blk g 2) hp)) shapeCasts_S1x1x768x128_S768x128⟩,
      ⟨S768x128, shapeCast S768x128 (VecWindow.window (s .p) ![(blk g 3).val, hp.val / 2, 0, 128 * (hp.val % 2)] S1x1x768x128.size (inb_pw (blk g 3) hp)) shapeCasts_S1x1x768x128_S768x128⟩]
      concatenates_S768x128_S768x128_S768x128_S768x128_S768x512_d1 (ix2 r ⟨128 * j.val + 64 * (l.val / 64) + i.val, by omega⟩)
        = PXf mk X (blk g j) ⟨hp.val / 2, by omega⟩ r ⟨128 * (hp.val % 2) + (64 * (l.val / 64) + i.val), by omega⟩ := by
    intro r
    refine (catP_at _ _ _ _ _ _).trans ?_
    have e1 : (⟨(128 * j.val + 64 * (l.val / 64) + i.val) / 128, by omega⟩ : Fin 4) = j := Fin.ext (by show (128 * j.val + 64 * (l.val / 64) + i.val) / 128 = j.val; omega)
    have e2 : (⟨(128 * j.val + 64 * (l.val / 64) + i.val) % 128, by omega⟩ : Fin 128) = ⟨64 * (l.val / 64) + i.val, by omega⟩ :=
      Fin.ext (by show (128 * j.val + 64 * (l.val / 64) + i.val) % 128 = 64 * (l.val / 64) + i.val; omega)
    simp only [e1, e2]
    fin_cases j
    · exact hw 0 r _
    · exact hw 1 r _
    · exact hw 2 r _
    · exact hw 3 r _
  have hv : ∀ (r : Fin 768),
      concatenate S768x128 0 [⟨(⟨2, ![512 - 256 * g.val, 128]⟩ : Shape), VecWindow.window (s .vp) ![256 * g.val, 128 * hp.val] ![512 - 256 * g.val, 128] (inb_vp g hp)⟩,
      ⟨(⟨2, ![256 + 256 * g.val, 128]⟩ : Shape), VecWindow.window (s .vc) ![0, 128 * hp.val] ![256 + 256 * g.val, 128] (inb_vc g hp)⟩] (cat_v g) (ix2 r l)
        = pc (X .vp) (X .vc) ⟨256 * g.val + r.val, by omega⟩ ⟨128 * hp.val + l.val, by omega⟩ := by
    intro r
    refine (catV_at _ _ _ _ _).trans ?_
    rw [pc, hvp, hvc]
    by_cases h : 256 * g.val + r.val < 512
    · rw [dif_pos h, dif_pos (show r.val < 512 - 256 * g.val by omega)]
      exact window_at2 _ _ _ _ _ _ _ _
    · rw [dif_neg h, dif_neg (show ¬ r.val < 512 - 256 * g.val by omega)]
      refine (window_at2 _ _ _ _ _ _ _ _).trans (congrArg (X .vc) ?_)
      congr 1
      refine Fin.ext ?_
      show 0 + (r.val - (512 - 256 * g.val)) = 256 * g.val + r.val - 512
      omega
  rw [avPair_at, avIn, avOf_at, AVf]
  have hX : ∀ r : Fin 768, PXf mk X (blk g j) ⟨hp.val / 2, by omega⟩ r ⟨128 * (hp.val % 2) + (64 * (l.val / 64) + i.val), by omega⟩
      = PXf mk X (blk g j) ⟨(128 * hp.val + l.val) / 256, by omega⟩ r ⟨64 * ((128 * hp.val + l.val) % 256 / 64) + i.val, by omega⟩ := by
    intro r
    congr 1
    · exact Fin.ext (by show hp.val / 2 = (128 * hp.val + l.val) / 256; omega)
    · exact Fin.ext (by show 128 * (hp.val % 2) + (64 * (l.val / 64) + i.val) = 64 * ((128 * hp.val + l.val) % 256 / 64) + i.val; omega)
  have hV : ∀ r : Fin 768, pc (X .vp) (X .vc) ⟨256 * g.val + r.val, by omega⟩ ⟨128 * hp.val + l.val, by omega⟩
      = pc (X .vp) (X .vc) ⟨256 * ((blk g j).val / 4) + r.val, by omega⟩ ⟨128 * hp.val + l.val, by omega⟩ := by
    intro r
    refine congrArg (fun q => pc (X .vp) (X .vc) q _) (Fin.ext ?_)
    show 256 * g.val + r.val = 256 * ((4 * g.val + j.val) / 4) + r.val
    omega
  congr 1
  · exact Finset.sum_congr rfl fun r _ => by rw [hp4, hv, hX, hV]
  · refine congrArg (Ideal.div 1) (Finset.sum_congr rfl fun r _ => by rw [hp4, hX])

/-! ## The pass -/

/-- Which blocks are known to be in place. -/
structure T where
  st : Fin 8 → Fin 4 → Bool
  p : Fin 8 → Fin 4 → Bool
  z : Fin 8 → Fin 12 → Bool
  a : Fin 8 → Fin 8 → Bool

/-- The buffers agree with what is known. -/
structure Inv (s : St Ideal) (t : T) : Prop where
  q : s .q = X .q
  kp : s .kp = X .kp
  kc : s .kc = X .kc
  vp : s .vp = X .vp
  vc : s .vc = X .vc
  bi : s .bi = X .bi
  g : s .g = X .g
  st : ∀ ci hq, t.st ci hq = true → HS mk X s ci hq
  p : ∀ ci hq, t.p ci hq = true → HP mk X s ci hq
  z : ∀ b z, t.z b z = true → HZ s b z
  a : ∀ ci hp, t.a ci hp = true → HA mk X s ci hp

/-- A step may be taken. -/
def okStep (t : T) : Step → Bool
  | .zero _ _ _ _ _ => true
  | .scores _ _ => true
  | .exps ci hq => t.st ci hq
  | .values g hp => decide (∀ j : Fin 4, t.p (blk g j) ⟨hp.val / 2, by omega⟩ = true ∧
      ∀ z : Fin 12, ¬ ((blk g j).val % 4 ≤ z.val ∧ z.val < (blk g j).val % 4 + 9) → t.z (blk g j) z = true)

/-- What is known after a step. -/
def next (t : T) : Step → T
  | .zero b lo n _ _ => { t with p := fun ci hq => t.p ci hq && !decide (ci = b), z := fun b' z => t.z b' z || (decide (b' = b) && decide (lo.val ≤ z.val) && decide (z.val < lo.val + n.val)) }
  | .scores ci hq => { t with st := fun c h => (decide (c = ci) && decide (h = hq)) || (t.st c h && !(decide (h = hq) && decide (c.val % 2 = ci.val % 2))) }
  | .exps ci hq => { t with
      p := fun c h => (decide (c = ci) && decide (h = hq)) || t.p c h
      z := fun b z => t.z b z && !(decide (b = ci) && decide (ci.val % 4 ≤ z.val) && decide (z.val < ci.val % 4 + 9)) }
  | .values g hp => { t with a := fun c h => (decide (c.val / 4 = g.val) && decide (h = hp)) || t.a c h }

theorem inv_step (s : St Ideal) (t : T) (x : Step) (ok : okStep t x = true) (h : Inv mk X s t) (K : MP Ideal M) :
    ∃ s', (x.line M hM mk K).exec s = K.exec s' ∧ Inv mk X s' (next t x) := by
  cases x with
  | zero b lo n h1 h0 =>
    refine ⟨_, rfl, ?_⟩
    constructor
    case p =>
      intro ci hq hh e c
      simp only [next, Bool.and_eq_true, Bool.not_eq_true', decide_eq_false_iff_not] at hh
      rw [Function.update_self]
      refine (put_miss4 _ _ _ _ _ _ _ _ _ _ _ _ _ _ fun h' => hh.2 (Fin.ext ?_)).trans (h.p ci hq hh.1 e c)
      omega
    case z =>
      intro b' z hh hq r c hr
      rw [Function.update_self]
      by_cases hin : b' = b ∧ lo.val ≤ z.val ∧ z.val < lo.val + n.val
      · obtain ⟨rfl, h2, h3⟩ := hin
        refine (put_hit4 _ _ _ _ _ _ _ _ _ _ _ _ _ _ 0 hq ⟨r.val - 64 * lo.val, by omega⟩ c ?_ ?_ ?_ ?_).trans (zero_pay n _)
        · simp
        · simp
        · show r.val = 64 * lo.val + (r.val - 64 * lo.val)
          omega
        · simp
      · refine (put_miss4 _ _ _ _ _ _ _ _ _ _ _ _ _ _ fun h' => hin ⟨Fin.ext ?_, ?_, ?_⟩).trans (h.z b' z ?_ hq r c hr)
        · omega
        · omega
        · omega
        · simp only [next, Bool.or_eq_true, Bool.and_eq_true, decide_eq_true_eq, and_assoc] at hh
          exact hh.resolve_right hin
    case st =>
      intro ci hq hh e c
      rw [Function.update_of_ne (by decide)]
      exact h.st ci hq hh e c
    case a =>
      intro ci hq hh e c
      rw [Function.update_of_ne (by decide)]
      exact h.a ci hq hh e c
    all_goals first
      | exact (Function.update_of_ne (by decide) _ _).trans h.q | exact (Function.update_of_ne (by decide) _ _).trans h.kp
      | exact (Function.update_of_ne (by decide) _ _).trans h.kc | exact (Function.update_of_ne (by decide) _ _).trans h.vp
      | exact (Function.update_of_ne (by decide) _ _).trans h.vc | exact (Function.update_of_ne (by decide) _ _).trans h.bi
      | exact (Function.update_of_ne (by decide) _ _).trans h.g
  | scores ci hq =>
    refine ⟨_, rfl, ?_⟩
    constructor
    case st =>
      intro c' h' hh e c
      rw [Function.update_self]
      simp only [next, Bool.or_eq_true, Bool.and_eq_true, Bool.not_eq_true', decide_eq_true_eq, Bool.and_eq_false_iff, decide_eq_false_iff_not] at hh
      rcases hh with ⟨rfl, rfl⟩ | ⟨hh, hne⟩
      · refine (put_hit4 _ _ _ _ _ _ _ _ _ _ _ _ _ _ 0 0 e c ?_ ?_ ?_ ?_).trans (scores_pay mk X s h.q h.kp h.kc h.bi c' h' e c) <;> simp
      · refine (put_miss4 _ _ _ _ _ _ _ _ _ _ _ _ _ _ fun h'' => ?_).trans (h.st c' h' hh e c)
        have h1 := h''.1
        have h2 := h''.2.1
        simp only at h1 h2
        rcases hne with hne | hne
        · exact hne (Fin.ext (by omega))
        · omega
    case p =>
      intro ci hq hh e c
      rw [Function.update_of_ne (by decide)]
      exact h.p ci hq hh e c
    case z =>
      intro b' z hh hq r c hr
      rw [Function.update_of_ne (by decide)]
      exact h.z b' z hh hq r c hr
    case a =>
      intro ci hq hh e c
      rw [Function.update_of_ne (by decide)]
      exact h.a ci hq hh e c
    all_goals first
      | exact (Function.update_of_ne (by decide) _ _).trans h.q | exact (Function.update_of_ne (by decide) _ _).trans h.kp
      | exact (Function.update_of_ne (by decide) _ _).trans h.kc | exact (Function.update_of_ne (by decide) _ _).trans h.vp
      | exact (Function.update_of_ne (by decide) _ _).trans h.vc | exact (Function.update_of_ne (by decide) _ _).trans h.bi
      | exact (Function.update_of_ne (by decide) _ _).trans h.g
  | exps ci hq =>
    refine ⟨_, exec_exps mk X M hM s ci hq (h.st ci hq ok) K, ?_⟩
    constructor
    case p =>
      intro c' h' hh e c
      rw [Function.update_self]
      simp only [next, Bool.or_eq_true, Bool.and_eq_true, decide_eq_true_eq] at hh
      by_cases hin : c' = ci ∧ h' = hq
      · obtain ⟨rfl, rfl⟩ := hin
        have key : ∀ rb : Fin 9, rb ∈ ([0, 1, 2, 3, 4, 5, 6, 7, 8] : List (Fin 9)) := by decide
        refine (exPuts_hit mk X c' h' _ e c _ _ (key _)).trans ?_
        rw [colMax_rows]
        rfl
      · refine (exPuts_miss mk X ci hq _ _ _ _ _ _ _ fun rb _ h'' => hin ⟨h''.1, h''.2.1⟩).trans (h.p c' h' (hh.resolve_left hin) e c)
    case z =>
      intro b' z hh hq' r c hr
      rw [Function.update_self]
      simp only [next, Bool.and_eq_true, Bool.not_eq_true', Bool.and_eq_false_iff, decide_eq_false_iff_not] at hh
      refine (exPuts_miss mk X ci hq _ _ _ _ _ _ _ fun rb _ h'' => ?_).trans (h.z b' z hh.1 hq' r c hr)
      rcases hh.2 with (h1 | h1) | h1
      · exact h1 h''.1
      · omega
      · omega
    case st =>
      intro ci hq hh e c
      rw [Function.update_of_ne (by decide)]
      exact h.st ci hq hh e c
    case a =>
      intro ci hq hh e c
      rw [Function.update_of_ne (by decide)]
      exact h.a ci hq hh e c
    all_goals first
      | exact (Function.update_of_ne (by decide) _ _).trans h.q | exact (Function.update_of_ne (by decide) _ _).trans h.kp
      | exact (Function.update_of_ne (by decide) _ _).trans h.kc | exact (Function.update_of_ne (by decide) _ _).trans h.vp
      | exact (Function.update_of_ne (by decide) _ _).trans h.vc | exact (Function.update_of_ne (by decide) _ _).trans h.bi
      | exact (Function.update_of_ne (by decide) _ _).trans h.g
  | values g hp =>
    refine ⟨_, exec_values M s g hp K, ?_⟩
    constructor
    case a =>
      intro c' h' hh i l
      rw [Function.update_self]
      simp only [next, Bool.or_eq_true, Bool.and_eq_true, decide_eq_true_eq] at hh
      by_cases hin : c'.val / 4 = g.val ∧ h' = hp
      · obtain ⟨h1, rfl⟩ := hin
        obtain ⟨j, rfl⟩ : ∃ j, c' = blk g j := ⟨⟨c'.val % 4, by omega⟩, Fin.ext (by show c'.val = 4 * g.val + c'.val % 4; omega)⟩
        have key : ∀ j : Fin 4, j ∈ ([0, 1, 2, 3] : List (Fin 4)) := by decide
        refine (avPuts_hit g h' _ j i l _ _ (key j)).trans (avIn_at mk X s h.vp h.vc g h' (fun j r c => ?_) j i l)
        have ok' := of_decide_eq_true ok j
        exact px_of mk X s _ _ (h.p _ _ ok'.1) (fun z hz => h.z _ z (ok'.2 z hz)) r c
      · refine (avPuts_miss g hp _ _ _ _ _ fun j _ h'' => hin ?_).trans (h.a c' h' (hh.resolve_left hin) i l)
        simp only [blk] at h''
        exact ⟨by omega, Fin.ext (by omega)⟩
    case p =>
      intro ci hq hh e c
      rw [Function.update_of_ne (by decide)]
      exact h.p ci hq hh e c
    case z =>
      intro b' z hh hq r c hr
      rw [Function.update_of_ne (by decide)]
      exact h.z b' z hh hq r c hr
    case st =>
      intro ci hq hh e c
      rw [Function.update_of_ne (by decide)]
      exact h.st ci hq hh e c
    all_goals first
      | exact (Function.update_of_ne (by decide) _ _).trans h.q | exact (Function.update_of_ne (by decide) _ _).trans h.kp
      | exact (Function.update_of_ne (by decide) _ _).trans h.kc | exact (Function.update_of_ne (by decide) _ _).trans h.vp
      | exact (Function.update_of_ne (by decide) _ _).trans h.vc | exact (Function.update_of_ne (by decide) _ _).trans h.bi
      | exact (Function.update_of_ne (by decide) _ _).trans h.g

/-- Every step of a list may be taken in turn. -/
def okAll : T → List Step → Bool
  | _, [] => true
  | t, x :: l => okStep t x && okAll (next t x) l

theorem inv_lines : ∀ (l : List Step) (s : St Ideal) (t : T), okAll t l = true → Inv mk X s t → ∀ K : MP Ideal M,
    ∃ s', (lines M hM mk l K).exec s = K.exec s' ∧ Inv mk X s' (l.foldl next t)
  | [], s, _, _, h, _ => ⟨s, rfl, h⟩
  | x :: l, s, t, ok, h, K => by
    have ok' := (Bool.and_eq_true _ _).mp ok
    obtain ⟨s₁, e₁, h₁⟩ := inv_step mk X M hM s t x ok'.1 h (lines M hM mk l K)
    obtain ⟨s₂, e₂, h₂⟩ := inv_lines l s₁ (next t x) ok'.2 h₁ K
    exact ⟨s₂, e₁.trans e₂, h₂⟩

/-- Nothing is known. -/
def t0 : T := ⟨fun _ _ => false, fun _ _ => false, fun _ _ => false, fun _ _ => false⟩

theorem ok_sched : okAll t0 sched = true := by decide +kernel

theorem all_gathered : ∀ ci hp : Fin 8, (sched.foldl next t0).a ci hp = true := by decide +kernel

end Cert.Attn
-- ==== Proof.AttnText.lean ====
module

public import proofs.«01_k».proof.Proof.AttnProg
public import Idealize.ShloMosaic.Lib.Tactic

@[expose] public section

set_option maxRecDepth 1000000
set_option maxHeartbeats 0

noncomputable section

namespace Cert.Attn

open Idealize.ShloMosaic Idealize.ShloMosaic.TcCoe Idealize.SL.Sem Idealize.ShloMosaic.Tactic
open Cert.KernelIdeal Cert.KernelIdeal.Shapes1.Facts₀

variable {F : FTy → Type} [FloatOps F] [Named F]

/-- The first tile of a sequence runs the masked body. -/
theorem text_true (i : grid0.Coords) (M : Mem) (hM : ∀ b, (M b).IsWhole)
    (h0 : (Scalar.cmpi .ne (Scalar.extui (Scalar.cmpi .eq (BitVec.ofNat 32 (i 1).val) 0#32)) 0#32 : BitVec 1) = 1#1)
    (h1 : ¬ (Scalar.cmpi .ne (Scalar.extui (Scalar.cmpi .sgt (BitVec.ofNat 32 (i 1).val) 0#32)) 0#32 : BitVec 1) = 1#1) :
    cc0_attn (F := F) i (M .q) (hM .q) (M .kp) (hM .kp) (M .kc) (hM .kc) (M .vp) (hM .vp) (M .vc) (hM .vc) (M .bi) (hM .bi) (M .g) (hM .g)
          (M .o) (hM .o) (M .st) (hM .st) (M .p) (hM .p) (M .a) (hM .a) = (body (F := F) M hM true).prog := by
  unfold cc0_attn k0_part352
  simp only [dif_pos h0, dif_neg h1]
  sl_kernel_rfl

/-- Any other tile runs the unmasked body. -/
theorem text_false (i : grid0.Coords) (M : Mem) (hM : ∀ b, (M b).IsWhole)
    (h0 : ¬ (Scalar.cmpi .ne (Scalar.extui (Scalar.cmpi .eq (BitVec.ofNat 32 (i 1).val) 0#32)) 0#32 : BitVec 1) = 1#1)
    (h1 : (Scalar.cmpi .ne (Scalar.extui (Scalar.cmpi .sgt (BitVec.ofNat 32 (i 1).val) 0#32)) 0#32 : BitVec 1) = 1#1) :
    cc0_attn (F := F) i (M .q) (hM .q) (M .kp) (hM .kp) (M .kc) (hM .kc) (M .vp) (hM .vp) (M .vc) (hM .vc) (M .bi) (hM .bi) (M .g) (hM .g)
          (M .o) (hM .o) (M .st) (hM .st) (M .p) (hM .p) (M .a) (hM .a) = (body (F := F) M hM false).prog := by
  unfold cc0_attn k0_part352
  simp only [dif_neg h0, dif_pos h1]
  sl_kernel_rfl

end Cert.Attn
-- ==== Proof.AttnWp.lean ====
module

public import proofs.«01_k».proof.Proof.AttnText
public import proofs.«01_k».proof.Proof.Gen.KernelIdeal.Frame.Runs

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The buffers held, at contents `s`. -/
def held (c : Dev nD) (M : Mem) (s : St F) : sProp 𝕄 :=
  bigSep (Finset.univ : Finset B) fun b => owns (c : Thread nD τ) (M b) fullShare (s b)

/-- One buffer out of the held ones, and back at other contents. -/
theorem held_out (c : Dev nD) (M : Mem) (s : St F) (b : B) :
    held c M s ⊢ iprop(owns (c : Thread nD τ) (M b) fullShare (s b)
      ∗ bigSep (Finset.univ.erase b) fun b' => owns (c : Thread nD τ) (M b') fullShare (s b')) := by
  unfold held; rw [bigSep_univ_split b]; exact .rfl

theorem held_in (c : Dev nD) (M : Mem) (s : St F) (b : B) (x : b.shape.Idx → Elt F b.elt) :
    iprop(owns (c : Thread nD τ) (M b) fullShare x
      ∗ bigSep (Finset.univ.erase b) fun b' => owns (c : Thread nD τ) (M b') fullShare (s b')) ⊢ held c M (Function.update s b x) := by
  unfold held; rw [bigSep_univ_split b]
  rw [show (Function.update s b x) b = x from Function.update_self ..]
  rw [bigSep_congr (s := Finset.univ.erase b) (Φ := fun b' => (owns (c : Thread nD τ) (M b') fullShare (s b') : sProp 𝕄))
    (Ψ := fun b' => owns (c : Thread nD τ) (M b') fullShare (Function.update s b x b')) (fun b' hb => by
      rw [Function.update_of_ne (Finset.ne_of_mem_erase hb)])]
  exact .rfl

/-- A line of loads and stores runs: the buffers held at contents `s`, it ends with them at what it makes of `s`. -/
theorem wp_prog (c : Dev nD) (M : Mem) (K : PUnit → sProp 𝕄) (E : Set ℕ) (P : MP F M) : ∀ s : St F,
    iprop(held c M s ∗ (held c M (P.exec s) -∗ K ⟨⟩)) ⊢ wp frame (wpE (defs₀ (F := F)) Variants.none c none) E P.prog K := by
  induction P with
  | done =>
    intro s
    show _ ⊢ wp frame _ E (.ret ⟨⟩) K
    rw [wp_ret]
    iintro ⟨H, Hk⟩
    imodintro
    iapply Hk
    iexact H
  | load b off size inb hl k ih =>
    intro s
    iintro ⟨H, Hk⟩
    ihave ⟨Hb, Hr⟩ := (held_out c M s b) $$ H
    unfold owns
    icases Hb with ⟨%f, %hf, Hb⟩
    iapply (wp_load (defs := defs₀ (F := F)) Variants.none (c : Thread nD τ) none E (hl := hl) (S := (M b).view.set) (View.setOn_subset_set _ _)) $$ Hb
    iintro Hb
    rw [View.readAt_unit (M b).view f inb rfl inb, hf]
    iapply (ih (VecWindow.window (s b) off size inb) s)
    isplitl [Hb Hr]
    · have e := held_in (F := F) c M s b (s b)
      rw [Function.update_eq_self] at e
      iapply e
      isplitl [Hb]
      · unfold owns; iexists f; isplitr
        · ipureintro; exact hf
        iexact Hb
      unfold owns
      iexact Hr
    iexact Hk
  | store b off size inb w hx k ih =>
    intro s
    iintro ⟨H, Hk⟩
    ihave ⟨Hb, Hr⟩ := (held_out c M s b) $$ H
    unfold owns
    icases Hb with ⟨%f, %hf, Hb⟩
    iapply (wp_store (defs := defs₀ (F := F)) Variants.none (c : Thread nD τ) none E (hx := hx) (S := (M b).view.set) (View.set_slice_subset _ _)) $$ Hb
    iintro Hb
    iapply (ih (Function.update s b (VecWindow.put (s b) off size w)))
    isplitl [Hb Hr]
    · iapply (held_in c M s b)
      isplitl [Hb]
      · unfold owns; iexists _; isplitr
        swap; · iexact Hb
        ipureintro
        have e := View.read_writes_cons_put (Val := Elt F) (M b).view f inb w [] rfl
        rw [View.writes_nil, hf] at e
        exact e
      unfold owns
      iexact Hr
    iexact Hk

end Cert.Attn
-- ==== Proof.AttnRun.lean ====
module

public import proofs.«01_k».proof.Proof.AttnSched
public import proofs.«01_k».proof.Proof.AttnWp
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Shapes1.Facts₀

local notation "𝕄" => MT nD τ sig Unit (Elt Ideal) ℕ (UR sig nD τ) ℕ

/-! # The attention's run, with what each tile writes named -/

/-- A load of the whole of a buffer. -/
theorem window_whole {α : Type} {s : Shape} (x : s.Idx → α) (off : Fin s.rank → ℕ) (h : ∀ a, off a = 0) (inb : ∀ a, off a + s.size a ≤ s.size a) :
    VecWindow.window x off s.size inb = x := by
  funext y
  refine congrArg x (funext fun a => Fin.ext ?_)
  show off a + 1 * (y a).val = (y a).val
  have := h a
  omega

/-- A put over the whole of a buffer. -/
theorem put_whole {α : Type} {s : Shape} (x w : s.Idx → α) (off : Fin s.rank → ℕ) (h : ∀ a, off a = 0) :
    VecWindow.put x off s.size w = w := by
  funext y
  refine (dif_pos fun a => ?_).trans (congrArg w (funext fun a => Fin.ext ?_))
  · have := h a
    have := (y a).isLt
    omega
  · show (y a).val - off a = (y a).val
    have := h a
    omega

theorem off2 : ∀ a, (![0, 0] : Fin 2 → ℕ) a = 0 := by decide

/-- What a tile writes. -/
def OUT (mk : Bool) (X : St Ideal) : FVec Ideal S512x1024 .bf16 := normOf (AVs mk X) (X .g)

theorem exec_norm (M : Mem) (hM : ∀ b, (M b).IsWhole) (s : St Ideal) :
    (norm M hM).exec s = Function.update s .o (normOf (F := Ideal) (s .a) (s .g)) := by
  have e1 : VecWindow.window (s .a) ![0, 0] S512x1024.size Shapes1.Facts₀.inb_S512x1024_S512x1024_0_0 = s .a := window_whole (s := S512x1024) _ _ off2 _
  have e2 : VecWindow.window (s .g) ![0, 0] S1x1024.size Shapes1.Facts₀.inb_S1x1024_S1x1024_0_0 = s .g := window_whole (s := S1x1024) _ _ off2 _
  have e3 : VecWindow.put (s .o) ![0, 0] S512x1024.size (normOf (F := Ideal) (s .a) (s .g)) = normOf (F := Ideal) (s .a) (s .g) :=
    put_whole (s := S512x1024) _ _ _ off2
  rw [norm]
  simp only [MP.exec]
  rw [e1, e2, e3]

/-- All the values are gathered. -/
theorem gathered (mk : Bool) (X s : St Ideal) (h : ∀ ci hp, HA mk X s ci hp) : (s .a : S512x1024.Idx → EReal) = AVs mk X := by
  have key : ∀ (r : Fin 512) (l : Fin 1024), (s .a (ix2 r l) : EReal) = AVf mk X ⟨r.val / 64, by omega⟩ ⟨r.val % 64, by omega⟩ l := by
    intro r l
    have e := h ⟨r.val / 64, by omega⟩ ⟨l.val / 128, by omega⟩ ⟨r.val % 64, by omega⟩ ⟨l.val % 128, by omega⟩
    have e1 : (⟨64 * (r.val / 64) + r.val % 64, by omega⟩ : Fin 512) = r := Fin.ext (by show 64 * (r.val / 64) + r.val % 64 = r.val; omega)
    have e2 : (⟨128 * (l.val / 128) + l.val % 128, by omega⟩ : Fin 1024) = l := Fin.ext (by show 128 * (l.val / 128) + l.val % 128 = l.val; omega)
    simp only [e1, e2] at e
    exact e
  funext y
  idx_vars y
  exact key _ _

/-- A tile's body keeps its inputs and writes `OUT` of them. -/
theorem exec_body (mk : Bool) (M : Mem) (hM : ∀ b, (M b).IsWhole) (X : St Ideal) :
    ∃ s', (body (F := Ideal) M hM mk).exec X = s' ∧ s' .q = X .q ∧ s' .kp = X .kp ∧ s' .kc = X .kc ∧ s' .vp = X .vp ∧ s' .vc = X .vc ∧ s' .bi = X .bi
      ∧ s' .g = X .g ∧ s' .o = OUT mk X := by
  obtain ⟨s, e, h⟩ := inv_lines mk X M hM sched X t0 ok_sched
    ⟨rfl, rfl, rfl, rfl, rfl, rfl, rfl, fun _ _ h => (Bool.false_ne_true h).elim, fun _ _ h => (Bool.false_ne_true h).elim,
      fun _ _ h => (Bool.false_ne_true h).elim, fun _ _ h => (Bool.false_ne_true h).elim⟩ (norm M hM)
  refine ⟨_, e.trans (exec_norm M hM s), ?_, ?_, ?_, ?_, ?_, ?_, ?_, ?_⟩
  · exact (Function.update_of_ne (by decide) _ _).trans h.q
  · exact (Function.update_of_ne (by decide) _ _).trans h.kp
  · exact (Function.update_of_ne (by decide) _ _).trans h.kc
  · exact (Function.update_of_ne (by decide) _ _).trans h.vp
  · exact (Function.update_of_ne (by decide) _ _).trans h.vc
  · exact (Function.update_of_ne (by decide) _ _).trans h.bi
  · exact (Function.update_of_ne (by decide) _ _).trans h.g
  · rw [Function.update_self, OUT, h.g]
    exact congrArg (fun a => normOf (F := Ideal) a (X .g)) (gathered mk X s fun ci hp => h.a ci hp (all_gathered ci hp))

/-- The buffers' contents from their eleven parts. -/
def inp (x0 x1 x2 x3 x4 : FVec Ideal S512x1024 .bf16) (x5 : FVec Ideal S4x576x256 .f32) (x6 : FVec Ideal S1x1024 .f32)
    (x7 : FVec Ideal S512x1024 .bf16) (x8 : FVec Ideal S2x4x576x256 .f32) (x9 : FVec Ideal S8x4x768x256 .bf16) (x10 : FVec Ideal S512x1024 .f32) : St Ideal
  | .q => x0 | .kp => x1 | .kc => x2 | .vp => x3 | .vc => x4 | .bi => x5 | .g => x6 | .o => x7 | .st => x8 | .p => x9 | .a => x10

variable (m : (ℓ : Loc nD τ sig) → Buf (Elt Ideal) ℓ) (ρ : Dev nD → PrngReg)

/-- The tile's inputs at a point, whatever its other buffers hold. -/
def inAt (c : Dev nD) (t : Fin cfg0.N) : St Ideal :=
  inp (iblk m c 0 t) (iblk m c 1 t) (iblk m c 2 t) (iblk m c 3 t) (iblk m c 4 t) (iblk m c 5 t) (iblk m c 6 t) 0 0 0 0

/-- What a point leaves in the output's buffer. -/
def outAt (c : Dev nD) (t : Fin cfg0.N) : FVec Ideal S512x1024 .bf16 := OUT (decide (t.val % 8 = 0)) (inAt m c t)

/-- The references at a point. -/
def memAt (t : Fin cfg0.N) : Mem
  | .q => ms0_0 t | .kp => ms0_1 t | .kc => ms0_2 t | .vp => ms0_3 t | .vc => ms0_4 t | .bi => ms0_5 t | .g => ms0_6 t | .o => ms0_7 t
  | .st => scM0_0 | .p => scM0_1 | .a => scM0_2

theorem memAt_whole (t : Fin cfg0.N) : ∀ b, (memAt t b).IsWhole
  | .q => hs0_0 t | .kp => hs0_1 t | .kc => hs0_2 t | .vp => hs0_3 t | .vc => hs0_4 t | .bi => hs0_5 t | .g => hs0_6 t | .o => hs0_7 t
  | .st => Memref.isWhole_whole _ | .p => Memref.isWhole_whole _ | .a => Memref.isWhole_whole _

/-- The pipeline's proof data: the arrays as the region finds them, each input's buffer at its block, the output's at `outAt`. -/
def adats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q w := Pipeline.shareOf spec0 w
  owed _ := 0

theorem arr_eq (c : Dev nD) (w : Fin cfg0.W) : (adats m 0 c).A w = V m c (Pipeline.arrRef spec0 w) := by dsimp only [adats]
theorem aft0 (c : Dev nD) (t : Fin cfg0.N) : (adats m 0 c).after 0 t = iblk m c 0 t := by dsimp only [adats]
theorem aft1 (c : Dev nD) (t : Fin cfg0.N) : (adats m 0 c).after 1 t = iblk m c 1 t := by dsimp only [adats]
theorem aft2 (c : Dev nD) (t : Fin cfg0.N) : (adats m 0 c).after 2 t = iblk m c 2 t := by dsimp only [adats]
theorem aft3 (c : Dev nD) (t : Fin cfg0.N) : (adats m 0 c).after 3 t = iblk m c 3 t := by dsimp only [adats]
theorem aft4 (c : Dev nD) (t : Fin cfg0.N) : (adats m 0 c).after 4 t = iblk m c 4 t := by dsimp only [adats]
theorem aft5 (c : Dev nD) (t : Fin cfg0.N) : (adats m 0 c).after 5 t = iblk m c 5 t := by dsimp only [adats]
theorem aft6 (c : Dev nD) (t : Fin cfg0.N) : (adats m 0 c).after 6 t = iblk m c 6 t := by dsimp only [adats]
theorem aft7 (c : Dev nD) (t : Fin cfg0.N) : (adats m 0 c).after 7 t = outAt m c t := by dsimp only [adats]

theorem bef0 (c : Dev nD) (t : Fin cfg0.N) (d) : (adats m 0 c).before 0 t d = iblk m c 0 t := before0_0_of m (adats m 0 c) (arr_eq m c 0) (aft0 m c) t d
theorem bef1 (c : Dev nD) (t : Fin cfg0.N) (d) : (adats m 0 c).before 1 t d = iblk m c 1 t := before0_1_of m (adats m 0 c) (arr_eq m c 1) (aft1 m c) t d
theorem bef2 (c : Dev nD) (t : Fin cfg0.N) (d) : (adats m 0 c).before 2 t d = iblk m c 2 t := before0_2_of m (adats m 0 c) (arr_eq m c 2) (aft2 m c) t d
theorem bef3 (c : Dev nD) (t : Fin cfg0.N) (d) : (adats m 0 c).before 3 t d = iblk m c 3 t := before0_3_of m (adats m 0 c) (arr_eq m c 3) (aft3 m c) t d
theorem bef4 (c : Dev nD) (t : Fin cfg0.N) (d) : (adats m 0 c).before 4 t d = iblk m c 4 t := before0_4_of m (adats m 0 c) (arr_eq m c 4) (aft4 m c) t d
theorem bef5 (c : Dev nD) (t : Fin cfg0.N) (d) : (adats m 0 c).before 5 t d = iblk m c 5 t := before0_5_of m (adats m 0 c) (arr_eq m c 5) (aft5 m c) t d
theorem bef6 (c : Dev nD) (t : Fin cfg0.N) (d) : (adats m 0 c).before 6 t d = iblk m c 6 t := before0_6_of m (adats m 0 c) (arr_eq m c 6) (aft6 m c) t d

/-- The held buffers, one by one. -/
theorem held_eq (c : Dev nD) (M : Mem) (s : St Ideal) :
    (held c M s : sProp 𝕄) = iprop(owns (c : Thread nD τ) (M .q) fullShare (s .q) ∗ owns (c : Thread nD τ) (M .kp) fullShare (s .kp)
      ∗ owns (c : Thread nD τ) (M .kc) fullShare (s .kc) ∗ owns (c : Thread nD τ) (M .vp) fullShare (s .vp) ∗ owns (c : Thread nD τ) (M .vc) fullShare (s .vc)
      ∗ owns (c : Thread nD τ) (M .bi) fullShare (s .bi) ∗ owns (c : Thread nD τ) (M .g) fullShare (s .g) ∗ owns (c : Thread nD τ) (M .o) fullShare (s .o)
      ∗ owns (c : Thread nD τ) (M .st) fullShare (s .st) ∗ owns (c : Thread nD τ) (M .p) fullShare (s .p) ∗ owns (c : Thread nD τ) (M .a) fullShare (s .a)) :=
  bigSep_univ_eq_bigSepL [B.q, .kp, .kc, .vp, .vc, .bi, .g, .o, .st, .p, .a] (by decide) (by decide) _

/-- The body's text at a point is the line of loads and stores of its case. -/
theorem bodyAt_eq (t : Fin cfg0.N) : bodyAt0 (F := Ideal) t = (body (F := Ideal) (memAt t) (memAt_whole t) (decide (t.val % 8 = 0))).prog := by
  by_cases h : t.val % 8 = 0
  · rw [decide_eq_true h]
    exact text_true (grid0.coords t) (memAt t) (memAt_whole t) ((hcond0_0 t).mpr h) (fun h' => by have := (hcond0_1 t).mp h'; omega)
  · rw [decide_eq_false h]
    exact text_false (grid0.coords t) (memAt t) (memAt_whole t) (fun h' => h ((hcond0_0 t).mp h')) ((hcond0_1 t).mpr (by omega))

/-- What the body is called with at a point, -/
def bPre (c : Dev nD) (t : Fin cfg0.N) : sProp 𝕄 :=
  iprop((adats m 0 c).Φ t.castSucc ∗ (adats m 0 c).owesAt () t.castSucc
    ∗ (∃ d, owns (c : Thread nD τ) (ms0_0 t) fullShare ((adats m 0 c).before 0 t d))
    ∗ (∃ d, owns (c : Thread nD τ) (ms0_1 t) fullShare ((adats m 0 c).before 1 t d))
    ∗ (∃ d, owns (c : Thread nD τ) (ms0_2 t) fullShare ((adats m 0 c).before 2 t d))
    ∗ (∃ d, owns (c : Thread nD τ) (ms0_3 t) fullShare ((adats m 0 c).before 3 t d))
    ∗ (∃ d, owns (c : Thread nD τ) (ms0_4 t) fullShare ((adats m 0 c).before 4 t d))
    ∗ (∃ d, owns (c : Thread nD τ) (ms0_5 t) fullShare ((adats m 0 c).before 5 t d))
    ∗ (∃ d, owns (c : Thread nD τ) (ms0_6 t) fullShare ((adats m 0 c).before 6 t d))
    ∗ (∃ d, owns (c : Thread nD τ) (ms0_7 t) fullShare ((adats m 0 c).before 7 t d)))

/-- and what it returns. -/
def bPost (c : Dev nD) (t : Fin cfg0.N) : sProp 𝕄 :=
  iprop((adats m 0 c).Φ t.succ ∗ (adats m 0 c).owesAt () t.succ
    ∗ owns (c : Thread nD τ) (ms0_0 t) fullShare ((adats m 0 c).after 0 t)
    ∗ owns (c : Thread nD τ) (ms0_1 t) fullShare ((adats m 0 c).after 1 t)
    ∗ owns (c : Thread nD τ) (ms0_2 t) fullShare ((adats m 0 c).after 2 t)
    ∗ owns (c : Thread nD τ) (ms0_3 t) fullShare ((adats m 0 c).after 3 t)
    ∗ owns (c : Thread nD τ) (ms0_4 t) fullShare ((adats m 0 c).after 4 t)
    ∗ owns (c : Thread nD τ) (ms0_5 t) fullShare ((adats m 0 c).after 5 t)
    ∗ owns (c : Thread nD τ) (ms0_6 t) fullShare ((adats m 0 c).after 6 t)
    ∗ owns (c : Thread nD τ) (ms0_7 t) fullShare ((adats m 0 c).after 7 t))

set_option maxHeartbeats 1600000 in
/-- The body at any point. -/
theorem body_sound (c : Dev nD) (t : Fin cfg0.N) :
    bPre m c t ⊢ wp frame (wpE (defs₀ (F := Ideal)) Variants.none c none) Set.univ (bodyAt0 t) (fun _ => bPost m c t) := by
  unfold bPre bPost
  rw [bodyAt_eq]
  simp only [bef0, bef1, bef2, bef3, bef4, bef5, bef6]
  rw [show (adats m 0 c).Φ t.succ = (adats m 0 c).Φ t.castSucc from rfl,
    show (adats m 0 c).owesAt () t.succ = (adats m 0 c).owesAt () t.castSucc from rfl,
    aft0, aft1, aft2, aft3, aft4, aft5, aft6, aft7]
  rw [show (adats m 0 c).Φ t.castSucc = Pipeline.ΦA spec0 c from rfl, PhiA0_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨s', hs, h0, h1, h2, h3, h4, h5, h6, h7⟩ := exec_body (decide (t.val % 8 = 0)) (memAt t) (memAt_whole t)
    (inp (iblk m c 0 t) (iblk m c 1 t) (iblk m c 2 t) (iblk m c 3 t) (iblk m c 4 t) (iblk m c 5 t) (iblk m c 6 t) ((adats m 0 c).before 7 t d7) e0 e1 e2)
  iapply (wp_prog c (memAt t) _ Set.univ (body (F := Ideal) (memAt t) (memAt_whole t) (decide (t.val % 8 = 0)))
    (inp (iblk m c 0 t) (iblk m c 1 t) (iblk m c 2 t) (iblk m c 3 t) (iblk m c 4 t) (iblk m c 5 t) (iblk m c 6 t) ((adats m 0 c).before 7 t d7) e0 e1 e2))
  rw [hs, held_eq, held_eq, h0, h1, h2, h3, h4, h5, h6, h7]
  isplitl [H0 H1 H2 H3 H4 H5 H6 H7 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iexact HS2
  iintro ⟨H0, H1, H2, H3, H4, H5, H6, H7, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body as `bodyAt0` spells it. -/
theorem row_eq (t : Fin cfg0.N) : defs₀ (F := Ideal) .tc cfg0.body (cfg0.bodyArgs t (cfg0.slots t)) = bodyAt0 t := by
  unfold defs₀; rw [Defs.onTc_tc]

theorem body_ob (c : Dev nD) : BodyObligation (adats m 0 c) (defs₀ (F := Ideal)) Variants.none () Set.univ := fun t => by
  rw [bigSep_W0, bigSep_W0, row_eq]
  exact triple_restated (body_sound m c t) rfl .rfl fun _ => .rfl

set_option backward.isDefEq.respectTransparency.types false in
theorem run_q : θ_run defs (onTc (τ := τ) (main (F := Ideal))) (s₀ m ρ) (fun r => (Pipeline.FramePost cfgs (adats m) 0 (V m)) r ∧ r.2.sem = fun _ => 0) :=
  Pipeline.θ_run_frame_shared (Q' := _) cfgs (adats m) (0 : Fin 1) launch₀0 defs₀ Variants.none m ρ main
    (hbody := fun c => (body_ob m c).loose) (hq := fun _ _ _ => rfl)
    (howed := fun _ _ => rfl) (V := V m) (hmain := hmain m Variants.none) (hA := arr_eq m) (hΦ := fun _ _ => rfl)

/-- The run: the output array at what the tiles wrote, the arguments as they were. -/
theorem run : θ_run defs (onTc (τ := τ) (main (F := Ideal))) ⟨m, fun _ => 0, ρ⟩ (fun r => ∀ c : Dev nD,
      r.2.mem ((c.tc : Thread nD τ).loc main_v1) = (adats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2.1 c).1 7, h.1 c⟩)
    (θ_run_and (frame_of m ρ (adats m) (arr_eq m) ((θ_run defs _ _).mono (fun _ h => h.1) (run_q m ρ))) (run_q m ρ))

end Cert.Attn
-- ==== Proof.AttnValue.lean ====
module

public import proofs.«01_k».proof.Proof.AttnRefAt
public import proofs.«01_k».proof.Proof.AttnMath
public import proofs.«01_k».proof.Proof.AttnRun
public import proofs.«01_k».proof.Proof.AttnAt

@[expose] public section

set_option maxRecDepth 16384

noncomputable section

open Idealize.ShloMosaic Idealize.ShloMosaic.TcCoe Idealize.SL.Sem
open Idealize.ShloMosaic.Pipeline (Dat)
open scoped BigOperators

namespace Cert.Attn

/-! # The reference's rows and the kernel's rows are one closed form -/

section Ref
open Cert.ReferenceIdeal Cert.ReferenceIdeal.Facts₀

variable (A : FVec Ideal S16384x3072 .bf16) (B : FVec Ideal S4x576x256 .f32)

/-- A key's or a value's entry in a chunk's band. -/
theorem band_at (off : ℕ) (h) (hoff : off + 1024 ≤ 3072) (R : Fin 16384) (e : Fin 576) (H : Fin 16) (d : Fin 64) (hv : 512 ≤ R.val % 4096 / 64 * 64 + e.val) :
    rBand (rPad (rSlab A off h)) (ix5 ⟨R.val / 4096, by omega⟩ ⟨R.val / 64 % 64, by omega⟩ e H d)
      = aN A (R.val / 64 * 64 + e.val - 512) (off + (64 * H.val + d.val)) := by
  have he := e.isLt
  rw [rBand_at, rPad_at, dif_pos (by show 8 ≤ R.val / 64 % 64 + e.val / 64; omega), rSlab_at A off h _ _ _ _ _ hoff, aN_eq A]
  congr 1
  · show R.val / 4096 * 4096 + ((R.val / 64 % 64 + e.val / 64 - 8) * 64 + e.val % 64) = _
    omega
  · show off + (H.val * 64 + d.val) = _
    omega

theorem rS_at (R : Fin 16384) (H : Fin 16) (e : Fin 576) :
    rS A B (ix5 ⟨R.val / 4096, by omega⟩ ⟨R.val / 64 % 64, by omega⟩ H ⟨R.val % 64, by omega⟩ e) = Sc A B R.val H.val e := by
  have he := e.isLt
  unfold rS Sc
  rw [rScore_at, rValid_at]
  by_cases h : 512 ≤ R.val % 4096 / 64 * 64 + e.val
  · rw [if_pos h, if_pos (by show 8 ≤ R.val / 64 % 64 + e.val / 64; omega)]
    refine congrArg₂ (· + ·) (congrArg (· * sc8) (Finset.sum_congr rfl fun d _ => ?_)) ?_
    · rw [band_at A 1024 _ (by omega) R e H d h, rSlab_at A 0 _ _ _ _ _ _ (by omega), aN_eq A]
      refine congrArg (· * _) (congrArg₂ _ ?_ ?_)
      · show R.val / 4096 * 4096 + (R.val / 64 % 64 * 64 + R.val % 64) = _
        omega
      · show 0 + (H.val * 64 + d.val) = _
        omega
    · rw [rBias_at, bN_eq B]
      refine congrArg _ ?_
      show H.val % 4 * 64 + R.val % 64 = _
      omega
  · rw [if_neg h, if_neg (by show ¬ 8 ≤ R.val / 64 % 64 + e.val / 64; omega)]
    rfl

theorem rP_at (R : Fin 16384) (H : Fin 16) (e : Fin 576) :
    rExp (rS A B) (ix5 ⟨R.val / 4096, by omega⟩ ⟨R.val / 64 % 64, by omega⟩ H ⟨R.val % 64, by omega⟩ e) = pexp (Sc A B R.val H.val) e := by
  rw [rExp_at, rMax_sup]
  unfold pexp
  rw [rS_at]
  refine congrArg (fun z => Ideal.exp (_ - z)) (congrArg _ (funext fun e' => ?_))
  exact rS_at A B R H e'

/-- The reference's gathered values. -/
def rY : FVec Ideal S16384x1024 .f32 :=
  rOut (rBand (rPad (rSlab A 2048 slices_S4x4096x3072_S4x4096x1024_0_0_2048))) (rExp (rS A B))

theorem rY_at (hF : Fin3 A B) (R : Fin 16384) (l : Fin 1024) : rY A B (ix2 R l) = Yv A B R.val l.val := by
  unfold rY
  rw [rOut_at]
  simp only [rP_at A B R ⟨l.val / 64, by omega⟩]
  refine Yv_ref hF R.val l.val l.isLt _ fun e hv => ?_
  rw [band_at A 2048 _ (by omega) R e _ _ hv]
  refine congrArg _ ?_
  show 2048 + (64 * (l.val / 64) + l.val % 64) = _
  omega

end Ref

section Ker
open Cert.KernelIdeal Cert.KernelIdeal.Gen

variable (m : (ℓ : Loc nD τ sig) → Buf (Elt Ideal) ℓ)

theorem aidx : ∀ t : Fin cfg0.N, win0_0.index t = ![t.val, 0]
    ∧ win0_1.index t = ![if t.val % 8 = 0 then t.val else t.val - 1, 1]
    ∧ win0_2.index t = ![t.val, 1]
    ∧ win0_3.index t = ![if t.val % 8 = 0 then t.val else t.val - 1, 2]
    ∧ win0_4.index t = ![t.val, 2]
    ∧ win0_5.index t = ![0, 0, 0]
    ∧ win0_6.index t = ![0, 0]
    ∧ win0_7.index t = ![t.val, 0] :=
  (by decide +kernel : ∀ t : Fin grid0.N, _)

theorem tlt (t : Fin cfg0.N) : t.val < 32 := t.isLt

/-- The projected array of the launch. -/
def mA (c : Dev nD) : FVec Ideal S16384x3072 .bf16 := m ((c.tc : Thread nD τ).loc main_arg0)
/-- Its table of biases. -/
def mB (c : Dev nD) : FVec Ideal S4x576x256 .f32 := m ((c.tc : Thread nD τ).loc main_arg1)
/-- Its norm's weights. -/
def mG (c : Dev nD) : FVec Ideal S1024 .f32 := m ((c.tc : Thread nD τ).loc main_arg2)

theorem ablk0 (c : Dev nD) (t : Fin cfg0.N) (r : Fin 512) (k : Fin 1024) :
    iblk m c 0 t (ix2 r k) = mA m c (ix2 ⟨t.val * 512 + r.val, by have := tlt t; omega⟩ ⟨k.val, by omega⟩) := by
  unfold mA
  blk_point [iblk, V, aidx t]

theorem ablk1 (c : Dev nD) (t : Fin cfg0.N) (h : t.val % 8 ≠ 0) (r : Fin 512) (k : Fin 1024) :
    iblk m c 1 t (ix2 r k) = mA m c (ix2 ⟨(t.val - 1) * 512 + r.val, by have := tlt t; omega⟩ ⟨1024 + k.val, by omega⟩) := by
  unfold mA
  blk_point [iblk, V, aidx t, h]
  rw [if_neg id]

theorem ablk2 (c : Dev nD) (t : Fin cfg0.N) (r : Fin 512) (k : Fin 1024) :
    iblk m c 2 t (ix2 r k) = mA m c (ix2 ⟨t.val * 512 + r.val, by have := tlt t; omega⟩ ⟨1024 + k.val, by omega⟩) := by
  unfold mA
  blk_point [iblk, V, aidx t]

theorem ablk3 (c : Dev nD) (t : Fin cfg0.N) (h : t.val % 8 ≠ 0) (r : Fin 512) (k : Fin 1024) :
    iblk m c 3 t (ix2 r k) = mA m c (ix2 ⟨(t.val - 1) * 512 + r.val, by have := tlt t; omega⟩ ⟨2048 + k.val, by omega⟩) := by
  unfold mA
  blk_point [iblk, V, aidx t, h]
  rw [if_neg id]

theorem ablk4 (c : Dev nD) (t : Fin cfg0.N) (r : Fin 512) (k : Fin 1024) :
    iblk m c 4 t (ix2 r k) = mA m c (ix2 ⟨t.val * 512 + r.val, by have := tlt t; omega⟩ ⟨2048 + k.val, by omega⟩) := by
  unfold mA
  blk_point [iblk, V, aidx t]

theorem ablk5 (c : Dev nD) (t : Fin cfg0.N) (h : Fin 4) (e : Fin 576) (k : Fin 256) :
    iblk m c 5 t (ix3 h e k) = mB m c (ix3 h e k) := by
  unfold mB
  blk_point [iblk, V, aidx t]

theorem ablk6 (c : Dev nD) (t : Fin cfg0.N) (k : Fin 1024) :
    iblk m c 6 t (ix2 0 k) = mG m c (ix1 k) := by
  unfold mG
  blk_point [iblk, V, aidx t]

/-- The keys before and of a tile, by row of the layer. -/
theorem pck (c : Dev nD) (t : Fin cfg0.N) (r : Fin 1024) (l : Fin 1024) (h : t.val % 8 ≠ 0 ∨ 512 ≤ r.val) :
    pc (iblk m c 1 t) (iblk m c 2 t) r l = aN (mA m c) (t.val * 512 + r.val - 512) (1024 + l.val) := by
  unfold pc
  by_cases hr : r.val < 512
  · have ht : t.val % 8 ≠ 0 := h.resolve_right (by omega)
    rw [dif_pos hr, ablk1 m c t ht, aN_eq (mA m c)]
    refine congrArg (fun z => aN (mA m c) z _) ?_
    show (t.val - 1) * 512 + r.val = _
    omega
  · rw [dif_neg hr, ablk2 m c t, aN_eq (mA m c)]
    refine congrArg (fun z => aN (mA m c) z _) ?_
    show t.val * 512 + (r.val - 512) = _
    omega

/-- The values before and of a tile, by row of the layer. -/
theorem pcv (c : Dev nD) (t : Fin cfg0.N) (r : Fin 1024) (l : Fin 1024) (h : t.val % 8 ≠ 0 ∨ 512 ≤ r.val) :
    pc (iblk m c 3 t) (iblk m c 4 t) r l = aN (mA m c) (t.val * 512 + r.val - 512) (2048 + l.val) := by
  unfold pc
  by_cases hr : r.val < 512
  · have ht : t.val % 8 ≠ 0 := h.resolve_right (by omega)
    rw [dif_pos hr, ablk3 m c t ht, aN_eq (mA m c)]
    refine congrArg (fun z => aN (mA m c) z _) ?_
    show (t.val - 1) * 512 + r.val = _
    omega
  · rw [dif_neg hr, ablk4 m c t, aN_eq (mA m c)]
    refine congrArg (fun z => aN (mA m c) z _) ?_
    show t.val * 512 + (r.val - 512) = _
    omega

/-- The kernel's score is the layer's. -/
theorem SCf_at (c : Dev nD) (t : Fin cfg0.N) (ci : Fin 8) (hq : Fin 4) (e : Fin 576) (k : Fin 256) (R H : ℕ)
    (hR : R = t.val * 512 + (64 * ci.val + k.val % 64)) (hH : H = 4 * hq.val + k.val / 64) :
    SCf (decide (t.val % 8 = 0)) (inAt m c t) ci hq e k = Sc (mA m c) (mB m c) R H e := by
  have ht := tlt t
  subst hR hH
  unfold SCf Sc
  by_cases h : t.val % 8 = 0 ∧ 64 * ci.val + e.val < 512
  · rw [if_pos ⟨decide_eq_true h.1, h.2⟩, if_neg (by omega)]
  · rw [if_neg fun h' => h ⟨of_decide_eq_true h'.1, h'.2⟩, if_pos (by omega), sc8_bf]
    refine congrArg₂ (· + ·) ?_ ?_
    · refine (sum_head (k.val / 64) (by omega) (fun l => pc (iblk m c 1 t) (iblk m c 2 t) ⟨64 * ci.val + e.val, by omega⟩ ⟨256 * hq.val + l.val, by omega⟩)
        (fun l => @HMul.hMul EReal EReal EReal _ (iblk m c 0 t (ix2 ⟨64 * ci.val + k.val % 64, by omega⟩ ⟨256 * hq.val + l.val, by omega⟩)) sc8)).trans ?_
      rw [← score_sum]
      refine Finset.sum_congr rfl fun d _ => ?_
      rw [pck m c t _ _ (by show t.val % 8 ≠ 0 ∨ 512 ≤ 64 * ci.val + e.val; omega), ablk0 m c t, aN_eq (mA m c)]
      refine congrArg₂ (· * ·) (congrArg₂ _ ?_ ?_) (congrArg (· * sc8) (congrArg₂ _ ?_ ?_))
      · show t.val * 512 + (64 * ci.val + e.val) - 512 = _
        omega
      · show 1024 + (256 * hq.val + (64 * (k.val / 64) + d.val)) = _
        omega
      · rfl
      · show 256 * hq.val + (64 * (k.val / 64) + d.val) = _
        omega
    · refine (ablk5 m c t hq e k).trans ?_
      rw [bN_eq (mB m c)]
      have e1 : hq.val = (4 * hq.val + k.val / 64) / 4 := by omega
      have e2 : k.val = 64 * ((4 * hq.val + k.val / 64) % 4) + (t.val * 512 + (64 * ci.val + k.val % 64)) % 64 := by omega
      rw [← e1, ← e2]

theorem PEf_at (c : Dev nD) (t : Fin cfg0.N) (ci : Fin 8) (hq : Fin 4) (e : Fin 576) (k : Fin 256) (R H : ℕ)
    (hR : R = t.val * 512 + (64 * ci.val + k.val % 64)) (hH : H = 4 * hq.val + k.val / 64) :
    PEf (decide (t.val % 8 = 0)) (inAt m c t) ci hq e k = pexp (Sc (mA m c) (mB m c) R H) e := by
  unfold PEf pexp
  have h := fun e' => SCf_at m c t ci hq e' k R H hR hH
  rw [h e]
  exact congrArg (fun z => Ideal.exp (_ - z)) (congrArg _ (funext h))

/-- The kernel's gathered value is the layer's. -/
theorem AVf_at (c : Dev nD) (t : Fin cfg0.N) (hF : Fin3 (mA m c) (mB m c)) (ci : Fin 8) (i : Fin 64) (l : Fin 1024) :
    AVf (decide (t.val % 8 = 0)) (inAt m c t) ci i l = Yv (mA m c) (mB m c) (t.val * 512 + (64 * ci.val + i.val)) l.val := by
  have ht := tlt t
  have hp : ∀ e, PEf (decide (t.val % 8 = 0)) (inAt m c t) ci ⟨l.val / 256, by omega⟩ e ⟨64 * (l.val % 256 / 64) + i.val, by omega⟩
      = pexp (Sc (mA m c) (mB m c) (t.val * 512 + (64 * ci.val + i.val)) (l.val / 64)) e := fun e =>
    PEf_at m c t ci _ e _ _ _ (by show _ = t.val * 512 + (64 * ci.val + (64 * (l.val % 256 / 64) + i.val) % 64); omega)
      (by show l.val / 64 = 4 * (l.val / 256) + (64 * (l.val % 256 / 64) + i.val) / 64; omega)
  have hs : ∀ g : Fin 768 → EReal, ∑ r : Fin 768, PXf (decide (t.val % 8 = 0)) (inAt m c t) ci ⟨l.val / 256, by omega⟩ r ⟨64 * (l.val % 256 / 64) + i.val, by omega⟩ * g r
      = ∑ e : Fin 576, pexp (Sc (mA m c) (mB m c) (t.val * 512 + (64 * ci.val + i.val)) (l.val / 64)) e * g ⟨64 * (ci.val % 4) + e.val, by omega⟩ := fun g => by
    refine (sum_band (64 * (ci.val % 4)) (by omega) (fun e => PEf (decide (t.val % 8 = 0)) (inAt m c t) ci ⟨l.val / 256, by omega⟩ e ⟨64 * (l.val % 256 / 64) + i.val, by omega⟩) g).trans ?_
    exact Finset.sum_congr rfl fun e _ => congrArg (· * _) (hp e)
  have h1 := hs fun _ => 1
  simp only [mul_one] at h1
  unfold AVf
  rw [h1, hs fun r => pc (inAt m c t .vp) (inAt m c t .vc) ⟨256 * (ci.val / 4) + r.val, by omega⟩ l]
  refine Yv_ker hF _ l.val l.isLt _ fun e hv => ?_
  refine (pcv m c t _ _ (by show t.val % 8 ≠ 0 ∨ 512 ≤ 256 * (ci.val / 4) + (64 * (ci.val % 4) + e.val); omega)).trans ?_
  refine congrArg (fun z => aN (mA m c) z _) ?_
  show t.val * 512 + (256 * (ci.val / 4) + (64 * (ci.val % 4) + e.val)) - 512 = _
  omega

theorem AVs_at (c : Dev nD) (t : Fin cfg0.N) (hF : Fin3 (mA m c) (mB m c)) (r : Fin 512) (l : Fin 1024) :
    AVs (decide (t.val % 8 = 0)) (inAt m c t) (ix2 r l) = rY (mA m c) (mB m c) (ix2 ⟨t.val * 512 + r.val, by have := tlt t; omega⟩ l) := by
  rw [rY_at _ _ hF]
  refine (AVf_at m c t hF ⟨r.val / 64, by omega⟩ ⟨r.val % 64, by omega⟩ l).trans ?_
  refine congrArg (fun z => Yv (mA m c) (mB m c) z l.val) ?_
  show t.val * 512 + (64 * (r.val / 64) + r.val % 64) = t.val * 512 + r.val
  omega

/-- What a tile writes is the reference's result there. -/
theorem outAt_at (c : Dev nD) (t : Fin cfg0.N) (hF : Fin3 (mA m c) (mB m c)) (r : Fin 512) (l : Fin 1024) :
    outAt m c t (ix2 r l) = rRes (mA m c) (mB m c) (mG m c) (ix2 ⟨t.val * 512 + r.val, by have := tlt t; omega⟩ l) := by
  have e : rRes (mA m c) (mB m c) (mG m c) = rNorm (rY (mA m c) (mB m c)) (mG m c) := rfl
  rw [e, rNorm_at]
  unfold outAt OUT
  rw [norm_at]
  simp only [AVs_at m c t hF]
  exact congrArg _ (ablk6 m c t l)

/-- The kernel's result array is the reference's result. -/
theorem final7 (c : Dev nD) (hF : Fin3 (mA m c) (mB m c)) : (adats m 0 c).arrAt 7 cfg0.N = rRes (mA m c) (mB m c) (mG m c) := by
  refine (adats m 0 c).arrAt_eq_of_covers 7 _ (by decide +kernel) fun t hf y => ?_
  blk_simp
  rw [aft7]
  idx_vars y
  rw [outAt_at m c t hF]
  blk_ext [aidx t]

end Ker
end Cert.Attn

end
-- ==== Proof.AttnClaims.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.AttnValue

@[expose] public section

noncomputable section

open Idealize.ShloMosaic Idealize.ShloMosaic.TcCoe Idealize.SL.Sem

namespace Cert.Attn

/-- The attention kernel as printed runs to its end from every memory, leaves its arguments as they were and no counter raised. -/
theorem frame_k : Cert.quiescent_Kernel := fun m ρ _ => Cert.Kernel.Gen.frame m ρ
/-- The same of its idealization. -/
theorem frame_ki : Cert.quiescent_KernelIdeal := fun m ρ _ => Cert.KernelIdeal.Gen.frame m ρ
/-- The same of the reference, which has no counters. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant: the masked score is minus infinity. -/
theorem preserves : Cert.preserves_Kernel_KernelIdeal :=
  IdealRules.named_const.statement Cert.KernelIdeal.κ "mask" .f32 0xF149F2CA#32 ⊥ rfl

/-- The side conditions the precondition states. -/
theorem pre_facts : Cert.Pre_finite_scores.Facts where
  slices_S16384x3072_S16384x2048_0_0 := by decide
  bitsLt_bf16_f32 := by decide
  bcast_S_S16384x2048 := by decide
  bcast_S_S4x576x256 := by decide

section Pre
open Cert.Pre_finite_scores
variable [hPre : Cert.Pre_finite_scores.Facts] (A : FVec Ideal S16384x3072 .bf16) (B : FVec Ideal S4x576x256 .f32) (G : FVec Ideal S1024 .f32)

theorem pre1_at (R : Fin 16384) (l : Fin 2048) :
    (fn A B G).1 (ix2 R l) = BitVec.ofBool (decide (FloatOps.absf (F := Ideal) (φ := .f32) (A (ix2 R ⟨l.val, by omega⟩)) < Ideal.ofBits FTy.f32 2139095040#32)) := by
  pointwise [fn]

theorem pre2_at (h : Fin 4) (e : Fin 576) (k : Fin 256) :
    (fn A B G).2 (ix3 h e k) = BitVec.ofBool (decide (FloatOps.absf (F := Ideal) (φ := .f32) (B (ix3 h e k)) < Ideal.ofBits FTy.f32 2139095040#32)) := by
  pointwise [fn]

/-- A number below infinity in absolute value is finite. -/
theorem fi_of_abs (x : EReal) (h : BitVec.ofBool (decide (FloatOps.absf (F := Ideal) (φ := .f32) x < Ideal.ofBits FTy.f32 2139095040#32)) = 1#1) : Fi x := by
  have h' : FloatOps.absf (F := Ideal) (φ := .f32) x < (⊤ : EReal) := by
    by_contra hc
    rw [show Ideal.ofBits FTy.f32 2139095040#32 = (⊤ : EReal) from rfl, decide_eq_false hc] at h
    exact absurd h (by decide)
  refine fi_of_ne (fun e => ?_) (fun e => ?_)
  · rw [e] at h'
    exact absurd h' (by decide)
  · rw [e] at h'
    exact absurd h' (by decide)

theorem fin3_of_pre (h1 : (fn A B G).1 = fun _ => 1#1) (h2 : (fn A B G).2 = fun _ => 1#1) : Fin3 A B := by
  refine ⟨fun R l hl => ?_, fun h e k => ?_⟩
  · unfold aN
    split
    · rename_i hw
      exact fi_of_abs _ ((pre1_at A B G ⟨R, hw.1⟩ ⟨l, hl⟩).symm.trans (congrFun h1 _))
    · exact fi_zero
  · unfold bN
    split
    · exact fi_of_abs _ ((pre2_at A B G _ _ _).symm.trans (congrFun h2 _))
    · exact fi_zero

end Pre

/-- The frames under the precondition of the comparison. -/
theorem frame_ki_pre [hPre : Cert.Pre_finite_scores.Facts] : Cert.quiescent_KernelIdeal_pre_finite_scores := fun m ρ _ => Cert.KernelIdeal.Gen.frame m ρ

theorem frame_ri_pre [hPre : Cert.Pre_finite_scores.Facts] : Cert.quiescent_ReferenceIdeal_pre_finite_scores := fun m ρ _ => frame_ri m ρ trivial

/-- The attention computes the reference's result from arguments that agree, with finite queries, keys and biases. -/
theorem algebraic [hPre : Cert.Pre_finite_scores.Facts] : Cert.algebraic_KernelIdeal_ReferenceIdeal_pre_finite_scores := by
  intro m ρ m' ρ' hp hag
  refine ⟨_, run m ρ, ?_⟩
  refine (θ_run Cert.ReferenceIdeal.defs _ _).mono (fun _ h c => ⟨(h c).1.trans ?_, (h c).2⟩) (run_ref m' ρ')
  obtain ⟨h0, h1, h2⟩ := hag c
  rw [h0, h1, h2]
  exact (final7 m c (fin3_of_pre _ _ _ (hp c).1 (hp c).2)).symm

end Cert.Attn

end
-- ==== Proof.Inproj.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack
public import Idealize.ShloMosaic.Lib.StableHlo.Run
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)
open scoped BigOperators

namespace Cert.Inproj

/-- One entry of the projection of a normalised row: `x` the row, `g` the norm's weights, `w` the column of the projection matrix. -/
def pjr (x g w : Fin 2048 → EReal) : EReal :=
  ∑ k, x k * Ideal.rsqrt (Ideal.div (∑ j, x j * x j) (Ideal.ofBits .f32 0x45000000#32) + Ideal.ofBits .f32 0x358637BD#32) * g k * w k

/-- One entry of a normalised row of 1024: `y` the row, `g` the weights. -/
def rmsr (y g : Fin 1024 → EReal) (l : Fin 1024) : EReal :=
  y l * Ideal.rsqrt (Ideal.div (∑ j, y j * y j) (Ideal.ofBits .f32 0x44800000#32) + Ideal.ofBits .f32 0x358637BD#32) * g l

section Ref
open Cert.Reference2Ideal Cert.Reference2Ideal.Facts₀

/-- The reference's combined projection. -/
def pp (X : FVec Ideal S16384x2048 .f32) (G : FVec Ideal S2048 .f32) (W : FVec Ideal S2048x6144 .f32) : FVec Ideal S16384x6144 .f32 :=
  Host.dotGeneral dot_S16384x2048_S2048x6144_S16384x6144_1_0_0_1_n_n none
    (mulf (mulf X (broadcastInDim S16384x2048 ![0, 1] bcast_S16384x1_S16384x2048_0_1
      (Host.rsqrt (addf (Host.divf (broadcastInDim S16384x1 ![0] bcast_S16384_S16384x1_0
        (Host.reduceAdd (mulf X X) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 G))) W

/-- Its gates and values by sequence. -/
def qq (P : FVec Ideal S16384x6144 .f32) : FVec Ideal S4x4096x3072 .f32 :=
  shapeCast _ (extractStridedSlice S16384x3072 ![0, 3072] P slices_S16384x6144_S16384x3072_0_3072) shapeCasts_S16384x3072_S4x4096x3072

/-- The convolution's input with its two rows of zeros. -/
def zz (Q : FVec Ideal S4x4096x3072 .f32) : FVec Ideal S4x4098x1024 .f32 :=
  pad S4x4098x1024 ![0, 2, 0] ![0, 0, 0] ![0, 0, 0]
    (mulf (extractStridedSlice S4x4096x1024 ![0, 0, 1024] Q slices_S4x4096x3072_S4x4096x1024_0_0_1024)
      (extractStridedSlice S4x4096x1024 ![0, 0, 2048] Q slices_S4x4096x3072_S4x4096x1024_0_0_2048))
    (sitofp .f32 (constantI S_ 32 0#32)) pads_S4x4096x1024_S4x4098x1024_000_200_000 h_S_

/-- The gated convolution. -/
def yy (Q : FVec Ideal S4x4096x3072 .f32) (Z : FVec Ideal S4x4098x1024 .f32) (CW : FVec Ideal S3x1024 .f32) : FVec Ideal S4x4096x1024 .f32 :=
  mulf (extractStridedSlice S4x4096x1024 ![0, 0, 0] Q slices_S4x4096x3072_S4x4096x1024_0_0_0)
    (addf (addf
      (mulf (broadcastInDim S4x4096x1024 ![0, 1, 2] bcast_S1x1x1024_S4x4096x1024_0_1_2 (broadcastInDim S1x1x1024 ![2] bcast_S1024_S1x1x1024_2
        (shapeCast _ (extractStridedSlice S1x1024 ![0, 0] CW slices_S3x1024_S1x1024_0_0) shapeCasts_S1x1024_S1024)))
        (extractStridedSlice S4x4096x1024 ![0, 0, 0] Z slices_S4x4098x1024_S4x4096x1024_0_0_0))
      (mulf (broadcastInDim S4x4096x1024 ![0, 1, 2] bcast_S1x1x1024_S4x4096x1024_0_1_2 (broadcastInDim S1x1x1024 ![2] bcast_S1024_S1x1x1024_2
        (shapeCast _ (extractStridedSlice S1x1024 ![1, 0] CW slices_S3x1024_S1x1024_1_0) shapeCasts_S1x1024_S1024)))
        (extractStridedSlice S4x4096x1024 ![0, 1, 0] Z slices_S4x4098x1024_S4x4096x1024_0_1_0)))
      (mulf (broadcastInDim S4x4096x1024 ![0, 1, 2] bcast_S1x1x1024_S4x4096x1024_0_1_2 (broadcastInDim S1x1x1024 ![2] bcast_S1024_S1x1x1024_2
        (shapeCast _ (extractStridedSlice S1x1024 ![2, 0] CW slices_S3x1024_S1x1024_2_0) shapeCasts_S1x1024_S1024)))
        (extractStridedSlice S4x4096x1024 ![0, 2, 0] Z slices_S4x4098x1024_S4x4096x1024_0_2_0)))

/-- The convolution's normalisation, back at the rows of the layer. -/
def oo (Y : FVec Ideal S4x4096x1024 .f32) (G : FVec Ideal S1024 .f32) : FVec Ideal S16384x1024 .bf16 :=
  truncf .bf16 (shapeCast _ (mulf (mulf Y (broadcastInDim S4x4096x1024 ![0, 1, 2] bcast_S4x4096x1_S4x4096x1024_0_1_2
    (Host.rsqrt (addf (Host.divf (broadcastInDim S4x4096x1 ![0, 1] bcast_S4x4096_S4x4096x1_0_1
      (Host.reduceAdd (mulf Y Y) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 G)))
    shapeCasts_S4x4096x1024_S16384x1024) bitsLt_bf16_f32

theorem res_eq (m : (ℓ : Loc nD τ sig) → Buf (Elt Ideal) ℓ) (c : Dev nD) :
    Cert.Reference2Ideal.Value.res_main_v58 (F := Ideal) m c
      = (let Q := qq (pp (m ((c.tc : Thread nD τ).loc main_arg0)) (m ((c.tc : Thread nD τ).loc main_arg1)) (m ((c.tc : Thread nD τ).loc main_arg2)))
         oo (yy Q (zz Q) (m ((c.tc : Thread nD τ).loc main_arg3))) (m ((c.tc : Thread nD τ).loc main_arg4))) := rfl

theorem pp_at (X : FVec Ideal S16384x2048 .f32) (G : FVec Ideal S2048 .f32) (W : FVec Ideal S2048x6144 .f32) (i) :
    pp X G W i = pjr (fun k => X (ix2 (i 0) k)) (fun k => G (ix1 k)) (fun k => W (ix2 k (i 1))) := by
  unfold pjr
  pointwise [pp]

end Ref
section Ref
open Cert.Reference2Ideal Cert.Reference2Ideal.Facts₀
/-- The convolution's input at a row of the layer, from the combined projection. -/
def zr (P : FVec Ideal S16384x6144 .f32) (r : ℕ) (hr : r < 16384) (l : Fin 1024) : EReal :=
  P (ix2 ⟨r, hr⟩ ⟨3072 + (1024 + l.val), by omega⟩) * P (ix2 ⟨r, hr⟩ ⟨3072 + (2048 + l.val), by omega⟩)

/-- The convolution's input `k` rows before row `s` of sequence `b`: zero before the sequence's start. -/
def zb (P : FVec Ideal S16384x6144 .f32) (b : Fin 4) (s : Fin 4096) (k : ℕ) (l : Fin 1024) : EReal :=
  if h : k ≤ s.val then zr P (b.val * 4096 + s.val - k) (by omega) l else 0

theorem zb_eq (P : FVec Ideal S16384x6144 .f32) (b : Fin 4) (s : Fin 4096) (k k' : ℕ) (hk : k' + k = 2) (l : Fin 1024) (z : EReal) (hz : z = 0) :
    (if h : 2 ≤ k' + s.val ∧ k' + s.val - 2 < 4096 then zr P (b.val * 4096 + (k' + s.val - 2)) (by omega) l else z) = zb P b s k l := by
  unfold zb
  by_cases h : k ≤ s.val
  · rw [dif_pos h, dif_pos (by omega)]
    have e : b.val * 4096 + (k' + s.val - 2) = b.val * 4096 + s.val - k := by omega
    simp only [e]
  · rw [dif_neg h, dif_neg (by omega), hz]

theorem yy_at (P : FVec Ideal S16384x6144 .f32) (CW : FVec Ideal S3x1024 .f32) (b : Fin 4) (s : Fin 4096) (l : Fin 1024) :
    yy (qq P) (zz (qq P)) CW (ix3 b s l) = P (ix2 ⟨b.val * 4096 + s.val, by omega⟩ ⟨3072 + l.val, by omega⟩)
      * (CW (ix2 0 l) * zb P b s 2 l + CW (ix2 1 l) * zb P b s 1 l + CW (ix2 2 l) * zr P (b.val * 4096 + s.val) (by omega) l) := by
  have hz : (FloatOps.sitofp FTy.f32 (0#32) : Ideal FTy.f32) = (0 : EReal) := by
    show (((0#32).toInt : ℝ) : EReal) = 0
    simp
  have hs := s.isLt
  have e2 := zb_eq P b s 2 0 rfl l _ hz
  have e1 := zb_eq P b s 1 1 rfl l _ hz
  simp only [Nat.zero_add] at e2
  rw [← e2, ← e1]
  unfold zr
  pointwise [yy, qq, zz]

theorem oo_at (Y : FVec Ideal S4x4096x1024 .f32) (G : FVec Ideal S1024 .f32) (i : S16384x1024.Idx) :
    oo Y G i = rmsr (fun l => Y (ix3 ⟨(i 0 : ℕ) / 4096, by have : (i 0 : ℕ) < 16384 := (i 0).isLt; omega⟩ ⟨(i 0 : ℕ) % 4096, by omega⟩ l)) (fun l => G (ix1 l)) (i 1) := by
  unfold rmsr
  pointwise [oo]

end Ref

section Ker
open Cert.Kernel2Ideal Cert.Kernel2Ideal.Gen

theorem pay6_at (x : Vec Ideal S512x2048 .f32) (g : Vec Ideal S1x2048 .f32) (w : Vec Ideal S2048x1024 .bf16) (i) :
    k0_pay6 (F := Ideal) x g w i = pjr (fun k => x (ix2 (i 0) k)) (fun k => g (ix2 0 k)) (fun k => w (ix2 k (i 1))) := by
  unfold pjr
  pointwise [k0_pay6, k0_pay5]

theorem pay7_at (x : Vec Ideal S512x2048 .f32) (g : Vec Ideal S1x2048 .f32) (w w' : Vec Ideal S2048x1024 .bf16) (i) :
    k0_pay7 (F := Ideal) x g w w' i = pjr (fun k => x (ix2 (i 0) k)) (fun k => g (ix2 0 k)) (fun k => w (ix2 k (i 1)))
      * pjr (fun k => x (ix2 (i 0) k)) (fun k => g (ix2 0 k)) (fun k => w' (ix2 k (i 1))) := by
  unfold pjr
  pointwise [k0_pay7, k0_pay5]

theorem pay2_at (x : Vec Ideal S512x2048 .f32) (g : Vec Ideal S1x2048 .f32) (w : Vec Ideal S2048x1536 .bf16) (i) :
    k0_pay2 (F := Ideal) (k0_pay5 x g) w i = pjr (fun k => x (ix2 (i 0) k)) (fun k => g (ix2 0 k)) (fun k => w (ix2 k (i 1))) := by
  unfold pjr
  pointwise [k0_pay2, k0_pay5]

theorem pay3_at (x : Vec Ideal S512x2048 .f32) (g : Vec Ideal S1x2048 .f32) (w : Vec Ideal S2048x1536 .bf16) (i) :
    k0_pay3 (F := Ideal) (k0_pay5 x g) w i = pjr (fun k => x (ix2 (i 0) k)) (fun k => g (ix2 0 k)) (fun k => w (ix2 k (i 1))) := by
  unfold pjr
  pointwise [k0_pay3, k0_pay5]

/-- A row of the kernel's gated convolution: `b` the gate, `z` the convolution's input in the block, `tl` the eight rows before the block. -/
def yk (b z : FVec Ideal S512x1024 .f32) (first : BitVec 1) (tl cw : Vec Ideal S8x1024 .f32) (r : Fin 512) (l : Fin 1024) : EReal :=
  b (ix2 r l) * (cw (ix2 0 l) * (if h : (8 + r.val + 520 - 2) % 520 < 8 then Scalar.select first 0 (tl (ix2 ⟨(8 + r.val + 520 - 2) % 520, h⟩ l))
      else z (ix2 ⟨(8 + r.val + 520 - 2) % 520 - 8, by omega⟩ l))
    + cw (ix2 1 l) * (if h : (8 + r.val + 520 - 1) % 520 < 8 then Scalar.select first 0 (tl (ix2 ⟨(8 + r.val + 520 - 1) % 520, h⟩ l))
      else z (ix2 ⟨(8 + r.val + 520 - 1) % 520 - 8, by omega⟩ l))
    + cw (ix2 2 l) * z (ix2 r l))

theorem pay10_at (b z : FVec Ideal S512x1024 .f32) (v30 v31 : BitVec 32) (v32 v33 : BitVec 1) (c0 : BitVec 32) (tl cw : Vec Ideal S8x1024 .f32) (g : Vec Ideal S1x1024 .f32) (i) :
    k0_pay1 (F := Ideal) (k0_pay9 g) (k0_pay10 (F := Ideal) b z v30 v31 v32 v33 c0 tl cw) i
      = rmsr (yk b z (Scalar.cmpi CmpIPredicate.eq
                              (Scalar.select (Scalar.andi (Scalar.xori v33 (Scalar.cmpi CmpIPredicate.slt v30 c0)) v32)
                                (Scalar.addi v31 v30) v31)
                              0#32) tl cw (i 0)) (fun l => g (ix2 0 l)) (i 1) := by
  unfold rmsr yk
  pointwise [k0_pay10, k0_pay9, k0_pay1]
variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0] :=
  (by decide +kernel : ∀ t : Fin grid0.N, _)

theorem lt32 (t : Fin cfg0.N) : t.val < 32 := t.isLt

/-- The combined projection of the launch's arguments. -/
def PM (c : Dev nD) : FVec Ideal Cert.Reference2Ideal.S16384x6144 .f32 :=
  pp (m ((c.tc : Thread nD τ).loc main_arg0)) (m ((c.tc : Thread nD τ).loc main_arg1)) (m ((c.tc : Thread nD τ).loc main_arg2))

theorem blk0 (c : Dev nD) (t : Fin cfg0.N) (r : Fin 512) (k : Fin 2048) :
    iblk m c 0 t (ix2 r k) = m ((c.tc : Thread nD τ).loc main_arg0) (ix2 ⟨t.val * 512 + r.val, by have := lt32 t; omega⟩ k) := by
  blk_point [iblk, V, idx t]

theorem blk1 (c : Dev nD) (t : Fin cfg0.N) (k : Fin 2048) :
    iblk m c 1 t (ix2 0 k) = m ((c.tc : Thread nD τ).loc main_arg1) (ix1 k) := by
  blk_point [iblk, V, idx t]

theorem blk4 (c : Dev nD) (t : Fin cfg0.N) (k : Fin 1024) :
    iblk m c 4 t (ix2 0 k) = m ((c.tc : Thread nD τ).loc main_arg4) (ix1 k) := by
  blk_point [iblk, V, idx t]

theorem blk2 (c : Dev nD) (t : Fin cfg0.N) (k : Fin 2048) (l : Fin 6144) :
    iblk m c 2 t (ix2 k l) = m ((c.tc : Thread nD τ).loc main_arg2) (ix2 k l) := by
  blk_point [iblk, V, idx t]

theorem scat_lands (k : S3x1024.Idx) (a : Fin S8x1024.rank) :
    scatter_S8x1024_S1_S3x1024_01_n_0_0.start k (broadcastInDim S1 ![] Facts₀.bcast_S_S1 (constantI S_ 32 0#32)) a
      + (scatter_S8x1024_S1_S3x1024_01_n_0_0.window k a : Int) = ((k a : ℕ) : Int) := by
  have e0 : ∀ b, scatter_S8x1024_S1_S3x1024_01_n_0_0.start k (broadcastInDim S1 ![] Facts₀.bcast_S_S1 (constantI S_ 32 0#32)) b = 0 := by
    intro b; fin_cases b <;> rfl
  have e1 : ∀ b : Fin 2, scatter_S8x1024_S1_S3x1024_01_n_0_0.window k b = (k b : ℕ) := by
    intro b; fin_cases b <;> rfl
  rw [e0, zero_add]
  exact congrArg Nat.cast (e1 a)

/-- The convolution's weights in the first three of eight rows. -/
theorem scat_at (x0 : FVec Ideal S8x1024 .f32) (u : FVec Ideal S3x1024 .f32) (j : Fin 3) (l : Fin 1024) :
    Host.scatter scatter_S8x1024_S1_S3x1024_01_n_0_0 (fun _ b => b) x0 (broadcastInDim S1 ![] Facts₀.bcast_S_S1 (constantI S_ 32 0#32)) u (ix2 ⟨j.val, by omega⟩ l)
      = u (ix2 j l) := by
  refine Routing.scatter_set_hit _ _ _ _ _ _ (fun k hk => ?_) (ix2 j l) ?_
  · rw [Routing.resultIdx?_eq_some] at hk
    refine congrArg u (funext fun a => Fin.ext ?_)
    have := hk a
    rw [scat_lands] at this
    fin_cases a
    · exact_mod_cast this
    · exact_mod_cast this
  · rw [Routing.resultIdx?_eq_some]
    intro a
    rw [scat_lands]
    fin_cases a <;> rfl

theorem blk3 (c : Dev nD) (t : Fin cfg0.N) (j : Fin 3) (l : Fin 1024) :
    iblk m c 3 t (ix2 ⟨j.val, by omega⟩ l) = m ((c.tc : Thread nD τ).loc main_arg3) (ix2 j l) := by
  blk_simp [iblk, idx t]
  entry_read
  have e : ((View.whole main_v2).slice (win0_3.rect t)).emb (ix2 ⟨j.val, by omega⟩ l) = ix2 (⟨j.val, by omega⟩ : Fin 8) l := by
    blk_ext [idx t]
  rw [e]
  exact scat_at _ _ j l

theorem firstA : ∀ t : Fin cfg0.N, Scalar.cmpi CmpIPredicate.eq
            (Scalar.select (Scalar.andi (Scalar.xori (Scalar.cmpi CmpIPredicate.slt (Scalar.remsi (BitVec.ofNat 32 (grid0.coords t 0).val) 8#32) 0#32) (Scalar.cmpi CmpIPredicate.slt (8#32 : BitVec 32) 0#32)) (Scalar.cmpi CmpIPredicate.ne (Scalar.remsi (BitVec.ofNat 32 (grid0.coords t 0).val) 8#32) 0#32))
              (Scalar.addi (Scalar.remsi (BitVec.ofNat 32 (grid0.coords t 0).val) 8#32) 8#32) (Scalar.remsi (BitVec.ofNat 32 (grid0.coords t 0).val) 8#32)) 0#32 = if t.val % 8 = 0 then 1#1 else 0#1 :=
  (by decide +kernel : ∀ t : Fin grid0.N, _)

/-- The convolution's input in block `t`, as the kernel computes it. -/
def zk (c : Dev nD) (t : Fin cfg0.N) : FVec Ideal S512x1024 .f32 :=
  k0_pay7 (iblk m c 0 t) (iblk m c 1 t)
            (View.ld (iblk m c 2 t) (Rect.unit ![0, 4096] ![2048, 1024] Facts₀.inb_S2048x6144_S2048x1024_0_4096))
            (View.ld (iblk m c 2 t) (Rect.unit ![0, 5120] ![2048, 1024] Facts₀.inb_S2048x6144_S2048x1024_0_5120))

/-- The convolution's gate in block `t`, as the kernel computes it. -/
def bk (c : Dev nD) (t : Fin cfg0.N) : FVec Ideal S512x1024 .f32 :=
  k0_pay6 (iblk m c 0 t) (iblk m c 1 t)
            (View.ld (iblk m c 2 t) (Rect.unit ![0, 3072] ![2048, 1024] Facts₀.inb_S2048x6144_S2048x1024_0_3072))

/-- The projection's entry of row `r` of block `t` and column `q`. -/
theorem pj_blk (c : Dev nD) (t : Fin cfg0.N) (r : Fin 512) (q : Fin 6144) (w : Fin 2048 → EReal) (hw : ∀ k, w k = m ((c.tc : Thread nD τ).loc main_arg2) (ix2 k q)) :
    pjr (fun k => iblk m c 0 t (ix2 r k)) (fun k => iblk m c 1 t (ix2 0 k)) w = PM m c (ix2 ⟨t.val * 512 + r.val, by have := lt32 t; omega⟩ q) := by
  unfold PM
  rw [pp_at]
  congr 1
  · funext k; exact blk0 m c t r k
  · funext k; exact blk1 m c t k
  · funext k; exact hw k

theorem ld2 (c : Dev nD) (t : Fin cfg0.N) (off : ℕ) (n : ℕ) (inb) (k : Fin 2048) (l : Fin n) (h : off + l.val < 6144) :
    View.ld (iblk m c 2 t) (Rect.unit ![0, off] ![2048, n] inb) (ix2 k l) = m ((c.tc : Thread nD τ).loc main_arg2) (ix2 k ⟨off + l.val, h⟩) := by
  rw [← blk2 m c t k ⟨off + l.val, h⟩]
  show iblk m c 2 t _ = _
  congr 1
  funext a
  fin_cases a <;> apply Fin.ext <;> simp [Rect.emb]

theorem zk_at (c : Dev nD) (t : Fin cfg0.N) (r : Fin 512) (l : Fin 1024) :
    zk m c t (ix2 r l) = zr (PM m c) (t.val * 512 + r.val) (by have := lt32 t; omega) l := by
  unfold zk
  rw [pay7_at]
  refine congr (congrArg _ (pj_blk m c t r ⟨3072 + (1024 + l.val), by omega⟩ _ fun k => ?_)) (pj_blk m c t r ⟨3072 + (2048 + l.val), by omega⟩ _ fun k => ?_)
  · exact (ld2 m c t 4096 1024 _ k l (by omega)).trans (congrArg _ (congrArg _ (Fin.ext (by show 4096 + l.val = 3072 + (1024 + l.val); omega))))
  · exact (ld2 m c t 5120 1024 _ k l (by omega)).trans (congrArg _ (congrArg _ (Fin.ext (by show 5120 + l.val = 3072 + (2048 + l.val); omega))))

theorem bk_at (c : Dev nD) (t : Fin cfg0.N) (r : Fin 512) (l : Fin 1024) :
    bk m c t (ix2 r l) = PM m c (ix2 ⟨t.val * 512 + r.val, by have := lt32 t; omega⟩ ⟨3072 + l.val, by omega⟩) := by
  unfold bk
  rw [pay6_at]
  exact pj_blk m c t r ⟨3072 + l.val, by omega⟩ _ fun k => ld2 m c t 3072 1024 _ k l (by omega)

/-- The eight rows the kernel keeps for the next block are the last rows of the convolution's input. -/
theorem keep (c : Dev nD) (t : Fin cfg0.N) : (outsAt0 m c t.val t.isLt).2.2 = k0_pay8 (zk m c t) := by
  by_cases h : t.val % 32 = 0
  · rw [outsAt0_A m c t h]; frame_out; rfl
  · rw [outsAt0_B m c t h]; frame_out; rfl

theorem pay8_at (z : FVec Ideal S512x1024 .f32) (j : Fin 8) (l : Fin 1024) : k0_pay8 (F := Ideal) z (ix2 j l) = z (ix2 ⟨504 + j.val, by omega⟩ l) := by
  pointwise [k0_pay8]

/-- The first result's block at a point of the launch. -/
theorem out5_at (c : Dev nD) (t : Fin cfg0.N) (r : Fin 512) (l : Fin 3072) :
    (outsAt0 m c t.val t.isLt).1 (ix2 r l) = PM m c (ix2 ⟨t.val * 512 + r.val, by have := lt32 t; omega⟩ ⟨l.val, by omega⟩) := by
  have key : View.canon (Val := Elt Ideal) (s := S512x3072) (e := .bf16)
        [⟨Rect.unit (s := S512x3072) ![0, 1536] ![512, 1536] Facts₀.inb_S512x3072_S512x1536_0_1536,
            k0_pay3 (F := Ideal) (k0_pay5 (iblk m c 0 t) (iblk m c 1 t))
              (View.ld (iblk m c 2 t) (Rect.unit ![0, 1536] ![2048, 1536] Facts₀.inb_S2048x6144_S2048x1536_0_1536))⟩,
          ⟨Rect.unit ![0, 0] ![512, 1536] Facts₀.inb_S512x3072_S512x1536_0_0,
            k0_pay2 (k0_pay5 (iblk m c 0 t) (iblk m c 1 t))
              (View.ld (iblk m c 2 t) (Rect.unit ![0, 0] ![2048, 1536] Facts₀.inb_S2048x6144_S2048x1536_0_0))⟩] (ix2 r l) = PM m c (ix2 ⟨t.val * 512 + r.val, by have := lt32 t; omega⟩ ⟨l.val, by omega⟩) := by
    canon_tiles x h
    · rw [pay3_at]
      have h0' : r.val = (x 0).val := h0
      have h1' : l.val = 1536 + (x 1).val := h1
      have er : r = x 0 := Fin.ext h0'
      subst er
      refine pj_blk m c t (x 0) ⟨l.val, by omega⟩ _ fun k => ?_
      exact (ld2 m c t 1536 1536 _ k (x 1) (by omega)).trans (congrArg _ (congrArg _ (Fin.ext h1'.symm)))
    · rw [pay2_at]
      have h0' : r.val = (x 0).val := h0
      have h1' : l.val = (x 1).val := h1
      have er : r = x 0 := Fin.ext h0'
      subst er
      refine pj_blk m c t (x 0) ⟨l.val, by omega⟩ _ fun k => ?_
      exact (ld2 m c t 0 1536 _ k (x 1) (by omega)).trans (congrArg _ (congrArg _ (Fin.ext (by show 0 + (x 1).val = l.val; omega))))
  by_cases h : t.val % 32 = 0
  · rw [outsAt0_A m c t h]; frame_out; exact key
  · rw [outsAt0_B m c t h]; frame_out; exact key

/-- The rows kept for block `t` are the last of the block before. -/
theorem tail_at (c : Dev nD) (t : Fin cfg0.N) (h : 0 < t.val) (j : Fin 8) (l : Fin 1024) :
    (outsAt0 m c (t.val - 1) (Nat.lt_of_le_of_lt (Nat.sub_le _ _) t.isLt)).2.2 (ix2 j l)
      = zr (PM m c) (t.val * 512 + j.val - 8) (by have := lt32 t; omega) l := by
  have hk := keep m c ⟨t.val - 1, Nat.lt_of_le_of_lt (Nat.sub_le _ _) t.isLt⟩
  dsimp only at hk
  rw [hk, pay8_at, zk_at]
  have e : (t.val - 1) * 512 + (504 + j.val) = t.val * 512 + j.val - 8 := by omega
  simp only [e]

/-- The kernel's gated convolution in block `t` with the rows `tl` before it is the reference's, where those rows are the convolution's input before the block. -/
theorem yk_at (c : Dev nD) (t : Fin cfg0.N) (tl : FVec Ideal S8x1024 .f32)
    (htl : ¬ t.val % 8 = 0 → ∀ (j : Fin 8) (l : Fin 1024), tl (ix2 j l) = zr (PM m c) (t.val * 512 + j.val - 8) (by have := lt32 t; omega) l)
    (r : Fin 512) (l : Fin 1024) :
    yk (bk m c t) (zk m c t) (if t.val % 8 = 0 then 1#1 else 0#1) tl (iblk m c 3 t) r l
      = yy (qq (PM m c)) (zz (qq (PM m c))) (m ((c.tc : Thread nD τ).loc main_arg3))
          (ix3 ⟨(t.val * 512 + r.val) / 4096, by have := lt32 t; omega⟩ ⟨(t.val * 512 + r.val) % 4096, by omega⟩ l) := by
  have ht := lt32 t
  have hr := r.isLt
  rw [yy_at]
  unfold yk
  rw [bk_at]
  have hrow : (t.val * 512 + r.val) / 4096 * 4096 + (t.val * 512 + r.val) % 4096 = t.val * 512 + r.val := by omega
  have hz : ∀ k : ℕ, (hk : 1 ≤ k) → (hk' : k ≤ 2) →
      (if h : (8 + r.val + 520 - k) % 520 < 8 then Scalar.select (if t.val % 8 = 0 then 1#1 else 0#1) (0 : EReal) (tl (ix2 ⟨(8 + r.val + 520 - k) % 520, h⟩ l))
        else zk m c t (ix2 ⟨(8 + r.val + 520 - k) % 520 - 8, by omega⟩ l))
      = zb (PM m c) ⟨(t.val * 512 + r.val) / 4096, by omega⟩ ⟨(t.val * 512 + r.val) % 4096, by omega⟩ k l := by
    intro k hk hk'
    have e520 : (8 + r.val + 520 - k) % 520 = 8 + r.val - k := by omega
    unfold zb
    by_cases h : r.val < k
    · rw [dif_pos (by omega)]
      by_cases h8 : t.val % 8 = 0
      · rw [if_pos h8, dif_neg (by show ¬ k ≤ (t.val * 512 + r.val) % 4096; omega)]
        rfl
      · rw [if_neg h8, dif_pos (by show k ≤ (t.val * 512 + r.val) % 4096; omega)]
        show tl _ = _
        rw [htl h8]
        have e : t.val * 512 + (8 + r.val + 520 - k) % 520 - 8 = (t.val * 512 + r.val) / 4096 * 4096 + (t.val * 512 + r.val) % 4096 - k := by omega
        simp only [e]
    · rw [dif_neg (by omega), dif_pos (by show k ≤ (t.val * 512 + r.val) % 4096; omega), zk_at]
      have e : t.val * 512 + ((8 + r.val + 520 - k) % 520 - 8) = (t.val * 512 + r.val) / 4096 * 4096 + (t.val * 512 + r.val) % 4096 - k := by omega
      simp only [e]
  rw [← hz 1 (le_refl _) (by omega), ← hz 2 (by omega) (le_refl _), zk_at]
  have w0 := blk3 m c t 0 l
  have w1 := blk3 m c t 1 l
  have w2 := blk3 m c t 2 l
  simp only [hrow]
  refine congrArg₂ _ rfl (congrArg₂ _ (congrArg₂ _ (congrArg₂ _ w0 rfl) (congrArg₂ _ w1 rfl)) (congrArg₂ _ w2 rfl))

/-- The second result's block at a point of the launch. -/
theorem out6_at (c : Dev nD) (t : Fin cfg0.N) (i : S512x1024.Idx) :
    (outsAt0 m c t.val t.isLt).2.1 i
      = rmsr (fun l => yy (qq (PM m c)) (zz (qq (PM m c))) (m ((c.tc : Thread nD τ).loc main_arg3))
          (ix3 ⟨(t.val * 512 + (i 0 : ℕ)) / 4096, by have := lt32 t; have : (i 0 : ℕ) < 512 := (i 0).isLt; omega⟩ ⟨(t.val * 512 + (i 0 : ℕ)) % 4096, by omega⟩ l))
        (fun l => m ((c.tc : Thread nD τ).loc main_arg4) (ix1 l)) (i 1) := by
  have fin : ∀ tl : FVec Ideal S8x1024 .f32,
      (¬ t.val % 8 = 0 → ∀ (j : Fin 8) (l : Fin 1024), tl (ix2 j l) = zr (PM m c) (t.val * 512 + j.val - 8) (by have := lt32 t; omega) l) → _ := fun tl htl => by
    have e := pay10_at (bk m c t) (zk m c t) (8#32) (Scalar.remsi (BitVec.ofNat 32 (grid0.coords t 0).val) 8#32)
          (Scalar.cmpi CmpIPredicate.ne (Scalar.remsi (BitVec.ofNat 32 (grid0.coords t 0).val) 8#32) 0#32)
          (Scalar.cmpi CmpIPredicate.slt (Scalar.remsi (BitVec.ofNat 32 (grid0.coords t 0).val) 8#32) 0#32) (0#32) tl (iblk m c 3 t) (iblk m c 4 t) i
    rw [firstA t] at e
    have e' : yk (bk m c t) (zk m c t) (if t.val % 8 = 0 then 1#1 else 0#1) tl (iblk m c 3 t) (i 0) = _ := funext (yk_at m c t tl htl (i 0))
    rw [e'] at e
    exact e
  by_cases h : t.val % 32 = 0
  · rw [outsAt0_A m c t h]
    frame_out
    refine (fin k0_pay4 fun h8 => absurd (by omega) h8).trans (congrArg (fun g => rmsr _ g _) (funext fun l => blk4 m c t l))
  · rw [outsAt0_B m c t h]
    frame_out
    refine Eq.trans ?_ ((fin _ fun h8 j l => tail_at m c t (by omega) j l).trans (congrArg (fun g => rmsr _ g _) (funext fun l => blk4 m c t l)))
    rw [read_unread_whole]
    rfl

/-- The reference's first result. -/
def r5 (P : FVec Ideal Cert.Reference2Ideal.S16384x6144 .f32) : FVec Ideal Cert.Reference2Ideal.S16384x3072 .bf16 :=
  truncf .bf16 (extractStridedSlice Cert.Reference2Ideal.S16384x3072 ![0, 0] P Cert.Reference2Ideal.Facts₀.slices_S16384x6144_S16384x3072_0_0) Cert.Reference2Ideal.Facts₀.bitsLt_bf16_f32

theorem r5_at (P : FVec Ideal Cert.Reference2Ideal.S16384x6144 .f32) (i) : r5 P i = P (ix2 (i 0) ⟨(i 1 : ℕ), by have : (i 1 : ℕ) < 3072 := (i 1).isLt; omega⟩) := by
  pointwise [r5]

/-- The kernel's first result array. -/
theorem final5 (c : Dev nD) : (dats m 0 c).arrAt 5 (cfgs 0).N = r5 (PM m c) := by
  refine (dats m 0 c).arrAt_eq_of_covers 5 _ (by decide +kernel) fun t hf y => ?_
  blk_simp
  rw [after0_5]
  idx_vars y
  rw [out5_at, r5_at]
  blk_ext [idx t]

/-- The kernel's second result array. -/
theorem final6 (c : Dev nD) : (dats m 0 c).arrAt 6 (cfgs 0).N
    = oo (yy (qq (PM m c)) (zz (qq (PM m c))) (m ((c.tc : Thread nD τ).loc main_arg3))) (m ((c.tc : Thread nD τ).loc main_arg4)) := by
  refine (dats m 0 c).arrAt_eq_of_covers 6 _ (by decide +kernel) fun t hf y => ?_
  blk_simp
  rw [after0_6, out6_at, oo_at]
  have e0 : ((win0_6.blk t).view.emb y 0 : ℕ) = t.val * 512 + (y 0 : ℕ) := by blk_simp [idx t] <;> try omega
  have e1 : (win0_6.blk t).view.emb y 1 = y 1 := Fin.ext (by blk_simp [idx t] <;> try omega)
  refine congr (congrArg₂ _ (funext fun l => congrArg _ ?_) rfl) e1.symm
  simp only [e0]

end Ker
end Cert.Inproj
end
-- ==== Proof.InprojClaims.lean ====
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Inproj

@[expose] public section

noncomputable section

open Idealize.ShloMosaic Idealize.ShloMosaic.TcCoe Idealize.SL.Sem

namespace Cert.Inproj

/-- The kernel as printed runs to its end from every memory, leaves its arguments as they were and no counter raised. -/
theorem frame_k : Cert.quiescent_Kernel2 := fun m ρ _ => Cert.Kernel2.Gen.frame m ρ
/-- The same of its idealization. -/
theorem frame_ki : Cert.quiescent_Kernel2Ideal := fun m ρ _ => Cert.Kernel2Ideal.Gen.frame m ρ
/-- The same of the reference, which has no counters. -/
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The input projection and the short convolution compute the reference's two results from arguments that agree. -/
theorem algebraic : Cert.algebraic_Kernel2Ideal_Reference2Ideal := by
  intro m ρ m' ρ' _ hag
  refine ⟨_, _, Cert.Kernel2Ideal.Value.run (F := Ideal) m ρ, ?_⟩
  refine (θ_run Cert.Reference2Ideal.defs _ _).mono (fun _ h c => ⟨(h c).1.trans ?_, (h c).2.1.trans ?_, (h c).2.2⟩)
    (Cert.Reference2Ideal.Value.run (F := Ideal) m' ρ')
  · obtain ⟨h0, h1, h2, -⟩ := hag c
    rw [h0, h1, h2]
    exact (final5 m c).symm.trans (Cert.Kernel2Ideal.Value.final5 m c)
  · obtain ⟨h0, h1, h2, h3, h4⟩ := hag c
    refine (res_eq m' c).trans ?_
    rw [h0, h1, h2, h3, h4]
    exact (final6 m c).symm.trans (Cert.Kernel2Ideal.Value.final6 m c)

end Cert.Inproj

end
-- ==== Proof.OutKeep.lean ====
module

public import proofs.«01_k».proof.Defs
public import Idealize.ShloMosaic.Lib.Pipeline.FrameBody
public import Idealize.ShloMosaic.Lib.Ring
public import Idealize.ShloMosaic.Lib.VecWindow
public import Idealize.ShloMosaic.Lib.Tactic

@[expose] public section

set_option maxRecDepth 16384

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # Bodies read statement by statement: what a statement keeps

`Tri I p Q` says that from `I` the program `p` runs to `Q` of its result; `Keeps I p` that it ends with `I` again. A load
keeps what it reads; a store keeps whatever says nothing of the buffer it writes. -/

variable {nD : Nat} {τ : Topo} {sig : RefSig} {Val : EltTy → Type} {Λ : Labels}

local notation "𝕄" => MT nD τ sig Unit Val ℕ (UR sig nD τ) ℕ

variable (defs : Defs nD τ sig Val Λ) (c : Dev nD) (E : Set ℕ)
variable {α β : Type}

/-- From `I` the program runs to `Q` of its result. -/
def Tri (I : sProp 𝕄) (p : Prog (TpuEff nD τ sig Val Λ .tc) α) (Q : α → sProp 𝕄) : Prop :=
  I ⊢ wp frame (wpE defs Variants.none (c : Thread nD τ) none) E p Q

/-- From `I` the program runs to `I`. -/
def Keeps (I : sProp 𝕄) (p : Prog (TpuEff nD τ sig Val Λ .tc) α) : Prop := Tri defs c E I p fun _ => I

variable {defs c E}

theorem tri_bind {I : sProp 𝕄} {p : Prog (TpuEff nD τ sig Val Λ .tc) α} {k : α → Prog (TpuEff nD τ sig Val Λ .tc) β} {R : α → sProp 𝕄} {Q : β → sProp 𝕄}
    (h : Tri defs c E I p R) (hk : ∀ a, Tri defs c E (R a) (k a) Q) : Tri defs c E I (p >>= k) Q := by
  unfold Tri at *
  rw [wp_bind]
  exact h.trans (wp_mono _ _ _ fun a => hk a)

/-- A statement whose value is known, then the rest. -/
theorem tri_val {I I' : sProp 𝕄} {p : Prog (TpuEff nD τ sig Val Λ .tc) α} {k : α → Prog (TpuEff nD τ sig Val Λ .tc) β} {Q : β → sProp 𝕄} {v : α}
    (h : Tri defs c E I p fun a => iprop(⌜a = v⌝ ∗ I')) (hk : Tri defs c E I' (k v) Q) : Tri defs c E I (p >>= k) Q :=
  tri_bind h fun a => by
    unfold Tri at *
    iintro ⟨%e, H⟩
    subst e
    iapply hk
    iexact H

theorem tri_ret {I : sProp 𝕄} (a : α) (Q : α → sProp 𝕄) (h : I ⊢ Q a) : Tri defs c E I (pure a) Q := by
  unfold Tri
  rw [wp_pure]
  iintro H
  imodintro
  iapply h
  iexact H

theorem keeps_bind {I : sProp 𝕄} {p : Prog (TpuEff nD τ sig Val Λ .tc) α} {k : α → Prog (TpuEff nD τ sig Val Λ .tc) β}
    (h : Keeps defs c E I p) (hk : ∀ a, Keeps defs c E I (k a)) : Keeps defs c E I (p >>= k) := tri_bind h hk

theorem keeps_ret {I : sProp 𝕄} (a : α) : Keeps defs c E I (pure a) := tri_ret a _ .rfl

/-- A line that binds a value and goes on. -/
theorem keeps_let {I : sProp 𝕄} (v : α) (k : α → Prog (TpuEff nD τ sig Val Λ .tc) β) (h : ∀ x, Keeps defs c E I (k x)) : Keeps defs c E I (k v) := h v

/-- Two cases that go on alike. -/
theorem tri_dite {I : sProp 𝕄} {P : Prop} [Decidable P] {a : P → Prog (TpuEff nD τ sig Val Λ .tc) α} {b : ¬ P → Prog (TpuEff nD τ sig Val Λ .tc) α}
    {Q : α → sProp 𝕄} (h₁ : ∀ h, Tri defs c E I (a h) Q) (h₂ : ∀ h, Tri defs c E I (b h) Q) : Tri defs c E I (if h : P then a h else b h) Q := by
  by_cases h : P
  · rw [dif_pos h]; exact h₁ h
  · rw [dif_neg h]; exact h₂ h

theorem keeps_dite {I : sProp 𝕄} {P : Prop} [Decidable P] {a : P → Prog (TpuEff nD τ sig Val Λ .tc) α} {b : ¬ P → Prog (TpuEff nD τ sig Val Λ .tc) α}
    (h₁ : ∀ h, Keeps defs c E I (a h)) (h₂ : ∀ h, Keeps defs c E I (b h)) : Keeps defs c E I (if h : P then a h else b h) := tri_dite h₁ h₂

theorem tri_of_keeps {I : sProp 𝕄} {p : Prog (TpuEff nD τ sig Val Λ .tc) α} (h : Keeps defs c E I p) : Tri defs c E I p fun _ => I := h

/-- `I` holds the buffer at `X`. -/
def Rd (c : Dev nD) (I : sProp 𝕄) {cs : CoreSpace} {s : Shape} {e : EltTy} (M : Memref sig .tc cs s e) (X : s.Idx → Val e) : Prop :=
  I ⊢ iprop(owns (c : Thread nD τ) M fullShare X ∗ (owns (c : Thread nD τ) M fullShare X -∗ I))

/-- `I` holds the buffer and says nothing of what is in it. -/
def Wr (c : Dev nD) (I : sProp 𝕄) {cs : CoreSpace} {s : Shape} {e : EltTy} (M : Memref sig .tc cs s e) : Prop :=
  I ⊢ iprop((∃ X, owns (c : Thread nD τ) M fullShare X) ∗ ((∃ X, owns (c : Thread nD τ) M fullShare X) -∗ I))

variable {cs : CoreSpace} {s s' : Shape} {e : EltTy} {M : Memref sig .tc cs s e}

theorem tri_read {I : sProp 𝕄} {X : s.Idx → Val e} (h : Rd c I M X) {off size : Fin s.rank → ℕ} {inb : ∀ a, off a + size a ≤ s.size a}
    {hl : M.view.LoadsAt (Rect.unit off size inb).toLoadRect} :
    Tri defs c E I (Prog.lift (.load M (Rect.unit off size inb).toLoadRect hl)) fun v => iprop(⌜v = VecWindow.window X off size inb⌝ ∗ I) := by
  unfold Tri
  unfold Rd at h
  iintro H
  ihave ⟨Hb, Hr⟩ := h $$ H
  unfold owns
  icases Hb with ⟨%f, %hf, Hb⟩
  iapply (wp_load (defs := defs) Variants.none (c : Thread nD τ) none E (hl := hl) (S := M.view.set) (View.setOn_subset_set _ _)) $$ Hb
  iintro Hb
  rw [wp_ret]
  imodintro
  rw [View.readAt_unit M.view f inb rfl inb, hf]
  isplitr
  · ipureintro; rfl
  iapply Hr
  iexists f
  isplitr
  · ipureintro; exact hf
  iexact Hb

theorem keeps_read {I : sProp 𝕄} {X : s.Idx → Val e} (h : Rd c I M X) {r : LoadRect s} {hl : M.view.LoadsAt r} :
    Keeps defs c E I (Prog.lift (.load M r hl)) := by
  unfold Keeps Tri
  unfold Rd at h
  iintro H
  ihave ⟨Hb, Hr⟩ := h $$ H
  unfold owns
  icases Hb with ⟨%f, %hf, Hb⟩
  iapply (wp_load (defs := defs) Variants.none (c : Thread nD τ) none E (hl := hl) (S := M.view.set) (View.setOn_subset_set _ _)) $$ Hb
  iintro Hb
  rw [wp_ret]
  imodintro
  iapply Hr
  iexists f
  isplitr
  · ipureintro; exact hf
  iexact Hb

theorem keeps_load {I : sProp 𝕄} (h : Wr c I M) {r : LoadRect s} {hl : M.view.LoadsAt r} :
    Keeps defs c E I (Prog.lift (.load M r hl)) := by
  unfold Keeps Tri
  unfold Wr at h
  iintro H
  ihave ⟨Hb, Hr⟩ := h $$ H
  unfold owns
  icases Hb with ⟨%X, %f, %hf, Hb⟩
  iapply (wp_load (defs := defs) Variants.none (c : Thread nD τ) none E (hl := hl) (S := M.view.set) (View.setOn_subset_set _ _)) $$ Hb
  iintro Hb
  rw [wp_ret]
  imodintro
  iapply Hr
  iexists X, f
  isplitr
  · ipureintro; exact hf
  iexact Hb

theorem keeps_load_slice {I : sProp 𝕄} (h : Wr c I M) {r₀ : Rect s} {hr : ∀ a, r₀.stride a = 1} {r : LoadRect r₀.shape}
    {hl : (M.slice r₀ hr).view.LoadsAt r} :
    Keeps defs c E I (Prog.lift (.load (M.slice r₀ hr) r hl)) := by
  unfold Keeps Tri
  unfold Wr at h
  iintro H
  ihave ⟨Hb, Hr⟩ := h $$ H
  unfold owns
  icases Hb with ⟨%X, %f, %hf, Hb⟩
  iapply (wp_load (defs := defs) Variants.none (c : Thread nD τ) none E (m := M.slice r₀ hr) (hl := hl) (S := M.view.set)
    ((View.setOn_subset_set _ _).trans (View.set_slice_subset _ _))) $$ Hb
  iintro Hb
  rw [wp_ret]
  imodintro
  iapply Hr
  iexists X, f
  isplitr
  · ipureintro; exact hf
  iexact Hb

theorem keeps_store {I : sProp 𝕄} (h : Wr c I M) {r : Rect s} {w : r.shape.Idx → Val e} {Mk : Finset r.shape.Idx} {hx : (M.access r).Stores Mk}
    {hm : Mk = Finset.univ ∨ ∀ a, r.stride a = 1} :
    Keeps defs c E I (Prog.lift (.store M r w Mk hx hm)) := by
  unfold Keeps Tri
  unfold Wr at h
  iintro H
  ihave ⟨Hb, Hr⟩ := h $$ H
  unfold owns
  icases Hb with ⟨%X, %f, %hf, Hb⟩
  iapply (wp_store (defs := defs) Variants.none (c : Thread nD τ) none E (hx := hx) (S := M.view.set)
    ((View.setOn_subset_set _ _).trans (View.set_slice_subset _ _))) $$ Hb
  iintro Hb
  rw [wp_ret]
  imodintro
  iapply Hr
  iexists _, _
  isplitr
  swap
  · iexact Hb
  ipureintro; rfl

theorem keeps_store_slice {I : sProp 𝕄} (h : Wr c I M) {r₀ : Rect s} {hr : ∀ a, r₀.stride a = 1} {r : Rect r₀.shape} {w : r.shape.Idx → Val e}
    {Mk : Finset r.shape.Idx} {hx : ((M.slice r₀ hr).access r).Stores Mk} {hm : Mk = Finset.univ ∨ ∀ a, r.stride a = 1} :
    Keeps defs c E I (Prog.lift (.store (M.slice r₀ hr) r w Mk hx hm)) := by
  unfold Keeps Tri
  unfold Wr at h
  iintro H
  ihave ⟨Hb, Hr⟩ := h $$ H
  unfold owns
  icases Hb with ⟨%X, %f, %hf, Hb⟩
  iapply (wp_store (defs := defs) Variants.none (c : Thread nD τ) none E (m := M.slice r₀ hr) (hx := hx) (S := M.view.set)
    ((View.setOn_subset_set _ _).trans ((View.set_slice_subset _ _).trans (View.set_slice_subset _ _)))) $$ Hb
  iintro Hb
  rw [wp_ret]
  imodintro
  iapply Hr
  iexists _, _
  isplitr
  swap
  · iexact Hb
  ipureintro; rfl

/-- A store over a rectangle of a buffer whose contents are followed. -/
theorem tri_put {I I' : sProp 𝕄} {X : s.Idx → Val e} {off size : Fin s.rank → ℕ} {inb : ∀ a, off a + size a ≤ s.size a} {w : (Rect.unit off size inb).shape.Idx → Val e}
    (h : I ⊢ iprop(owns (c : Thread nD τ) M fullShare X ∗ (owns (c : Thread nD τ) M fullShare (VecWindow.put X off size w) -∗ I')))
    {hx : (M.access (Rect.unit off size inb)).Stores Finset.univ} {hm : Finset.univ = Finset.univ ∨ ∀ a, (Rect.unit off size inb).stride a = 1} :
    Tri defs c E I (Prog.lift (.store M (Rect.unit off size inb) w Finset.univ hx hm)) fun _ => I' := by
  unfold Tri
  iintro H
  ihave ⟨Hb, Hr⟩ := h $$ H
  unfold owns
  icases Hb with ⟨%f, %hf, Hb⟩
  iapply (wp_store (defs := defs) Variants.none (c : Thread nD τ) none E (hx := hx) (S := M.view.set)
    ((View.setOn_subset_set _ _).trans (View.set_slice_subset _ _))) $$ Hb
  iintro Hb
  rw [wp_ret]
  imodintro
  iapply Hr
  iexists _
  isplitr
  swap
  · iexact Hb
  ipureintro
  have e := View.read_writes_cons_put (Val := Val) M.view f inb w [] rfl
  rw [View.writes_nil, hf] at e
  exact e

/-- The value a part returns. -/
theorem tri_ret_eq {I : sProp 𝕄} {a v : α} (h : a = v) : Tri defs c E I (pure a) fun x => iprop(⌜x = v⌝ ∗ I) :=
  tri_ret a _ (by
    iintro H
    isplitr
    · ipureintro; exact h
    iexact H)

/-- A buffer whose contents are followed is held. -/
theorem rd8 {J : (s.Idx → Val e) → sProp 𝕄}
    (h : ∀ X X', J X ⊢ iprop(owns (c : Thread nD τ) M fullShare X ∗ (owns (c : Thread nD τ) M fullShare X' -∗ J X'))) (X : s.Idx → Val e) : Rd c (J X) M X :=
  h X X

/-- A buffer out of a list of held ones, its contents free to change. -/
def held : List (sProp 𝕄) → sProp 𝕄
  | [] => iprop(emp)
  | P :: L => iprop(P ∗ held L)

theorem held_at (L : List (sProp 𝕄)) (n : ℕ) (P P' : sProp 𝕄) (h : L[n]? = some P) :
    held L ⊢ iprop(P ∗ (P' -∗ held (L.set n P'))) := by
  induction L generalizing n with
  | nil => cases n <;> cases h
  | cons P₁ L ih =>
    cases n with
    | zero =>
      obtain rfl : P₁ = P := by simpa using h
      show iprop(P₁ ∗ held L) ⊢ iprop(P₁ ∗ (P' -∗ iprop(P' ∗ held L)))
      iintro ⟨H, Hl⟩
      isplitl [H]; · iexact H
      iintro H'
      isplitl [H']; · iexact H'
      iexact Hl
    | succ n =>
      have h' := ih n (by simpa using h)
      show iprop(P₁ ∗ held L) ⊢ iprop(P ∗ (P' -∗ iprop(P₁ ∗ held (L.set n P'))))
      iintro ⟨H₁, Hl⟩
      ihave ⟨H, Hr⟩ := h' $$ Hl
      isplitl [H]; · iexact H
      iintro H'
      isplitl [H₁]; · iexact H₁
      iapply Hr
      iexact H'

end Cert.Keep
-- ==== Proof.OutBParts.lean ====
module

public import proofs.«01_k».proof.Proof.OutKeep
public import proofs.«01_k».proof.Proof.Gen.Kernel3.Frame

@[expose] public section

set_option maxRecDepth 16384

noncomputable section

namespace Cert.OutB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep Cert.Kernel3 Cert.Kernel3.Gen

/-! # The output projection's body in words, part by part: it keeps its operands -/

variable {F : FTy → Type} [FloatOps F] [BitOps F]

local notation "𝕄" => MT nD τ sig Unit (Elt F) ℕ (UR sig nD τ) ℕ

variable (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S512x2048 .f32) (harg8 : arg8.IsWhole) (arg9 : Memref sig .tc .vmem S4096x128 .i32) (harg9 : arg9.IsWhole) (arg10 : Memref sig .tc .vmem S8x512 .i32) (harg10 : arg10.IsWhole) (arg11 : Memref sig .tc .vmem S512x128 .f32) (harg11 : arg11.IsWhole) (arg12 : Memref sig .tc .vmem S32x128 .f32) (harg12 : arg12.IsWhole) (arg13 : Memref sig .tc .vmem S32x128 .f32) (harg13 : arg13.IsWhole)

variable {c : Dev nD}
theorem part2 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v25 : FVec F S256x2048 .f32) :
    Keeps (defs₀ (F := F)) c Set.univ I (k0_part2 i arg1 harg1 arg2 harg2 arg3 harg3 arg4 harg4 arg5 harg5 arg6 harg6 arg7 harg7 arg8 harg8 arg9 harg9 arg10 harg10 arg11 harg11 arg12 harg12 arg13 harg13 v25) := by
  unfold k0_part2
  refine keeps_bind (keeps_store h8) fun _ => ?_
  extract_lets -underBinder -merge -useContext
  refine keeps_bind (keeps_load h8) fun _ => ?_
  extract_lets -underBinder -merge -useContext
  refine keeps_bind (keeps_read h5) fun _ => ?_
  extract_lets -underBinder -merge -useContext
  refine keeps_bind (keeps_read h6) fun _ => ?_
  extract_lets -underBinder -merge -useContext
  refine keeps_bind (keeps_read h7) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  exact keeps_ret _

theorem part3 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v50 : FVec F S256x128 .f32) (v53 : IVec S256x1024 32) (v60 : IVec S256x128 32) :
    Keeps (defs₀ (F := F)) c Set.univ I (k0_part3 i arg1 harg1 arg2 harg2 arg3 harg3 arg4 harg4 arg5 harg5 arg6 harg6 arg7 harg7 arg8 harg8 arg9 harg9 arg10 harg10 arg11 harg11 arg12 harg12 arg13 harg13 v50 v53 v60) := by
  unfold k0_part3
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  exact keeps_ret _

theorem part4 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v78 : FVec F S128x256 .f32) (v80 : FVec F S8x256 .f32) (v81 : FVec F S8x256 .f32) (v83 : IVec S8x256 1) (v87 : FVec F S1x256 .f32) (v90 : FVec F S8x256 .f32) :
    Keeps (defs₀ (F := F)) c Set.univ I (k0_part4 i arg1 harg1 arg2 harg2 arg3 harg3 arg4 harg4 arg5 harg5 arg6 harg6 arg7 harg7 arg8 harg8 arg9 harg9 arg10 harg10 arg11 harg11 arg12 harg12 arg13 harg13 v78 v80 v81 v83 v87 v90) := by
  unfold k0_part4
  extract_lets -underBinder -merge -useContext
  exact keeps_ret _

theorem part5 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v80 : FVec F S8x256 .f32) (v96 : FVec F S1x256 .f32) (v103 : FVec F S1x256 .f32) (v122 : FVec F S8x256 .f32) (v124 : FVec F S1x256 .f32) (v130 : FVec F S1x256 .f32) (v132 : IVec S8x256 1) (v136 : FVec F S1x256 .f32) (v137 : FVec F S8x256 .f32) :
    Keeps (defs₀ (F := F)) c Set.univ I (k0_part5 i arg1 harg1 arg2 harg2 arg3 harg3 arg4 harg4 arg5 harg5 arg6 harg6 arg7 harg7 arg8 harg8 arg9 harg9 arg10 harg10 arg11 harg11 arg12 harg12 arg13 harg13 v80 v96 v103 v122 v124 v130 v132 v136 v137) := by
  unfold k0_part5
  extract_lets -underBinder -merge -useContext
  refine keeps_bind (keeps_load h13) fun _ => ?_
  extract_lets -underBinder -merge -useContext
  exact keeps_ret _

theorem part6 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v79 : IVec S8x256 32) (v150 : FVec F S1x256 .f32) (v154 : FVec F S1x256 .f32) (v157 : FVec F S1x256 .f32) (v160 : FVec F S1x256 .f32) (v164 : IVec S32x256 1) (v166 : IVec S32x256 1) (v170 : FVec F S32x256 .f32) (v178 : Vec F S32x128 .f32) (v182 : FVec F S32x256 .f32) (cst_91 : F .f32) :
    Keeps (defs₀ (F := F)) c Set.univ I (k0_part6 i arg1 harg1 arg2 harg2 arg3 harg3 arg4 harg4 arg5 harg5 arg6 harg6 arg7 harg7 arg8 harg8 arg9 harg9 arg10 harg10 arg11 harg11 arg12 harg12 arg13 harg13 v79 v150 v154 v157 v160 v164 v166 v170 v178 v182 cst_91) := by
  unfold k0_part6
  extract_lets -underBinder -merge -useContext
  refine keeps_bind (keeps_load h13) fun _ => ?_
  extract_lets -underBinder -merge -useContext
  refine keeps_bind (keeps_store h13) fun _ => ?_
  extract_lets -underBinder -merge -useContext
  exact keeps_ret _

theorem part7 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v215 : FVec F S8x256 .f32) (v228 : FVec F S128x256 .f32) :
    Keeps (defs₀ (F := F)) c Set.univ I (k0_part7 i arg1 harg1 arg2 harg2 arg3 harg3 arg4 harg4 arg5 harg5 arg6 harg6 arg7 harg7 arg8 harg8 arg9 harg9 arg10 harg10 arg11 harg11 arg12 harg12 arg13 harg13 v215 v228) := by
  unfold k0_part7
  extract_lets -underBinder -merge -useContext
  refine keeps_bind (keeps_load h10) fun _ => ?_
  refine keeps_bind (keeps_store h10) fun _ => ?_
  extract_lets -underBinder -merge -useContext
  refine keeps_bind (keeps_load h11) fun _ => ?_
  refine keeps_bind (keeps_store h11) fun _ => ?_
  extract_lets -underBinder -merge -useContext
  refine keeps_bind (keeps_load h8) fun _ => ?_
  extract_lets -underBinder -merge -useContext
  refine keeps_bind (keeps_read h5) fun _ => ?_
  extract_lets -underBinder -merge -useContext
  refine keeps_bind (keeps_read h6) fun _ => ?_
  extract_lets -underBinder -merge -useContext
  refine keeps_bind (keeps_read h7) fun _ => ?_
  extract_lets -underBinder -merge -useContext
  refine keeps_bind (keeps_load_slice h9) fun _ => ?_
  refine keeps_bind (keeps_store_slice h9) fun _ => ?_
  extract_lets -underBinder -merge -useContext
  exact keeps_ret _

theorem part8 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v256 : FVec F S256x128 .f32) (v259 : IVec S256x1024 32) (v263 : IVec S256x128 32) :
    Keeps (defs₀ (F := F)) c Set.univ I (k0_part8 i arg1 harg1 arg2 harg2 arg3 harg3 arg4 harg4 arg5 harg5 arg6 harg6 arg7 harg7 arg8 harg8 arg9 harg9 arg10 harg10 arg11 harg11 arg12 harg12 arg13 harg13 v256 v259 v263) := by
  unfold k0_part8
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  refine keeps_bind (keeps_load_slice h9) fun _ => ?_
  refine keeps_bind (keeps_store_slice h9) fun _ => ?_
  extract_lets -underBinder -merge -useContext
  exact keeps_ret _

theorem part9 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v284 : FVec F S128x256 .f32) (v286 : FVec F S8x256 .f32) (v287 : FVec F S8x256 .f32) (v289 : IVec S8x256 1) :
    Keeps (defs₀ (F := F)) c Set.univ I (k0_part9 i arg1 harg1 arg2 harg2 arg3 harg3 arg4 harg4 arg5 harg5 arg6 harg6 arg7 harg7 arg8 harg8 arg9 harg9 arg10 harg10 arg11 harg11 arg12 harg12 arg13 harg13 v284 v286 v287 v289) := by
  unfold k0_part9
  extract_lets -underBinder -merge -useContext
  exact keeps_ret _

theorem part10 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v286 : FVec F S8x256 .f32) (v302 : FVec F S1x256 .f32) (v309 : FVec F S1x256 .f32) (v328 : FVec F S8x256 .f32) (v330 : FVec F S1x256 .f32) (v336 : FVec F S1x256 .f32) :
    Keeps (defs₀ (F := F)) c Set.univ I (k0_part10 i arg1 harg1 arg2 harg2 arg3 harg3 arg4 harg4 arg5 harg5 arg6 harg6 arg7 harg7 arg8 harg8 arg9 harg9 arg10 harg10 arg11 harg11 arg12 harg12 arg13 harg13 v286 v302 v309 v328 v330 v336) := by
  unfold k0_part10
  extract_lets -underBinder -merge -useContext
  exact keeps_ret _

theorem part11 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) (v285 : IVec S8x256 32) (v360 : FVec F S1x256 .f32) (v363 : FVec F S1x256 .f32) (v366 : FVec F S1x256 .f32) (v370 : IVec S32x256 1) (v372 : IVec S32x256 1) (v376 : FVec F S32x256 .f32) (v383 : FVec F S256x256 .bf16) :
    Keeps (defs₀ (F := F)) c Set.univ I (k0_part11 i arg1 harg1 arg2 harg2 arg3 harg3 arg4 harg4 arg5 harg5 arg6 harg6 arg7 harg7 arg8 harg8 arg9 harg9 arg10 harg10 arg11 harg11 arg12 harg12 arg13 harg13 v285 v360 v363 v366 v370 v372 v376 v383) := by
  unfold k0_part11
  extract_lets -underBinder -merge -useContext
  refine keeps_bind (keeps_load h13) fun _ => ?_
  extract_lets -underBinder -merge -useContext
  refine keeps_bind (keeps_load h13) fun _ => ?_
  extract_lets -underBinder -merge -useContext
  refine keeps_bind (keeps_store h13) fun _ => ?_
  extract_lets -underBinder -merge -useContext
  exact keeps_ret _

theorem part1 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) :
    Keeps (defs₀ (F := F)) c Set.univ I (k0_part1 i arg1 harg1 arg2 harg2 arg3 harg3 arg4 harg4 arg5 harg5 arg6 harg6 arg7 harg7 arg8 harg8 arg9 harg9 arg10 harg10 arg11 harg11 arg12 harg12 arg13 harg13) := by
  unfold k0_part1
  extract_lets -underBinder -merge -useContext v0 v1 v2 v3 v4 v5 jp
  have hj : Keeps (defs₀ (F := F)) c Set.univ I (jp ⟨⟩) := by
    dsimp -zeta only [jp]
    try extract_lets -underBinder -merge -useContext
    refine keeps_bind (keeps_read h1) fun _ => ?_
    try extract_lets -underBinder -merge -useContext
    refine keeps_bind (keeps_read h4) fun _ => ?_
    try extract_lets -underBinder -merge -useContext
    refine keeps_bind (keeps_read h2) fun _ => ?_
    try extract_lets -underBinder -merge -useContext
    refine keeps_bind (keeps_read h4) fun _ => ?_
    try extract_lets -underBinder -merge -useContext
    refine keeps_bind (keeps_read h3) fun _ => ?_
    try extract_lets -underBinder -merge -useContext
    refine keeps_bind (keeps_load h8) fun _ => ?_
    refine keeps_bind (keeps_store h8) fun _ => ?_
    try extract_lets -underBinder -merge -useContext
    refine keeps_bind (keeps_read h1) fun _ => ?_
    try extract_lets -underBinder -merge -useContext
    refine keeps_bind (keeps_read h4) fun _ => ?_
    try extract_lets -underBinder -merge -useContext
    refine keeps_bind (keeps_read h2) fun _ => ?_
    try extract_lets -underBinder -merge -useContext
    refine keeps_bind (keeps_read h4) fun _ => ?_
    try extract_lets -underBinder -merge -useContext
    refine keeps_bind (keeps_read h3) fun _ => ?_
    try extract_lets -underBinder -merge -useContext
    refine keeps_bind (keeps_load h8) fun _ => ?_
    exact keeps_ret _
  refine keeps_dite (fun _ => ?_) (fun _ => hj)
  extract_lets -underBinder -merge -useContext
  refine keeps_bind (keeps_load h13) fun _ => ?_
  extract_lets -underBinder -merge -useContext
  refine keeps_bind (keeps_store h13) fun _ => ?_
  exact hj

/-- The body keeps its operands. -/
theorem body {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Wr c I arg8) (h9 : Wr c I arg9) (h10 : Wr c I arg10) (h11 : Wr c I arg11) (h12 : Wr c I arg12) (h13 : Wr c I arg13) :
    Keeps (defs₀ (F := F)) c Set.univ I (cc0_outproj i arg1 harg1 arg2 harg2 arg3 harg3 arg4 harg4 arg5 harg5 arg6 harg6 arg7 harg7 arg8 harg8 arg9 harg9 arg10 harg10 arg11 harg11 arg12 harg12 arg13 harg13) := by
  unfold cc0_outproj
  refine keeps_bind (part1 _ _ _ _ _ _ _ _ _ _ _ _ _ _ _ _ _ _ _ _ _ _ _ _ _ _ _ h1 h2 h3 h4 h5 h6 h7 h8 h9 h10 h11 h12 h13) fun r => ?_
  refine keeps_bind (part2 _ _ _ _ _ _ _ _ _ _ _ _ _ _ _ _ _ _ _ _ _ _ _ _ _ _ _ h1 h2 h3 h4 h5 h6 h7 h8 h9 h10 h11 h12 h13 _) fun r => ?_
  obtain ⟨r0, r1, r2⟩ := r
  refine keeps_bind (part3 _ _ _ _ _ _ _ _ _ _ _ _ _ _ _ _ _ _ _ _ _ _ _ _ _ _ _ h1 h2 h3 h4 h5 h6 h7 h8 h9 h10 h11 h12 h13 _ _ _) fun r => ?_
  obtain ⟨r0, r1, r2, r3, r4, r5, r6⟩ := r
  refine keeps_bind (part4 _ _ _ _ _ _ _ _ _ _ _ _ _ _ _ _ _ _ _ _ _ _ _ _ _ _ _ h1 h2 h3 h4 h5 h6 h7 h8 h9 h10 h11 h12 h13 _ _ _ _ _ _) fun r => ?_
  obtain ⟨r0, r1, r2, r3, r4, r5, r6, r7⟩ := r
  refine keeps_bind (part5 _ _ _ _ _ _ _ _ _ _ _ _ _ _ _ _ _ _ _ _ _ _ _ _ _ _ _ h1 h2 h3 h4 h5 h6 h7 h8 h9 h10 h11 h12 h13 _ _ _ _ _ _ _ _ _) fun r => ?_
  obtain ⟨r0, r1, r2, r3, r4, r5, r6, r7, r8, r9⟩ := r
  refine keeps_bind (part6 _ _ _ _ _ _ _ _ _ _ _ _ _ _ _ _ _ _ _ _ _ _ _ _ _ _ _ h1 h2 h3 h4 h5 h6 h7 h8 h9 h10 h11 h12 h13 _ _ _ _ _ _ _ _ _ _ _) fun r => ?_
  obtain ⟨r0, r1⟩ := r
  refine keeps_bind (part7 _ _ _ _ _ _ _ _ _ _ _ _ _ _ _ _ _ _ _ _ _ _ _ _ _ _ _ h1 h2 h3 h4 h5 h6 h7 h8 h9 h10 h11 h12 h13 _ _) fun r => ?_
  obtain ⟨r0, r1, r2⟩ := r
  refine keeps_bind (part8 _ _ _ _ _ _ _ _ _ _ _ _ _ _ _ _ _ _ _ _ _ _ _ _ _ _ _ h1 h2 h3 h4 h5 h6 h7 h8 h9 h10 h11 h12 h13 _ _ _) fun r => ?_
  obtain ⟨r0, r1, r2, r3, r4⟩ := r
  refine keeps_bind (part9 _ _ _ _ _ _ _ _ _ _ _ _ _ _ _ _ _ _ _ _ _ _ _ _ _ _ _ h1 h2 h3 h4 h5 h6 h7 h8 h9 h10 h11 h12 h13 _ _ _ _) fun r => ?_
  obtain ⟨r0, r1, r2, r3, r4⟩ := r
  refine keeps_bind (part10 _ _ _ _ _ _ _ _ _ _ _ _ _ _ _ _ _ _ _ _ _ _ _ _ _ _ _ h1 h2 h3 h4 h5 h6 h7 h8 h9 h10 h11 h12 h13 _ _ _ _ _ _) fun r => ?_
  obtain ⟨r0, r1, r2, r3, r4, r5, r6, r7⟩ := r
  refine keeps_bind (part11 _ _ _ _ _ _ _ _ _ _ _ _ _ _ _ _ _ _ _ _ _ _ _ _ _ _ _ h1 h2 h3 h4 h5 h6 h7 h8 h9 h10 h11 h12 h13 _ _ _ _ _ _ _ _) fun r => ?_
  obtain ⟨r0, r1, r2, r3, r4⟩ := r
  dsimp -zeta only
  try extract_lets -underBinder -merge -useContext
  refine keeps_bind (keeps_load h10) fun _ => ?_
  refine keeps_bind (keeps_store h10) fun _ => ?_
  try extract_lets -underBinder -merge -useContext
  refine keeps_bind (keeps_load h11) fun _ => ?_
  refine keeps_bind (keeps_store h11) fun _ => ?_
  try extract_lets -underBinder -merge -useContext
  refine keeps_bind (keeps_load h13) fun _ => ?_
  try extract_lets -underBinder -merge -useContext
  refine keeps_bind (keeps_load h12) fun _ => ?_
  refine keeps_bind (keeps_store h12) fun _ => ?_
  exact keeps_ret _

end Cert.OutB
-- ==== Proof.OutBRun.lean ====
module

public import proofs.«01_k».proof.Proof.OutBParts
public import Idealize.ShloMosaic.Lib.Claim

@[expose] public section

set_option maxRecDepth 16384

noncomputable section

namespace Cert.OutB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Keep Cert.Kernel3 Cert.Kernel3.Gen

local notation "𝕄" => MT nD τ sig Unit (Elt Bits) ℕ (UR sig nD τ) ℕ

/-! # The output projection's run -/

variable (m : (ℓ : Loc nD τ sig) → Buf (Elt Bits) ℓ) (ρ : Dev nD → PrngReg)

/-- The windows of which the run follows nothing. -/
def fgt : Fin 12 → Bool := fun w => decide (7 ≤ w.val)

/-- The pipeline's proof data: the arrays as the region finds them, each input's buffer at its block. -/
def odats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

theorem arr_eq (c : Dev nD) (w : Fin cfg0.W) : (odats m 0 c).A w = V m c (Pipeline.arrRef spec0 w) := by dsimp only [odats]
theorem aft0 (c : Dev nD) (t : Fin cfg0.N) : (odats m 0 c).after 0 t = iblk m c 0 t := by dsimp only [odats]
theorem aft1 (c : Dev nD) (t : Fin cfg0.N) : (odats m 0 c).after 1 t = iblk m c 1 t := by dsimp only [odats]
theorem aft2 (c : Dev nD) (t : Fin cfg0.N) : (odats m 0 c).after 2 t = iblk m c 2 t := by dsimp only [odats]
theorem aft3 (c : Dev nD) (t : Fin cfg0.N) : (odats m 0 c).after 3 t = iblk m c 3 t := by dsimp only [odats]
theorem aft4 (c : Dev nD) (t : Fin cfg0.N) : (odats m 0 c).after 4 t = iblk m c 4 t := by dsimp only [odats]
theorem aft5 (c : Dev nD) (t : Fin cfg0.N) : (odats m 0 c).after 5 t = iblk m c 5 t := by dsimp only [odats]
theorem aft6 (c : Dev nD) (t : Fin cfg0.N) : (odats m 0 c).after 6 t = iblk m c 6 t := by dsimp only [odats]

theorem bef0 (c : Dev nD) (t : Fin cfg0.N) (d) : (odats m 0 c).before 0 t d = iblk m c 0 t := before0_0_of m (odats m 0 c) (arr_eq m c 0) (aft0 m c) t d
theorem bef1 (c : Dev nD) (t : Fin cfg0.N) (d) : (odats m 0 c).before 1 t d = iblk m c 1 t := before0_1_of m (odats m 0 c) (arr_eq m c 1) (aft1 m c) t d
theorem bef2 (c : Dev nD) (t : Fin cfg0.N) (d) : (odats m 0 c).before 2 t d = iblk m c 2 t := before0_2_of m (odats m 0 c) (arr_eq m c 2) (aft2 m c) t d
theorem bef3 (c : Dev nD) (t : Fin cfg0.N) (d) : (odats m 0 c).before 3 t d = iblk m c 3 t := before0_3_of m (odats m 0 c) (arr_eq m c 3) (aft3 m c) t d
theorem bef4 (c : Dev nD) (t : Fin cfg0.N) (d) : (odats m 0 c).before 4 t d = iblk m c 4 t := before0_4_of m (odats m 0 c) (arr_eq m c 4) (aft4 m c) t d
theorem bef5 (c : Dev nD) (t : Fin cfg0.N) (d) : (odats m 0 c).before 5 t d = iblk m c 5 t := before0_5_of m (odats m 0 c) (arr_eq m c 5) (aft5 m c) t d
theorem bef6 (c : Dev nD) (t : Fin cfg0.N) (d) : (odats m 0 c).before 6 t d = iblk m c 6 t := before0_6_of m (odats m 0 c) (arr_eq m c 6) (aft6 m c) t d

/-- The scratch and the generator, held between points. -/
theorem PhiA_eq (c : Dev nD) : (Pipeline.ΦA spec0 c : sProp 𝕄)
    = iprop((∃ X, owns (c : Thread nD τ) (Memref.whole cc0_scratch0) fullShare X) ∗ (∃ r, prngReg c r)) := by
  unfold Pipeline.ΦA
  rw [scopedRest0_eq]
  simp only [owns_whole]
  try rfl

/-- The buffers a point's body has. -/
def bufs (c : Dev nD) (t : Fin cfg0.N) : List (sProp 𝕄) :=
  [owns (c : Thread nD τ) (st0_0 t) fullShare (iblk m c 0 t),
    owns (c : Thread nD τ) (st0_1 t) fullShare (iblk m c 1 t),
    owns (c : Thread nD τ) (st0_2 t) fullShare (iblk m c 2 t),
    owns (c : Thread nD τ) (st0_3 t) fullShare (iblk m c 3 t),
    owns (c : Thread nD τ) (st0_4 t) fullShare (iblk m c 4 t),
    owns (c : Thread nD τ) (st0_5 t) fullShare (iblk m c 5 t),
    owns (c : Thread nD τ) (st0_6 t) fullShare (iblk m c 6 t),
    iprop(∃ X, owns (c : Thread nD τ) (st0_7 t) fullShare X),
    iprop(∃ X, owns (c : Thread nD τ) (st0_8 t) fullShare X),
    iprop(∃ X, owns (c : Thread nD τ) (st0_9 t) fullShare X),
    iprop(∃ X, owns (c : Thread nD τ) (st0_10 t) fullShare X),
    iprop(∃ X, owns (c : Thread nD τ) (st0_11 t) fullShare X),
    iprop(∃ X, owns (c : Thread nD τ) (Memref.whole cc0_scratch0) fullShare X)]

theorem has0 (c : Dev nD) (t : Fin cfg0.N) : Rd c (held (bufs m c t)) (st0_0 t) (iblk m c 0 t) :=
  held_at (bufs m c t) 0 _ (owns (c : Thread nD τ) (st0_0 t) fullShare (iblk m c 0 t)) rfl
theorem has1 (c : Dev nD) (t : Fin cfg0.N) : Rd c (held (bufs m c t)) (st0_1 t) (iblk m c 1 t) :=
  held_at (bufs m c t) 1 _ (owns (c : Thread nD τ) (st0_1 t) fullShare (iblk m c 1 t)) rfl
theorem has2 (c : Dev nD) (t : Fin cfg0.N) : Rd c (held (bufs m c t)) (st0_2 t) (iblk m c 2 t) :=
  held_at (bufs m c t) 2 _ (owns (c : Thread nD τ) (st0_2 t) fullShare (iblk m c 2 t)) rfl
theorem has3 (c : Dev nD) (t : Fin cfg0.N) : Rd c (held (bufs m c t)) (st0_3 t) (iblk m c 3 t) :=
  held_at (bufs m c t) 3 _ (owns (c : Thread nD τ) (st0_3 t) fullShare (iblk m c 3 t)) rfl
theorem has4 (c : Dev nD) (t : Fin cfg0.N) : Rd c (held (bufs m c t)) (st0_4 t) (iblk m c 4 t) :=
  held_at (bufs m c t) 4 _ (owns (c : Thread nD τ) (st0_4 t) fullShare (iblk m c 4 t)) rfl
theorem has5 (c : Dev nD) (t : Fin cfg0.N) : Rd c (held (bufs m c t)) (st0_5 t) (iblk m c 5 t) :=
  held_at (bufs m c t) 5 _ (owns (c : Thread nD τ) (st0_5 t) fullShare (iblk m c 5 t)) rfl
theorem has6 (c : Dev nD) (t : Fin cfg0.N) : Rd c (held (bufs m c t)) (st0_6 t) (iblk m c 6 t) :=
  held_at (bufs m c t) 6 _ (owns (c : Thread nD τ) (st0_6 t) fullShare (iblk m c 6 t)) rfl
theorem has7 (c : Dev nD) (t : Fin cfg0.N) : Wr c (held (bufs m c t)) (st0_7 t) :=
  held_at (bufs m c t) 7 _ (iprop(∃ X, owns (c : Thread nD τ) (st0_7 t) fullShare X)) rfl
theorem has8 (c : Dev nD) (t : Fin cfg0.N) : Wr c (held (bufs m c t)) (st0_8 t) :=
  held_at (bufs m c t) 8 _ (iprop(∃ X, owns (c : Thread nD τ) (st0_8 t) fullShare X)) rfl
theorem has9 (c : Dev nD) (t : Fin cfg0.N) : Wr c (held (bufs m c t)) (st0_9 t) :=
  held_at (bufs m c t) 9 _ (iprop(∃ X, owns (c : Thread nD τ) (st0_9 t) fullShare X)) rfl
theorem has10 (c : Dev nD) (t : Fin cfg0.N) : Wr c (held (bufs m c t)) (st0_10 t) :=
  held_at (bufs m c t) 10 _ (iprop(∃ X, owns (c : Thread nD τ) (st0_10 t) fullShare X)) rfl
theorem has11 (c : Dev nD) (t : Fin cfg0.N) : Wr c (held (bufs m c t)) (st0_11 t) :=
  held_at (bufs m c t) 11 _ (iprop(∃ X, owns (c : Thread nD τ) (st0_11 t) fullShare X)) rfl
theorem has12 (c : Dev nD) (t : Fin cfg0.N) : Wr c (held (bufs m c t)) (Memref.whole cc0_scratch0) :=
  held_at (bufs m c t) 12 _ (iprop(∃ X, owns (c : Thread nD τ) (Memref.whole cc0_scratch0) fullShare X)) rfl

/-- What the body is called with at a point, -/
def bPre (c : Dev nD) (t : Fin cfg0.N) : sProp 𝕄 :=
  iprop((odats m 0 c).Φ t.castSucc ∗ (odats m 0 c).owesAt () t.castSucc
    ∗ (∃ d, owns (c : Thread nD τ) (st0_0 t) fullShare ((odats m 0 c).before 0 t d))
    ∗ (∃ d, owns (c : Thread nD τ) (st0_1 t) fullShare ((odats m 0 c).before 1 t d))
    ∗ (∃ d, owns (c : Thread nD τ) (st0_2 t) fullShare ((odats m 0 c).before 2 t d))
    ∗ (∃ d, owns (c : Thread nD τ) (st0_3 t) fullShare ((odats m 0 c).before 3 t d))
    ∗ (∃ d, owns (c : Thread nD τ) (st0_4 t) fullShare ((odats m 0 c).before 4 t d))
    ∗ (∃ d, owns (c : Thread nD τ) (st0_5 t) fullShare ((odats m 0 c).before 5 t d))
    ∗ (∃ d, owns (c : Thread nD τ) (st0_6 t) fullShare ((odats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bPost (c : Dev nD) (t : Fin cfg0.N) : sProp 𝕄 :=
  iprop((odats m 0 c).Φ t.succ ∗ (odats m 0 c).owesAt () t.succ
    ∗ owns (c : Thread nD τ) (st0_0 t) fullShare ((odats m 0 c).after 0 t)
    ∗ owns (c : Thread nD τ) (st0_1 t) fullShare ((odats m 0 c).after 1 t)
    ∗ owns (c : Thread nD τ) (st0_2 t) fullShare ((odats m 0 c).after 2 t)
    ∗ owns (c : Thread nD τ) (st0_3 t) fullShare ((odats m 0 c).after 3 t)
    ∗ owns (c : Thread nD τ) (st0_4 t) fullShare ((odats m 0 c).after 4 t)
    ∗ owns (c : Thread nD τ) (st0_5 t) fullShare ((odats m 0 c).after 5 t)
    ∗ owns (c : Thread nD τ) (st0_6 t) fullShare ((odats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- The body on the buffers of a point. -/
theorem body_tri (c : Dev nD) (t : Fin cfg0.N) :
    held (bufs m c t) ⊢ wp frame (wpE (defs₀ (F := Bits)) Variants.none (c : Thread nD τ) none) Set.univ (bodyAt0 t) fun _ => held (bufs m c t) :=
  body (F := Bits) (I := held (bufs m c t)) _ _ _ _ _ _ _ _ _ _ _ _ _ _ _ _ _ _ _ _ _ _ _ _ _ _ _ (has0 m c t) (has1 m c t) (has2 m c t) (has3 m c t) (has4 m c t) (has5 m c t) (has6 m c t) (has7 m c t) (has8 m c t) (has9 m c t) (has10 m c t) (has11 m c t) (has12 m c t)

set_option maxHeartbeats 1600000 in
/-- The body at any point. -/
theorem body_sound (c : Dev nD) (t : Fin cfg0.N) :
    bPre m c t ⊢ wp frame (wpE (defs₀ (F := Bits)) Variants.none c none) Set.univ (bodyAt0 t) (fun _ => bPost m c t) := by
  unfold bPre bPost
  simp only [bef0, bef1, bef2, bef3, bef4, bef5, bef6]
  rw [show (odats m 0 c).Φ t.succ = (odats m 0 c).Φ t.castSucc from rfl,
    show (odats m 0 c).owesAt () t.succ = (odats m 0 c).owesAt () t.castSucc from rfl,
    aft0, aft1, aft2, aft3, aft4, aft5, aft6]
  rw [show (odats m 0 c).Φ t.castSucc = Pipeline.ΦA spec0 c from rfl, PhiA_eq]
  iintro ⟨⟨⟨%e0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hw := body_tri m c t $$ [H0 H1 H2 H3 H4 H5 H6 H7 H8 H9 H10 H11 HS]
  · unfold bufs
    simp only [held]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [HS]
    · iexists _; iexact HS
    iempintro
  iapply (wp_wand_r frame (wpE (defs₀ (F := Bits)) Variants.none (c : Thread nD τ) none) Set.univ)
  isplitl [Hw]; · iexact Hw
  iintro %u
  unfold bufs
  simp only [held]
  iintro ⟨H0, H1, H2, H3, H4, H5, H6, H7, H8, H9, H10, H11, HS, -⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point is the body as `bodyAt0` spells it. -/
theorem row_eq (t : Fin cfg0.N) : defs₀ (F := Bits) .tc cfg0.body (cfg0.bodyArgs t (cfg0.slots t)) = bodyAt0 t := by
  unfold defs₀; rw [Defs.onTc_tc]

theorem body_ob (c : Dev nD) : BodyObligation (odats m 0 c) (defs₀ (F := Bits)) Variants.none () Set.univ fgt := fun t => by
  rw [bigSep_W0, bigSep_W0, row_eq]
  exact triple_restated (body_sound m c t) rfl .rfl fun _ => .rfl

set_option backward.isDefEq.respectTransparency.types false in
theorem run_q : θ_run defs (onTc (τ := τ) (main (F := Bits))) (s₀ m ρ)
    (fun r => RDat.FramePost cfg0 (fun c => (odats m 0 c).toRForget fgt) (V m) r ∧ r.2.sem = fun _ => 0) :=
  Pipeline.θ_run_frame_forget (Q' := _) cfgs (odats m) (0 : Fin 1) launch0 defs₀ Variants.none fgt m ρ main
    (hbody := fun c => (body_ob m c).loose) (hshare := fun c => (odats m 0 c).share_full fun _ => rfl)
    (howed := fun _ _ => rfl) (V := V m) (hmain := hmain m Variants.none) (hA := arr_eq m) (hΦ := fun _ _ => rfl)

/-- The run: the arguments as they were, no counter raised. -/
theorem run : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hq => ⟨fun c => by
    have h := hq.1
    exact ⟨(RDat.FramePost.arr_in h c 0 rfl).trans ((arr_eq m c 0).trans (V_main_arg0 m c)),
      (RDat.FramePost.arr_in h c 1 rfl).trans ((arr_eq m c 1).trans (V_main_arg1 m c)),
      (RDat.FramePost.arr_in h c 2 rfl).trans ((arr_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hq.2⟩) (run_q m ρ)

end Cert.OutB
-- ==== Proof.OutIParts.lean ====
module

public import proofs.«01_k».proof.Proof.OutKeep
public import proofs.«01_k».proof.Proof.Gen.Kernel3Ideal.Frame

@[expose] public section

set_option maxRecDepth 16384

noncomputable section

namespace Cert.OutI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Keep Cert.Kernel3Ideal Cert.Kernel3Ideal.Gen

/-! # The output projection's body, part by part: what comes after the residual rows keeps them -/

variable {F : FTy → Type} [FloatOps F] [Named F]

local notation "𝕄" => MT nD τ sig Unit (Elt F) ℕ (UR sig nD τ) ℕ

variable (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S512x2048 .f32) (harg8 : arg8.IsWhole) (arg9 : Memref sig .tc .vmem S4096x2x128 .bf16) (harg9 : arg9.IsWhole) (arg10 : Memref sig .tc .vmem S8x512 .i32) (harg10 : arg10.IsWhole) (arg11 : Memref sig .tc .vmem S512x128 .f32) (harg11 : arg11.IsWhole) (arg12 : Memref sig .tc .vmem S32x128 .f32) (harg12 : arg12.IsWhole) (arg13 : Memref sig .tc .vmem S32x128 .f32) (harg13 : arg13.IsWhole)

variable {c : Dev nD}
theorem part3 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v53_lo : FVec F S256x1024 .bf16) (v53_hi : FVec F S256x1024 .bf16) (k0_w2 : Vec F S256x2x128 .bf16) :
    Keeps (defs₀ (F := F)) c Set.univ I (k0_part3 i arg1 harg1 arg2 harg2 arg3 harg3 arg4 harg4 arg5 harg5 arg6 harg6 arg7 harg7 arg8 harg8 arg9 harg9 arg10 harg10 arg11 harg11 arg12 harg12 arg13 harg13 v53_lo v53_hi k0_w2) := by
  unfold k0_part3
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  exact keeps_ret _

theorem part4 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v50 : FVec F S256x128 .f32) (k0_w8 : Vec F S256x2x128 .bf16) :
    Keeps (defs₀ (F := F)) c Set.univ I (k0_part4 i arg1 harg1 arg2 harg2 arg3 harg3 arg4 harg4 arg5 harg5 arg6 harg6 arg7 harg7 arg8 harg8 arg9 harg9 arg10 harg10 arg11 harg11 arg12 harg12 arg13 harg13 v50 k0_w8) := by
  unfold k0_part4
  extract_lets -underBinder -merge -useContext
  refine keeps_bind (keeps_store_slice h9) fun _ => ?_
  extract_lets -underBinder -merge -useContext
  exact keeps_ret _

theorem part5 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v80 : FVec F S8x256 .f32) (v96 : FVec F S1x256 .f32) (v103 : FVec F S1x256 .f32) (v122 : FVec F S8x256 .f32) (v124 : FVec F S1x256 .f32) :
    Keeps (defs₀ (F := F)) c Set.univ I (k0_part5 i arg1 harg1 arg2 harg2 arg3 harg3 arg4 harg4 arg5 harg5 arg6 harg6 arg7 harg7 arg8 harg8 arg9 harg9 arg10 harg10 arg11 harg11 arg12 harg12 arg13 harg13 v80 v96 v103 v122 v124) := by
  unfold k0_part5
  extract_lets -underBinder -merge -useContext
  exact keeps_ret _

theorem part6 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v79 : IVec S8x256 32) (v157 : FVec F S1x256 .f32) (v160 : FVec F S1x256 .f32) (v164 : IVec S32x256 1) (v166 : IVec S32x256 1) (v170 : FVec F S32x256 .f32) (v171 : IVec S256x256 32) :
    Keeps (defs₀ (F := F)) c Set.univ I (k0_part6 i arg1 harg1 arg2 harg2 arg3 harg3 arg4 harg4 arg5 harg5 arg6 harg6 arg7 harg7 arg8 harg8 arg9 harg9 arg10 harg10 arg11 harg11 arg12 harg12 arg13 harg13 v79 v157 v160 v164 v166 v170 v171) := by
  unfold k0_part6
  extract_lets -underBinder -merge -useContext
  refine keeps_bind (keeps_load h13) fun _ => ?_
  extract_lets -underBinder -merge -useContext
  refine keeps_bind (keeps_load h13) fun _ => ?_
  extract_lets -underBinder -merge -useContext
  refine keeps_bind (keeps_store h13) fun _ => ?_
  extract_lets -underBinder -merge -useContext
  exact keeps_ret _

theorem part7 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v79 : IVec S8x256 32) (v150 : FVec F S1x256 .f32) (v154 : FVec F S1x256 .f32) (v215 : FVec F S8x256 .f32) :
    Keeps (defs₀ (F := F)) c Set.univ I (k0_part7 i arg1 harg1 arg2 harg2 arg3 harg3 arg4 harg4 arg5 harg5 arg6 harg6 arg7 harg7 arg8 harg8 arg9 harg9 arg10 harg10 arg11 harg11 arg12 harg12 arg13 harg13 v79 v150 v154 v215) := by
  unfold k0_part7
  extract_lets -underBinder -merge -useContext
  refine keeps_bind (keeps_load h10) fun _ => ?_
  refine keeps_bind (keeps_store h10) fun _ => ?_
  extract_lets -underBinder -merge -useContext
  refine keeps_bind (keeps_load h11) fun _ => ?_
  refine keeps_bind (keeps_store h11) fun _ => ?_
  extract_lets -underBinder -merge -useContext
  refine keeps_bind (keeps_read h8) fun _ => ?_
  extract_lets -underBinder -merge -useContext
  refine keeps_bind (keeps_read h5) fun _ => ?_
  extract_lets -underBinder -merge -useContext
  refine keeps_bind (keeps_read h6) fun _ => ?_
  extract_lets -underBinder -merge -useContext
  refine keeps_bind (keeps_read h7) fun _ => ?_
  exact keeps_ret _

theorem part8 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v248 : FVec F S256x2048 .f32) (v252 : FVec F S256x128 .f32) (v253 : Vec F S1x128 .f32) :
    Keeps (defs₀ (F := F)) c Set.univ I (k0_part8 i arg1 harg1 arg2 harg2 arg3 harg3 arg4 harg4 arg5 harg5 arg6 harg6 arg7 harg7 arg8 harg8 arg9 harg9 arg10 harg10 arg11 harg11 arg12 harg12 arg13 harg13 v248 v252 v253) := by
  unfold k0_part8
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  exact keeps_ret _

theorem part9 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v256 : FVec F S256x128 .f32) (v259_lo : FVec F S256x1024 .bf16) (v259_hi : FVec F S256x1024 .bf16) (v275_lo : FVec F S256x128 .bf16) (v275_hi : FVec F S256x128 .bf16) :
    Keeps (defs₀ (F := F)) c Set.univ I (k0_part9 i arg1 harg1 arg2 harg2 arg3 harg3 arg4 harg4 arg5 harg5 arg6 harg6 arg7 harg7 arg8 harg8 arg9 harg9 arg10 harg10 arg11 harg11 arg12 harg12 arg13 harg13 v256 v259_lo v259_hi v275_lo v275_hi) := by
  unfold k0_part9
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  exact keeps_ret _

theorem part10 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v284 : FVec F S128x256 .f32) (v286 : FVec F S8x256 .f32) (v302 : FVec F S1x256 .f32) (v308 : FVec F S256 .f32) :
    Keeps (defs₀ (F := F)) c Set.univ I (k0_part10 i arg1 harg1 arg2 harg2 arg3 harg3 arg4 harg4 arg5 harg5 arg6 harg6 arg7 harg7 arg8 harg8 arg9 harg9 arg10 harg10 arg11 harg11 arg12 harg12 arg13 harg13 v284 v286 v302 v308) := by
  unfold k0_part10
  extract_lets -underBinder -merge -useContext
  exact keeps_ret _

theorem part11 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v302 : FVec F S1x256 .f32) (v309 : FVec F S1x256 .f32) (v336 : FVec F S1x256 .f32) (v349 : FVec F S1x256 .f32) (v351 : FVec F S1x256 .f32) :
    Keeps (defs₀ (F := F)) c Set.univ I (k0_part11 i arg1 harg1 arg2 harg2 arg3 harg3 arg4 harg4 arg5 harg5 arg6 harg6 arg7 harg7 arg8 harg8 arg9 harg9 arg10 harg10 arg11 harg11 arg12 harg12 arg13 harg13 v302 v309 v336 v349 v351) := by
  unfold k0_part11
  extract_lets -underBinder -merge -useContext
  refine keeps_bind (keeps_load h13) fun _ => ?_
  extract_lets -underBinder -merge -useContext
  exact keeps_ret _

theorem part12 {I : sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} {x8 : Vec F S512x2048 .f32} (h1 : Rd c I arg1 x1) (h2 : Rd c I arg2 x2) (h3 : Rd c I arg3 x3) (h4 : Rd c I arg4 x4) (h5 : Rd c I arg5 x5) (h6 : Rd c I arg6 x6) (h7 : Rd c I arg7 x7) (h8 : Rd c I arg8 x8) (h9 : Wr c I arg9) (h10 : Wr c I arg10) (h11 : Wr c I arg11) (h12 : Wr c I arg12) (h13 : Wr c I arg13) (v285 : IVec S8x256 32) (v356 : FVec F S1x256 .f32) (v360 : FVec F S1x256 .f32) (v363 : FVec F S1x256 .f32) (v366 : FVec F S1x256 .f32) (v392 : FVec F S1x256 .f32) (v396 : FVec F S1x256 .f32) (v401 : FVec F S32x128 .f32) :
    Keeps (defs₀ (F := F)) c Set.univ I (k0_part12 i arg1 harg1 arg2 harg2 arg3 harg3 arg4 harg4 arg5 harg5 arg6 harg6 arg7 harg7 arg8 harg8 arg9 harg9 arg10 harg10 arg11 harg11 arg12 harg12 arg13 harg13 v285 v356 v360 v363 v366 v392 v396 v401) := by
  unfold k0_part12
  extract_lets -underBinder -merge -useContext
  refine keeps_bind (keeps_load h13) fun _ => ?_
  extract_lets -underBinder -merge -useContext
  refine keeps_bind (keeps_store h13) fun _ => ?_
  extract_lets -underBinder -merge -useContext
  refine keeps_bind (keeps_load h10) fun _ => ?_
  refine keeps_bind (keeps_store h10) fun _ => ?_
  extract_lets -underBinder -merge -useContext
  refine keeps_bind (keeps_load h11) fun _ => ?_
  refine keeps_bind (keeps_store h11) fun _ => ?_
  extract_lets -underBinder -merge -useContext
  refine keeps_bind (keeps_load h13) fun _ => ?_
  extract_lets -underBinder -merge -useContext
  refine keeps_bind (keeps_load h12) fun _ => ?_
  refine keeps_bind (keeps_store h12) fun _ => ?_
  exact keeps_ret _

/-- Rows of the residual stream: what the two mixers' normalised rows add to it. -/
def mixed (a b : FVec F S256x1024 .bf16) (wt wb : FVec F S1024x2048 .bf16) (x : FVec F S256x2048 .f32) : FVec F S256x2048 .f32 :=
  addf x (addf (matmul dot_S256x1024_S1024x2048_S256x2048_1_0_0_1_n_n none a (shapeCast S1024x2048 wt shapeCasts_S1024x2048_S1024x2048) (constant S256x2048 .f32 0x00000000#32))
    (matmul dot_S256x1024_S1024x2048_S256x2048_1_0_0_1_n_n none b (shapeCast S1024x2048 wb shapeCasts_S1024x2048_S1024x2048) (constant S256x2048 .f32 0x00000000#32)))

/-- The upper half of a tile's rows. -/
def rowsLo (x1 x2 : Vec F S512x1024 .bf16) (x3 : Vec F S512x2048 .f32) (x4 : Vec F S2048x2048 .bf16) : FVec F S256x2048 .f32 :=
  mixed (VecWindow.window x1 ![0, 0] S256x1024.size inb_S512x1024_S256x1024_0_0) (VecWindow.window x2 ![0, 0] S256x1024.size inb_S512x1024_S256x1024_0_0)
    (VecWindow.window x4 ![0, 0] S1024x2048.size inb_S2048x2048_S1024x2048_0_0) (VecWindow.window x4 ![1024, 0] S1024x2048.size inb_S2048x2048_S1024x2048_1024_0)
    (VecWindow.window x3 ![0, 0] S256x2048.size inb_S512x2048_S256x2048_0_0)

/-- The lower half of a tile's rows. -/
def rowsHi (x1 x2 : Vec F S512x1024 .bf16) (x3 : Vec F S512x2048 .f32) (x4 : Vec F S2048x2048 .bf16) : FVec F S256x2048 .f32 :=
  mixed (VecWindow.window x1 ![256, 0] S256x1024.size inb_S512x1024_S256x1024_256_0) (VecWindow.window x2 ![256, 0] S256x1024.size inb_S512x1024_S256x1024_256_0)
    (VecWindow.window x4 ![0, 0] S1024x2048.size inb_S2048x2048_S1024x2048_0_0) (VecWindow.window x4 ![1024, 0] S1024x2048.size inb_S2048x2048_S1024x2048_1024_0)
    (VecWindow.window x3 ![256, 0] S256x2048.size inb_S512x2048_S256x2048_256_0)

theorem part1 {J : (S512x2048.Idx → Elt F .f32) → sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : ∀ X, Rd c (J X) arg1 x1) (h2 : ∀ X, Rd c (J X) arg2 x2) (h3 : ∀ X, Rd c (J X) arg3 x3) (h4 : ∀ X, Rd c (J X) arg4 x4) (h5 : ∀ X, Rd c (J X) arg5 x5) (h6 : ∀ X, Rd c (J X) arg6 x6) (h7 : ∀ X, Rd c (J X) arg7 x7) (h8 : ∀ X X', J X ⊢ iprop(owns (c : Thread nD τ) arg8 fullShare X ∗ (owns (c : Thread nD τ) arg8 fullShare X' -∗ J X'))) (h9 : ∀ X, Wr c (J X) arg9) (h10 : ∀ X, Wr c (J X) arg10) (h11 : ∀ X, Wr c (J X) arg11) (h12 : ∀ X, Wr c (J X) arg12) (h13 : ∀ X, Wr c (J X) arg13) (X : S512x2048.Idx → Elt F .f32) :
    Tri (defs₀ (F := F)) c Set.univ (J X) (k0_part1 i arg1 harg1 arg2 harg2 arg3 harg3 arg4 harg4 arg5 harg5 arg6 harg6 arg7 harg7 arg8 harg8 arg9 harg9 arg10 harg10 arg11 harg11 arg12 harg12 arg13 harg13) fun v => iprop(⌜v = rowsHi x1 x2 x3 x4⌝ ∗ J (VecWindow.put X ![0, 0] S256x2048.size (rowsLo x1 x2 x3 x4))) := by
  generalize hQ : (fun v => iprop(⌜v = rowsHi x1 x2 x3 x4⌝ ∗ J (VecWindow.put X ![0, 0] S256x2048.size (rowsLo x1 x2 x3 x4)))) = Q
  unfold k0_part1
  extract_lets -underBinder -merge -useContext v0 v1 v2 v3 v4 v5 jp
  have hj : Tri (defs₀ (F := F)) c Set.univ (J X) (jp ⟨⟩) Q := by
    dsimp -zeta only [jp]
    try extract_lets -underBinder -merge -useContext
    refine tri_val (tri_read (h1 _)) ?_
    try extract_lets -underBinder -merge -useContext
    refine tri_val (tri_read (h4 _)) ?_
    try extract_lets -underBinder -merge -useContext
    refine tri_val (tri_read (h2 _)) ?_
    try extract_lets -underBinder -merge -useContext
    refine tri_val (tri_read (h4 _)) ?_
    try extract_lets -underBinder -merge -useContext
    refine tri_val (tri_read (h3 _)) ?_
    try extract_lets -underBinder -merge -useContext
    refine tri_val (tri_read (rd8 h8 _)) ?_
    refine tri_bind (tri_put (h8 _ _)) fun _ => ?_
    try extract_lets -underBinder -merge -useContext
    refine tri_val (tri_read (h1 _)) ?_
    try extract_lets -underBinder -merge -useContext
    refine tri_val (tri_read (h4 _)) ?_
    try extract_lets -underBinder -merge -useContext
    refine tri_val (tri_read (h2 _)) ?_
    try extract_lets -underBinder -merge -useContext
    refine tri_val (tri_read (h4 _)) ?_
    try extract_lets -underBinder -merge -useContext
    refine tri_val (tri_read (h3 _)) ?_
    try extract_lets -underBinder -merge -useContext
    refine tri_val (tri_read (rd8 h8 _)) ?_
    subst hQ
    exact tri_ret_eq rfl
  refine tri_dite (fun _ => ?_) (fun _ => hj)
  extract_lets -underBinder -merge -useContext
  refine tri_bind (keeps_load (h13 _)) fun _ => ?_
  extract_lets -underBinder -merge -useContext
  refine tri_bind (keeps_store (h13 _)) fun _ => ?_
  exact hj

theorem part2 {J : (S512x2048.Idx → Elt F .f32) → sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : ∀ X, Rd c (J X) arg1 x1) (h2 : ∀ X, Rd c (J X) arg2 x2) (h3 : ∀ X, Rd c (J X) arg3 x3) (h4 : ∀ X, Rd c (J X) arg4 x4) (h5 : ∀ X, Rd c (J X) arg5 x5) (h6 : ∀ X, Rd c (J X) arg6 x6) (h7 : ∀ X, Rd c (J X) arg7 x7) (h8 : ∀ X X', J X ⊢ iprop(owns (c : Thread nD τ) arg8 fullShare X ∗ (owns (c : Thread nD τ) arg8 fullShare X' -∗ J X'))) (h9 : ∀ X, Wr c (J X) arg9) (h10 : ∀ X, Wr c (J X) arg10) (h11 : ∀ X, Wr c (J X) arg11) (h12 : ∀ X, Wr c (J X) arg12) (h13 : ∀ X, Wr c (J X) arg13) (X : S512x2048.Idx → Elt F .f32) (v25 : FVec F S256x2048 .f32) :
    Tri (defs₀ (F := F)) c Set.univ (J X) (k0_part2 i arg1 harg1 arg2 harg2 arg3 harg3 arg4 harg4 arg5 harg5 arg6 harg6 arg7 harg7 arg8 harg8 arg9 harg9 arg10 harg10 arg11 harg11 arg12 harg12 arg13 harg13 v25) fun _ => J (VecWindow.put X ![256, 0] S256x2048.size v25) := by
  unfold k0_part2
  refine tri_bind (tri_put (h8 _ _)) fun _ => ?_
  generalize VecWindow.put X ![256, 0] S256x2048.size v25 = Y
  refine tri_of_keeps ?_
  replace h8 := rd8 h8 Y
  replace h5 := h5 Y
  replace h6 := h6 Y
  replace h7 := h7 Y
  replace h9 := h9 Y
  try extract_lets -underBinder -merge -useContext
  refine keeps_bind (keeps_read h8) fun _ => ?_
  extract_lets -underBinder -merge -useContext
  refine keeps_bind (keeps_read h5) fun _ => ?_
  extract_lets -underBinder -merge -useContext
  refine keeps_bind (keeps_read h6) fun _ => ?_
  extract_lets -underBinder -merge -useContext
  refine keeps_bind (keeps_read h7) fun _ => ?_
  extract_lets -underBinder -merge -useContext
  refine keeps_bind (keeps_load_slice h9) fun _ => ?_
  extract_lets -underBinder -merge -useContext
  refine keeps_bind (keeps_store_slice h9) fun _ => ?_
  extract_lets -underBinder -merge -useContext
  refine keeps_bind (keeps_load_slice h9) fun _ => ?_
  extract_lets -underBinder -merge -useContext
  exact keeps_ret _

/-- The body keeps its operands and writes the residual rows, whatever the rest of its buffers come to hold. -/
theorem body {J : (S512x2048.Idx → Elt F .f32) → sProp 𝕄} {x1 : Vec F S512x1024 .bf16} {x2 : Vec F S512x1024 .bf16} {x3 : Vec F S512x2048 .f32} {x4 : Vec F S2048x2048 .bf16} {x5 : Vec F S1x2048 .f32} {x6 : Vec F S2048x128 .bf16} {x7 : Vec F S1x128 .f32} (h1 : ∀ X, Rd c (J X) arg1 x1) (h2 : ∀ X, Rd c (J X) arg2 x2) (h3 : ∀ X, Rd c (J X) arg3 x3) (h4 : ∀ X, Rd c (J X) arg4 x4) (h5 : ∀ X, Rd c (J X) arg5 x5) (h6 : ∀ X, Rd c (J X) arg6 x6) (h7 : ∀ X, Rd c (J X) arg7 x7) (h8 : ∀ X X', J X ⊢ iprop(owns (c : Thread nD τ) arg8 fullShare X ∗ (owns (c : Thread nD τ) arg8 fullShare X' -∗ J X'))) (h9 : ∀ X, Wr c (J X) arg9) (h10 : ∀ X, Wr c (J X) arg10) (h11 : ∀ X, Wr c (J X) arg11) (h12 : ∀ X, Wr c (J X) arg12) (h13 : ∀ X, Wr c (J X) arg13) (X : S512x2048.Idx → Elt F .f32) :
    Tri (defs₀ (F := F)) c Set.univ (J X) (cc0_outproj i arg1 harg1 arg2 harg2 arg3 harg3 arg4 harg4 arg5 harg5 arg6 harg6 arg7 harg7 arg8 harg8 arg9 harg9 arg10 harg10 arg11 harg11 arg12 harg12 arg13 harg13) fun _ => J (VecWindow.put (VecWindow.put X ![0, 0] S256x2048.size (rowsLo x1 x2 x3 x4)) ![256, 0] S256x2048.size (rowsHi x1 x2 x3 x4)) := by
  unfold cc0_outproj
  refine tri_val (part1 _ _ _ _ _ _ _ _ _ _ _ _ _ _ _ _ _ _ _ _ _ _ _ _ _ _ _ h1 h2 h3 h4 h5 h6 h7 h8 h9 h10 h11 h12 h13 X) ?_
  refine tri_bind (part2 _ _ _ _ _ _ _ _ _ _ _ _ _ _ _ _ _ _ _ _ _ _ _ _ _ _ _ h1 h2 h3 h4 h5 h6 h7 h8 h9 h10 h11 h12 h13 _ _) fun r => ?_
  obtain ⟨r0, r1, r2, r3⟩ := r
  generalize VecWindow.put (VecWindow.put X ![0, 0] S256x2048.size (rowsLo x1 x2 x3 x4)) ![256, 0] S256x2048.size (rowsHi x1 x2 x3 x4) = Y
  refine tri_of_keeps ?_
  replace h8 := rd8 h8 Y
  replace h1 := h1 Y
  replace h2 := h2 Y
  replace h3 := h3 Y
  replace h4 := h4 Y
  replace h5 := h5 Y
  replace h6 := h6 Y
  replace h7 := h7 Y
  replace h9 := h9 Y
  replace h10 := h10 Y
  replace h11 := h11 Y
  replace h12 := h12 Y
  replace h13 := h13 Y
  refine keeps_bind (part3 _ _ _ _ _ _ _ _ _ _ _ _ _ _ _ _ _ _ _ _ _ _ _ _ _ _ _ h1 h2 h3 h4 h5 h6 h7 h8 h9 h10 h11 h12 h13 _ _ _) fun r => ?_
  refine keeps_bind (part4 _ _ _ _ _ _ _ _ _ _ _ _ _ _ _ _ _ _ _ _ _ _ _ _ _ _ _ h1 h2 h3 h4 h5 h6 h7 h8 h9 h10 h11 h12 h13 _ _) fun r => ?_
  obtain ⟨r0, r1, r2, r3, r4, r5⟩ := r
  refine keeps_bind (part5 _ _ _ _ _ _ _ _ _ _ _ _ _ _ _ _ _ _ _ _ _ _ _ _ _ _ _ h1 h2 h3 h4 h5 h6 h7 h8 h9 h10 h11 h12 h13 _ _ _ _ _) fun r => ?_
  obtain ⟨r0, r1, r2, r3, r4, r5, r6, r7⟩ := r
  refine keeps_bind (part6 _ _ _ _ _ _ _ _ _ _ _ _ _ _ _ _ _ _ _ _ _ _ _ _ _ _ _ h1 h2 h3 h4 h5 h6 h7 h8 h9 h10 h11 h12 h13 _ _ _ _ _ _ _) fun r => ?_
  refine keeps_bind (part7 _ _ _ _ _ _ _ _ _ _ _ _ _ _ _ _ _ _ _ _ _ _ _ _ _ _ _ h1 h2 h3 h4 h5 h6 h7 h8 h9 h10 h11 h12 h13 _ _ _ _) fun r => ?_
  obtain ⟨r0, r1, r2⟩ := r
  refine keeps_bind (part8 _ _ _ _ _ _ _ _ _ _ _ _ _ _ _ _ _ _ _ _ _ _ _ _ _ _ _ h1 h2 h3 h4 h5 h6 h7 h8 h9 h10 h11 h12 h13 _ _ _) fun r => ?_
  obtain ⟨r0, r1, r2, r3, r4⟩ := r
  refine keeps_bind (part9 _ _ _ _ _ _ _ _ _ _ _ _ _ _ _ _ _ _ _ _ _ _ _ _ _ _ _ h1 h2 h3 h4 h5 h6 h7 h8 h9 h10 h11 h12 h13 _ _ _ _ _) fun r => ?_
  obtain ⟨r0, r1, r2, r3, r4⟩ := r
  refine keeps_bind (part10 _ _ _ _ _ _ _ _ _ _ _ _ _ _ _ _ _ _ _ _ _ _ _ _ _ _ _ h1 h2 h3 h4 h5 h6 h7 h8 h9 h10 h11 h12 h13 _ _ _ _) fun r => ?_
  obtain ⟨r0, r1, r2, r3, r4⟩ := r
  refine keeps_bind (part11 _ _ _ _ _ _ _ _ _ _ _ _ _ _ _ _ _ _ _ _ _ _ _ _ _ _ _ h1 h2 h3 h4 h5 h6 h7 h8 h9 h10 h11 h12 h13 _ _ _ _ _) fun r => ?_
  obtain ⟨r0, r1, r2, r3, r4, r5⟩ := r
  refine keeps_bind (part12 _ _ _ _ _ _ _ _ _ _ _ _ _ _ _ _ _ _ _ _ _ _ _ _ _ _ _ h1 h2 h3 h4 h5 h6 h7 h8 h9 h10 h11 h12 h13 _ _ _ _ _ _ _ _) fun r => ?_
  exact keeps_ret _

end Cert.OutI
-- ==== Proof.OutIRun.lean ====
module

public import proofs.«01_k».proof.Proof.OutIParts
public import Idealize.ShloMosaic.Lib.Claim

@[expose] public section

set_option maxRecDepth 16384

noncomputable section

namespace Cert.OutI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Keep Cert.Kernel3Ideal Cert.Kernel3Ideal.Gen

local notation "𝕄" => MT nD τ sig Unit (Elt Ideal) ℕ (UR sig nD τ) ℕ

/-! # The output projection's run, its residual rows named -/

variable (m : (ℓ : Loc nD τ sig) → Buf (Elt Ideal) ℓ) (ρ : Dev nD → PrngReg)

/-- What a point leaves in the residual's buffer: its two halves over whatever was there. -/
def outOver (c : Dev nD) (t : Fin cfg0.N) (X : S512x2048.Idx → Elt Ideal .f32) : S512x2048.Idx → Elt Ideal .f32 :=
  VecWindow.put (VecWindow.put X ![0, 0] S256x2048.size (rowsLo (F := Ideal) (iblk m c 0 t) (iblk m c 1 t) (iblk m c 2 t) (iblk m c 3 t)))
    ![256, 0] S256x2048.size (rowsHi (F := Ideal) (iblk m c 0 t) (iblk m c 1 t) (iblk m c 2 t) (iblk m c 3 t))

/-- Two halves put over a buffer leave nothing of it. -/
theorem put_halves {α : Type} (X Y : S512x2048.Idx → α) (lo hi : S256x2048.Idx → α) :
    VecWindow.put (VecWindow.put X ![0, 0] S256x2048.size lo) ![256, 0] S256x2048.size hi
      = VecWindow.put (VecWindow.put Y ![0, 0] S256x2048.size lo) ![256, 0] S256x2048.size hi := by
  funext y
  unfold VecWindow.put
  split
  · rfl
  · rename_i h
    have hp : ∀ a, (![0, 0] : Fin 2 → ℕ) a ≤ (y a).val ∧ (y a).val < (![0, 0] : Fin 2 → ℕ) a + S256x2048.size a := by
      intro a
      have l0 : (y 0).val < 512 := (y 0).isLt
      have l1 : (y 1).val < 2048 := (y 1).isLt
      have n0 : (y 0).val < 256 := by
        by_contra hc
        refine h fun a => ?_
        match a with
        | ⟨0, _⟩ => exact ⟨by show 256 ≤ (y 0).val; omega, by show (y 0).val < 256 + 256; omega⟩
        | ⟨1, _⟩ => exact ⟨Nat.zero_le _, by show (y 1).val < 0 + 2048; omega⟩
      match a with
      | ⟨0, _⟩ => exact ⟨Nat.zero_le _, by show (y 0).val < 0 + 256; omega⟩
      | ⟨1, _⟩ => exact ⟨Nat.zero_le _, by show (y 1).val < 0 + 2048; omega⟩
    rw [dif_pos hp, dif_pos hp]

/-- The same, from one base. -/
def outAt (c : Dev nD) (t : Fin cfg0.N) : S512x2048.Idx → Elt Ideal .f32 := outOver m c t fun _ => (0 : EReal)

theorem outOver_eq (c : Dev nD) (t : Fin cfg0.N) (X) : outOver m c t X = outAt m c t := put_halves _ _ _ _

/-- The windows of which the run follows nothing. -/
def fgt : Fin 12 → Bool := fun w => decide (8 ≤ w.val)

/-- The pipeline's proof data: the arrays as the region finds them, each input's buffer at its block, the residual's at `outAt`. -/
def odats (_ : Fin 1) (c : Dev nD) : Dat τ (Elt Ideal) Unit ℕ (UR sig nD τ) ℕ cfg0 c where
  A w := V m c (Pipeline.arrRef spec0 w)
  after w t := match w with
    | ⟨7, _⟩ => outAt m c t
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

theorem arr_eq (c : Dev nD) (w : Fin cfg0.W) : (odats m 0 c).A w = V m c (Pipeline.arrRef spec0 w) := by dsimp only [odats]
theorem aft0 (c : Dev nD) (t : Fin cfg0.N) : (odats m 0 c).after 0 t = iblk m c 0 t := by dsimp only [odats]
theorem aft1 (c : Dev nD) (t : Fin cfg0.N) : (odats m 0 c).after 1 t = iblk m c 1 t := by dsimp only [odats]
theorem aft2 (c : Dev nD) (t : Fin cfg0.N) : (odats m 0 c).after 2 t = iblk m c 2 t := by dsimp only [odats]
theorem aft3 (c : Dev nD) (t : Fin cfg0.N) : (odats m 0 c).after 3 t = iblk m c 3 t := by dsimp only [odats]
theorem aft4 (c : Dev nD) (t : Fin cfg0.N) : (odats m 0 c).after 4 t = iblk m c 4 t := by dsimp only [odats]
theorem aft5 (c : Dev nD) (t : Fin cfg0.N) : (odats m 0 c).after 5 t = iblk m c 5 t := by dsimp only [odats]
theorem aft6 (c : Dev nD) (t : Fin cfg0.N) : (odats m 0 c).after 6 t = iblk m c 6 t := by dsimp only [odats]
theorem aft7 (c : Dev nD) (t : Fin cfg0.N) : (odats m 0 c).after 7 t = outAt m c t := by dsimp only [odats]

theorem bef0 (c : Dev nD) (t : Fin cfg0.N) (d) : (odats m 0 c).before 0 t d = iblk m c 0 t := before0_0_of m (odats m 0 c) (arr_eq m c 0) (aft0 m c) t d
theorem bef1 (c : Dev nD) (t : Fin cfg0.N) (d) : (odats m 0 c).before 1 t d = iblk m c 1 t := before0_1_of m (odats m 0 c) (arr_eq m c 1) (aft1 m c) t d
theorem bef2 (c : Dev nD) (t : Fin cfg0.N) (d) : (odats m 0 c).before 2 t d = iblk m c 2 t := before0_2_of m (odats m 0 c) (arr_eq m c 2) (aft2 m c) t d
theorem bef3 (c : Dev nD) (t : Fin cfg0.N) (d) : (odats m 0 c).before 3 t d = iblk m c 3 t := before0_3_of m (odats m 0 c) (arr_eq m c 3) (aft3 m c) t d
theorem bef4 (c : Dev nD) (t : Fin cfg0.N) (d) : (odats m 0 c).before 4 t d = iblk m c 4 t := before0_4_of m (odats m 0 c) (arr_eq m c 4) (aft4 m c) t d
theorem bef5 (c : Dev nD) (t : Fin cfg0.N) (d) : (odats m 0 c).before 5 t d = iblk m c 5 t := before0_5_of m (odats m 0 c) (arr_eq m c 5) (aft5 m c) t d
theorem bef6 (c : Dev nD) (t : Fin cfg0.N) (d) : (odats m 0 c).before 6 t d = iblk m c 6 t := before0_6_of m (odats m 0 c) (arr_eq m c 6) (aft6 m c) t d

/-- The scratch and the generator, held between points. -/
theorem PhiA_eq (c : Dev nD) : (Pipeline.ΦA spec0 c : sProp 𝕄)
    = iprop((∃ X, owns (c : Thread nD τ) (Memref.whole cc0_scratch0) fullShare X) ∗ (∃ r, prngReg c r)) := by
  unfold Pipeline.ΦA
  rw [scopedRest0_eq]
  simp only [owns_whole]
  try rfl

/-- The buffers a point's body has. -/
def bufs (c : Dev nD) (t : Fin cfg0.N) (X : S512x2048.Idx → Elt Ideal .f32) : List (sProp 𝕄) :=
  [owns (c : Thread nD τ) (st0_0 t) fullShare (iblk m c 0 t),
    owns (c : Thread nD τ) (st0_1 t) fullShare (iblk m c 1 t),
    owns (c : Thread nD τ) (st0_2 t) fullShare (iblk m c 2 t),
    owns (c : Thread nD τ) (st0_3 t) fullShare (iblk m c 3 t),
    owns (c : Thread nD τ) (st0_4 t) fullShare (iblk m c 4 t),
    owns (c : Thread nD τ) (st0_5 t) fullShare (iblk m c 5 t),
    owns (c : Thread nD τ) (st0_6 t) fullShare (iblk m c 6 t),
    owns (c : Thread nD τ) (st0_7 t) fullShare X,
    iprop(∃ X, owns (c : Thread nD τ) (st0_8 t) fullShare X),
    iprop(∃ X, owns (c : Thread nD τ) (st0_9 t) fullShare X),
    iprop(∃ X, owns (c : Thread nD τ) (st0_10 t) fullShare X),
    iprop(∃ X, owns (c : Thread nD τ) (st0_11 t) fullShare X),
    iprop(∃ X, owns (c : Thread nD τ) (Memref.whole cc0_scratch0) fullShare X)]

theorem has0 (c : Dev nD) (t : Fin cfg0.N) (X : S512x2048.Idx → Elt Ideal .f32) : Rd c (held (bufs m c t X)) (st0_0 t) (iblk m c 0 t) :=
  held_at (bufs m c t X) 0 _ (owns (c : Thread nD τ) (st0_0 t) fullShare (iblk m c 0 t)) rfl
theorem has1 (c : Dev nD) (t : Fin cfg0.N) (X : S512x2048.Idx → Elt Ideal .f32) : Rd c (held (bufs m c t X)) (st0_1 t) (iblk m c 1 t) :=
  held_at (bufs m c t X) 1 _ (owns (c : Thread nD τ) (st0_1 t) fullShare (iblk m c 1 t)) rfl
theorem has2 (c : Dev nD) (t : Fin cfg0.N) (X : S512x2048.Idx → Elt Ideal .f32) : Rd c (held (bufs m c t X)) (st0_2 t) (iblk m c 2 t) :=
  held_at (bufs m c t X) 2 _ (owns (c : Thread nD τ) (st0_2 t) fullShare (iblk m c 2 t)) rfl
theorem has3 (c : Dev nD) (t : Fin cfg0.N) (X : S512x2048.Idx → Elt Ideal .f32) : Rd c (held (bufs m c t X)) (st0_3 t) (iblk m c 3 t) :=
  held_at (bufs m c t X) 3 _ (owns (c : Thread nD τ) (st0_3 t) fullShare (iblk m c 3 t)) rfl
theorem has4 (c : Dev nD) (t : Fin cfg0.N) (X : S512x2048.Idx → Elt Ideal .f32) : Rd c (held (bufs m c t X)) (st0_4 t) (iblk m c 4 t) :=
  held_at (bufs m c t X) 4 _ (owns (c : Thread nD τ) (st0_4 t) fullShare (iblk m c 4 t)) rfl
theorem has5 (c : Dev nD) (t : Fin cfg0.N) (X : S512x2048.Idx → Elt Ideal .f32) : Rd c (held (bufs m c t X)) (st0_5 t) (iblk m c 5 t) :=
  held_at (bufs m c t X) 5 _ (owns (c : Thread nD τ) (st0_5 t) fullShare (iblk m c 5 t)) rfl
theorem has6 (c : Dev nD) (t : Fin cfg0.N) (X : S512x2048.Idx → Elt Ideal .f32) : Rd c (held (bufs m c t X)) (st0_6 t) (iblk m c 6 t) :=
  held_at (bufs m c t X) 6 _ (owns (c : Thread nD τ) (st0_6 t) fullShare (iblk m c 6 t)) rfl
theorem has7 (c : Dev nD) (t : Fin cfg0.N) (X X' : S512x2048.Idx → Elt Ideal .f32) : held (bufs m c t X) ⊢
    iprop(owns (c : Thread nD τ) (st0_7 t) fullShare X ∗ (owns (c : Thread nD τ) (st0_7 t) fullShare X' -∗ held (bufs m c t X'))) :=
  held_at (bufs m c t X) 7 _ (owns (c : Thread nD τ) (st0_7 t) fullShare X') rfl
theorem has8 (c : Dev nD) (t : Fin cfg0.N) (X : S512x2048.Idx → Elt Ideal .f32) : Wr c (held (bufs m c t X)) (st0_8 t) :=
  held_at (bufs m c t X) 8 _ (iprop(∃ X, owns (c : Thread nD τ) (st0_8 t) fullShare X)) rfl
theorem has9 (c : Dev nD) (t : Fin cfg0.N) (X : S512x2048.Idx → Elt Ideal .f32) : Wr c (held (bufs m c t X)) (st0_9 t) :=
  held_at (bufs m c t X) 9 _ (iprop(∃ X, owns (c : Thread nD τ) (st0_9 t) fullShare X)) rfl
theorem has10 (c : Dev nD) (t : Fin cfg0.N) (X : S512x2048.Idx → Elt Ideal .f32) : Wr c (held (bufs m c t X)) (st0_10 t) :=
  held_at (bufs m c t X) 10 _ (iprop(∃ X, owns (c : Thread nD τ) (st0_10 t) fullShare X)) rfl
theorem has11 (c : Dev nD) (t : Fin cfg0.N) (X : S512x2048.Idx → Elt Ideal .f32) : Wr c (held (bufs m c t X)) (st0_11 t) :=
  held_at (bufs m c t X) 11 _ (iprop(∃ X, owns (c : Thread nD τ) (st0_11 t) fullShare X)) rfl
theorem has12 (c : Dev nD) (t : Fin cfg0.N) (X : S512x2048.Idx → Elt Ideal .f32) : Wr c (held (bufs m c t X)) (Memref.whole cc0_scratch0) :=
  held_at (bufs m c t X) 12 _ (iprop(∃ X, owns (c : Thread nD τ) (Memref.whole cc0_scratch0) fullShare X)) rfl

/-- What the body is called with at a point, -/
def bPre (c : Dev nD) (t : Fin cfg0.N) : sProp 𝕄 :=
  iprop((odats m 0 c).Φ t.castSucc ∗ (odats m 0 c).owesAt () t.castSucc
    ∗ (∃ d, owns (c : Thread nD τ) (st0_0 t) fullShare ((odats m 0 c).before 0 t d))
    ∗ (∃ d, owns (c : Thread nD τ) (st0_1 t) fullShare ((odats m 0 c).before 1 t d))
    ∗ (∃ d, owns (c : Thread nD τ) (st0_2 t) fullShare ((odats m 0 c).before 2 t d))
    ∗ (∃ d, owns (c : Thread nD τ) (st0_3 t) fullShare ((odats m 0 c).before 3 t d))
    ∗ (∃ d, owns (c : Thread nD τ) (st0_4 t) fullShare ((odats m 0 c).before 4 t d))
    ∗ (∃ d, owns (c : Thread nD τ) (st0_5 t) fullShare ((odats m 0 c).before 5 t d))
    ∗ (∃ d, owns (c : Thread nD τ) (st0_6 t) fullShare ((odats m 0 c).before 6 t d))
    ∗ (∃ d, owns (c : Thread nD τ) (st0_7 t) fullShare ((odats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bPost (c : Dev nD) (t : Fin cfg0.N) : sProp 𝕄 :=
  iprop((odats m 0 c).Φ t.succ ∗ (odats m 0 c).owesAt () t.succ
    ∗ owns (c : Thread nD τ) (st0_0 t) fullShare ((odats m 0 c).after 0 t)
    ∗ owns (c : Thread nD τ) (st0_1 t) fullShare ((odats m 0 c).after 1 t)
    ∗ owns (c : Thread nD τ) (st0_2 t) fullShare ((odats m 0 c).after 2 t)
    ∗ owns (c : Thread nD τ) (st0_3 t) fullShare ((odats m 0 c).after 3 t)
    ∗ owns (c : Thread nD τ) (st0_4 t) fullShare ((odats m 0 c).after 4 t)
    ∗ owns (c : Thread nD τ) (st0_5 t) fullShare ((odats m 0 c).after 5 t)
    ∗ owns (c : Thread nD τ) (st0_6 t) fullShare ((odats m 0 c).after 6 t)
    ∗ owns (c : Thread nD τ) (st0_7 t) fullShare ((odats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- The body on the buffers of a point. -/
theorem body_tri (c : Dev nD) (t : Fin cfg0.N) (X : S512x2048.Idx → Elt Ideal .f32) :
    held (bufs m c t X) ⊢ wp frame (wpE (defs₀ (F := Ideal)) Variants.none (c : Thread nD τ) none) Set.univ (bodyAt0 t) fun _ => held (bufs m c t (outOver m c t X)) :=
  body (F := Ideal) (J := fun X => held (bufs m c t X)) _ _ _ _ _ _ _ _ _ _ _ _ _ _ _ _ _ _ _ _ _ _ _ _ _ _ _ (has0 m c t) (has1 m c t) (has2 m c t) (has3 m c t) (has4 m c t) (has5 m c t) (has6 m c t) (has7 m c t) (has8 m c t) (has9 m c t) (has10 m c t) (has11 m c t) (has12 m c t) X

set_option maxHeartbeats 1600000 in
/-- The body at any point. -/
theorem body_sound (c : Dev nD) (t : Fin cfg0.N) :
    bPre m c t ⊢ wp frame (wpE (defs₀ (F := Ideal)) Variants.none c none) Set.univ (bodyAt0 t) (fun _ => bPost m c t) := by
  unfold bPre bPost
  simp only [bef0, bef1, bef2, bef3, bef4, bef5, bef6]
  rw [show (odats m 0 c).Φ t.succ = (odats m 0 c).Φ t.castSucc from rfl,
    show (odats m 0 c).owesAt () t.succ = (odats m 0 c).owesAt () t.castSucc from rfl,
    aft0, aft1, aft2, aft3, aft4, aft5, aft6, aft7]
  rw [show (odats m 0 c).Φ t.castSucc = Pipeline.ΦA spec0 c from rfl, PhiA_eq]
  iintro ⟨⟨⟨%e0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave Hw := body_tri m c t ((odats m 0 c).before 7 t d7) $$ [H0 H1 H2 H3 H4 H5 H6 H7 H8 H9 H10 H11 HS]
  · unfold bufs
    simp only [held]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; iexact H8
    isplitl [H9]
    · iexists _; iexact H9
    isplitl [H10]
    · iexists _; iexact H10
    isplitl [H11]
    · iexists _; iexact H11
    isplitl [HS]
    · iexists _; iexact HS
    iempintro
  iapply (wp_wand_r frame (wpE (defs₀ (F := Ideal)) Variants.none (c : Thread nD τ) none) Set.univ)
  isplitl [Hw]; · iexact Hw
  iintro %u
  unfold bufs
  simp only [held]
  rw [outOver_eq]
  iintro ⟨H0, H1, H2, H3, H4, H5, H6, H7, H8, H9, H10, H11, HS, -⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at a point is the body as `bodyAt0` spells it. -/
theorem row_eq (t : Fin cfg0.N) : defs₀ (F := Ideal) .tc cfg0.body (cfg0.bodyArgs t (cfg0.slots t)) = bodyAt0 t := by
  unfold defs₀; rw [Defs.onTc_tc]

theorem body_ob (c : Dev nD) : BodyObligation (odats m 0 c) (defs₀ (F := Ideal)) Variants.none () Set.univ fgt := fun t => by
  rw [bigSep_W0, bigSep_W0, row_eq]
  exact triple_restated (body_sound m c t) rfl .rfl fun _ => .rfl

set_option backward.isDefEq.respectTransparency.types false in
theorem run_q : θ_run defs (onTc (τ := τ) (main (F := Ideal))) (s₀ m ρ)
    (fun r => RDat.FramePost cfg0 (fun c => (odats m 0 c).toRForget fgt) (V m) r ∧ r.2.sem = fun _ => 0) :=
  Pipeline.θ_run_frame_forget (Q' := _) cfgs (odats m) (0 : Fin 1) launch0 defs₀ Variants.none fgt m ρ main
    (hbody := fun c => (body_ob m c).loose) (hshare := fun c => (odats m 0 c).share_full fun _ => rfl)
    (howed := fun _ _ => rfl) (V := V m) (hmain := hmain m Variants.none) (hA := arr_eq m) (hΦ := fun _ _ => rfl)

/-- The run: the residual's array at what the points wrote, the arguments as they were, no counter raised. -/
theorem run : θ_run defs (onTc (τ := τ) (main (F := Ideal))) ⟨m, fun _ => 0, ρ⟩ (fun r => (∀ c : Dev nD,
      r.2.mem ((c.tc : Thread nD τ).loc main_v17_0) = (odats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r hq => ⟨fun c => by
    have h := hq.1
    exact ⟨((odats m 0 c).toRForget_arrAt_iff (w := 7) rfl _ _).mp ((h c).1 7),
      (RDat.FramePost.arr_in h c 0 rfl).trans ((arr_eq m c 0).trans (V_main_arg0 m c)),
      (RDat.FramePost.arr_in h c 1 rfl).trans ((arr_eq m c 1).trans (V_main_arg1 m c)),
      (RDat.FramePost.arr_in h c 2 rfl).trans ((arr_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hq.2⟩) (run_q m ρ)

end Cert.OutI
-- ==== Proof.OutValue.lean ====
module

public import proofs.«01_k».proof.Proof.OutIRun
public import proofs.«01_k».proof.Proof.Gen.Reference3Ideal.Run
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.OutI

/-! # The residual rows and the reference's are one closed form -/

/-- One entry: `x` the residual, `a` and `b` the two mixers' rows, `w` the column of the projection. -/
def xr (x : EReal) (a b : Fin 1024 → EReal) (w : Fin 2048 → EReal) : EReal :=
  x + ((∑ k : Fin 1024, a k * w ⟨k.val, by omega⟩) + ∑ k : Fin 1024, b k * w ⟨1024 + k.val, by omega⟩)

section Ref
open Cert.Reference3Ideal Cert.Reference3Ideal.Facts₀

/-- The reference's result. -/
def rX (A B : FVec Ideal S16384x1024 .bf16) (X : FVec Ideal S16384x2048 .f32) (W : FVec Ideal S2048x2048 .f32) : FVec Ideal S16384x2048 .f32 :=
  addf X (Host.dotGeneral dot_S16384x2048_S2048x2048_S16384x2048_1_0_0_1_n_n none
    (concatenate S16384x2048 1 [⟨S16384x1024, extf .f32 A bitsLt_bf16_f32⟩, ⟨S16384x1024, extf .f32 B bitsLt_bf16_f32⟩]
      concatenates_S16384x1024_S16384x1024_S16384x2048_d1) W)

theorem rX_sum (A B : FVec Ideal S16384x1024 .bf16) (X : FVec Ideal S16384x2048 .f32) (W : FVec Ideal S2048x2048 .f32) (i) :
    rX A B X W i = X i + ∑ k : Fin 2048, (if h : k.val < 1024 then A (ix2 (i 0) ⟨k.val, h⟩) else B (ix2 (i 0) ⟨k.val - 1024, by omega⟩) : EReal) * W (ix2 k (i 1)) := by
  pointwise [rX]

theorem rX_at (A B : FVec Ideal S16384x1024 .bf16) (X : FVec Ideal S16384x2048 .f32) (W : FVec Ideal S2048x2048 .f32) (i) :
    rX A B X W i = xr (X i) (fun k => A (ix2 (i 0) k)) (fun k => B (ix2 (i 0) k)) (fun k => W (ix2 k (i 1))) := by
  rw [rX_sum]
  unfold xr
  refine congrArg (_ + ·) ?_
  refine (Fin.sum_univ_add (a := 1024) (b := 1024) fun k : Fin 2048 =>
    (if h : k.val < 1024 then A (ix2 (i 0) ⟨k.val, h⟩) else B (ix2 (i 0) ⟨k.val - 1024, by omega⟩) : EReal) * W (ix2 k (i 1))).trans ?_
  refine congrArg₂ (· + ·) (Finset.sum_congr rfl fun k _ => ?_) (Finset.sum_congr rfl fun k _ => ?_)
  · rw [dif_pos (show (Fin.castAdd 1024 k).val < 1024 from k.isLt)]
    rfl
  · have hk : ¬ (Fin.natAdd 1024 k).val < 1024 := by show ¬ 1024 + k.val < 1024; omega
    rw [dif_neg hk]
    have e : (⟨(Fin.natAdd 1024 k).val - 1024, by show 1024 + k.val - 1024 < 1024; omega⟩ : Fin 1024) = k := Fin.ext (by show 1024 + k.val - 1024 = k.val; omega)
    rw [e]
    rfl

end Ref

section Ker
open Cert.Kernel3Ideal Cert.Kernel3Ideal.Gen

theorem mixed_at (a b : FVec Ideal S256x1024 .bf16) (wt wb : FVec Ideal S1024x2048 .bf16) (x : FVec Ideal S256x2048 .f32) (i) :
    mixed (F := Ideal) a b wt wb x i = x i + ((∑ k : Fin 1024, a (ix2 (i 0) k) * wt (ix2 k (i 1))) + ∑ k : Fin 1024, b (ix2 (i 0) k) * wb (ix2 k (i 1))) := by
  pointwise [mixed]

variable (m : (ℓ : Loc nD τ sig) → Buf (Elt Ideal) ℓ)

theorem oidx : ∀ t : Fin cfg0.N, win0_0.index t = ![t.val, 0]
    ∧ win0_1.index t = ![t.val, 0]
    ∧ win0_2.index t = ![t.val, 0]
    ∧ win0_3.index t = ![0, 0]
    ∧ win0_7.index t = ![t.val, 0] :=
  (by decide +kernel : ∀ t : Fin grid0.N, _)

theorem tlt (t : Fin cfg0.N) : t.val < 32 := t.isLt

theorem oblk0 (c : Dev nD) (t : Fin cfg0.N) (r : Fin 512) (k : Fin 1024) :
    iblk m c 0 t (ix2 r k) = m ((c.tc : Thread nD τ).loc main_arg0) (ix2 ⟨t.val * 512 + r.val, by have := tlt t; omega⟩ k) := by
  blk_point [iblk, V, oidx t]

theorem oblk1 (c : Dev nD) (t : Fin cfg0.N) (r : Fin 512) (k : Fin 1024) :
    iblk m c 1 t (ix2 r k) = m ((c.tc : Thread nD τ).loc main_arg1) (ix2 ⟨t.val * 512 + r.val, by have := tlt t; omega⟩ k) := by
  blk_point [iblk, V, oidx t]

theorem oblk2 (c : Dev nD) (t : Fin cfg0.N) (r : Fin 512) (k : Fin 2048) :
    iblk m c 2 t (ix2 r k) = m ((c.tc : Thread nD τ).loc main_arg2) (ix2 ⟨t.val * 512 + r.val, by have := tlt t; omega⟩ k) := by
  blk_point [iblk, V, oidx t]

theorem oblk3 (c : Dev nD) (t : Fin cfg0.N) (k l : Fin 2048) :
    iblk m c 3 t (ix2 k l) = m ((c.tc : Thread nD τ).loc main_arg3) (ix2 k l) := by
  blk_point [iblk, V, oidx t]

/-- A row of a window of rows. -/
theorem win_row {α : Type} {n k : ℕ} (x : (⟨2, ![512, n]⟩ : Shape).Idx → α) (o : ℕ) (inb) (r : Fin 256) (l : Fin n) (ho : o + 256 ≤ 512) :
    VecWindow.window (s := ⟨2, ![512, n]⟩) x ![o, 0] (⟨2, ![256, n]⟩ : Shape).size inb (ix2 r l) = x (ix2 ⟨o + r.val, by omega⟩ l) := by
  refine congrArg x (funext fun a => Fin.ext ?_)
  match a with
  | ⟨0, _⟩ => show o + 1 * r.val = o + r.val; omega
  | ⟨1, _⟩ => show 0 + 1 * l.val = l.val; omega

/-- A row of a half of the projection's matrix. -/
theorem win_w {α : Type} (x : S2048x2048.Idx → α) (o : ℕ) (inb) (k : Fin 1024) (l : Fin 2048) (ho : o + 1024 ≤ 2048) :
    VecWindow.window (s := S2048x2048) x ![o, 0] S1024x2048.size inb (ix2 k l) = x (ix2 ⟨o + k.val, by omega⟩ l) := by
  refine congrArg x (funext fun a => Fin.ext ?_)
  match a with
  | ⟨0, _⟩ => show o + 1 * k.val = o + k.val; omega
  | ⟨1, _⟩ => show 0 + 1 * l.val = l.val; omega

/-- The result of the launch's arguments. -/
def rM (c : Dev nD) : FVec Ideal Cert.Reference3Ideal.S16384x2048 .f32 :=
  rX (m ((c.tc : Thread nD τ).loc main_arg0)) (m ((c.tc : Thread nD τ).loc main_arg1)) (m ((c.tc : Thread nD τ).loc main_arg2)) (m ((c.tc : Thread nD τ).loc main_arg3))

/-- Half a tile's rows. -/
theorem half_at (c : Dev nD) (t : Fin cfg0.N) (o : ℕ) (h1 h2 h3 h4) (r : Fin 256) (l : Fin 2048) (ho : o + 256 ≤ 512) :
    mixed (F := Ideal) (VecWindow.window (iblk m c 0 t) ![o, 0] S256x1024.size h1) (VecWindow.window (iblk m c 1 t) ![o, 0] S256x1024.size h1)
      (VecWindow.window (iblk m c 3 t) ![0, 0] S1024x2048.size h2) (VecWindow.window (iblk m c 3 t) ![1024, 0] S1024x2048.size h3)
      (VecWindow.window (iblk m c 2 t) ![o, 0] S256x2048.size h4) (ix2 r l)
      = rM m c (ix2 ⟨t.val * 512 + (o + r.val), by have := tlt t; omega⟩ l) := by
  rw [mixed_at]
  refine Eq.trans ?_ (rX_at _ _ _ _ _).symm
  unfold xr
  refine congrArg₂ (· + ·) ?_ (congrArg₂ (· + ·) (Finset.sum_congr rfl fun k _ => congrArg₂ (· * ·) ?_ ?_) (Finset.sum_congr rfl fun k _ => congrArg₂ (· * ·) ?_ ?_))
  · exact (win_row (k := 0) _ o _ r l ho).trans (oblk2 m c t _ _)
  · exact (win_row (k := 0) _ o _ r k ho).trans (oblk0 m c t _ _)
  · refine (win_w _ 0 _ k l (by omega)).trans ((oblk3 m c t _ _).trans ?_)
    exact congrArg (fun z => m ((c.tc : Thread nD τ).loc main_arg3) (ix2 z l)) (Fin.ext (Nat.zero_add _))
  · exact (win_row (k := 0) _ o _ r k ho).trans (oblk1 m c t _ _)
  · exact (win_w _ 1024 _ k l (by omega)).trans (oblk3 m c t _ _)

/-- What a point writes is the reference's result there. -/
theorem outAt_at (c : Dev nD) (t : Fin cfg0.N) (r : Fin 512) (l : Fin 2048) :
    outAt m c t (ix2 r l) = rM m c (ix2 ⟨t.val * 512 + r.val, by have := tlt t; omega⟩ l) := by
  have hr := r.isLt
  have hl := l.isLt
  unfold outAt outOver VecWindow.put
  by_cases h : 256 ≤ r.val
  · refine (dif_pos fun a => ?_).trans ?_
    · match a with
      | ⟨0, _⟩ => exact ⟨h, by show r.val < 256 + 256; omega⟩
      | ⟨1, _⟩ => exact ⟨Nat.zero_le _, by show l.val < 0 + 2048; omega⟩
    refine Eq.trans (congrArg _ (funext fun a => Fin.ext ?_)) ((half_at m c t 256 _ _ _ _ ⟨r.val - 256, by omega⟩ l (by omega)).trans
      (congrArg (fun z => rM m c (ix2 z l)) (Fin.ext ?_)))
    · match a with
      | ⟨0, _⟩ => rfl
      | ⟨1, _⟩ => rfl
    · show t.val * 512 + (256 + (r.val - 256)) = t.val * 512 + r.val
      omega
  · refine (dif_neg fun h' => h (h' 0).1).trans ((dif_pos fun a => ?_).trans ?_)
    · match a with
      | ⟨0, _⟩ => exact ⟨Nat.zero_le _, by show r.val < 0 + 256; omega⟩
      | ⟨1, _⟩ => exact ⟨Nat.zero_le _, by show l.val < 0 + 2048; omega⟩
    refine Eq.trans (congrArg _ (funext fun a => Fin.ext ?_)) ((half_at m c t 0 _ _ _ _ ⟨r.val, by omega⟩ l (by omega)).trans
      (congrArg (fun z => rM m c (ix2 z l)) (Fin.ext ?_)))
    · match a with
      | ⟨0, _⟩ => rfl
      | ⟨1, _⟩ => rfl
    · show t.val * 512 + (0 + r.val) = t.val * 512 + r.val
      omega

/-- The kernel's result array is the reference's result. -/
theorem final7 (c : Dev nD) : (odats m 0 c).arrAt 7 cfg0.N = rM m c := by
  refine (odats m 0 c).arrAt_eq_of_covers 7 _ (by decide +kernel) fun t hf y => ?_
  blk_simp
  rw [aft7]
  idx_vars y
  rw [outAt_at m c t]
  blk_ext [oidx t]

end Ker
end Cert.OutI

end
-- ==== Proof.OutClaims.lean ====
module

public import proofs.«01_k».proof.Defs
public import proofs.«01_k».proof.Proof.Gen.Kernel3
public import proofs.«01_k».proof.Proof.OutBRun
public import proofs.«01_k».proof.Proof.OutValue
public import Idealize.ShloMosaic.Lib.Bf16Pair
public import Idealize.ShloMosaic.Lib.Bf16PairInverse

@[expose] public section

noncomputable section

open Idealize.ShloMosaic Idealize.ShloMosaic.TcCoe Idealize.SL.Sem

namespace Cert.OutI

/-- The kernel as printed runs to its end from every memory, leaves its arguments as they were and no counter raised. -/
theorem frame_k : Cert.quiescent_Kernel3 := fun m ρ _ => Cert.OutB.run m ρ
/-- The same of its idealization. -/
theorem frame_ki : Cert.quiescent_Kernel3Ideal := fun m ρ _ =>
  (θ_run Cert.Kernel3Ideal.defs _ _).mono (fun _ h => ⟨fun c => (h.1 c).2, h.2⟩) (run m ρ)
/-- The same of the reference, which has no counters. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The words of two bf16 halves are read and written as the pairs they hold. -/
theorem preserves : Cert.preserves_Kernel3_Kernel3Ideal :=
  ⟨IdealRules.bf16_pair.bufferStatement _ _, IdealRules.bf16_pair.bufferStatement _ _, IdealRules.bf16_pair.packStatement _,
    IdealRules.bf16_pair.statement _ _⟩

/-- The output projection with its residual computes the reference's result from arguments that agree. -/
theorem algebraic : Cert.algebraic_Kernel3Ideal_Reference3Ideal := by
  intro m ρ m' ρ' _ hag
  refine ⟨_, (θ_run Cert.Kernel3Ideal.defs _ _).mono (fun _ h c => h.1 c) (run m ρ), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, -⟩ := hag c
  rw [h0, h1, h2, h3]
  exact (final7 m c).symm

end Cert.OutI

end
-- ==== Proof.Bias.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.StableHlo.Run
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.Bias

/-! # The table of biases: a row rolled by the key's number, bit by bit -/

section Ker
open Cert.Kernel4Ideal Cert.Kernel4Ideal.Gen

/-- Whether the row's number has a bit. -/
def bit (p : BitVec 32) : IVec S576x640 1 :=
  cmpi .ne (andi (iota .tc S576x640 32 [0] Facts₀.iota_S576x640_d0_w32) (broadcast S576x640 p)) (broadcast S576x640 0#32)

/-- Rows with the bit rolled by it. -/
def step (p : BitVec 32) (x : FVec Ideal S576x640 .f32) : FVec Ideal S576x640 .f32 :=
  select (bit p) (dynamicRotate 1 p none x Facts₀.rotates_S576x640_d1) x

/-- A row repeated. -/
def spread (v : FVec Ideal S1x640 .f32) : FVec Ideal S576x640 .f32 :=
  broadcastTo S576x640 (shapeCast S1x640 (shapeCast S1x640 v Facts₀.shapeCasts_S1x640_S1x640) Facts₀.shapeCasts_S1x640_S1x640)
    Facts₀.broadcasts_S1x640_S576x640

/-- A row repeated, and each copy rolled by its number. -/
def rolled (v : FVec Ideal S1x640 .f32) : FVec Ideal S576x640 .f32 :=
  step 512#32 (step 256#32 (step 128#32 (step 64#32 (step 32#32 (step 16#32 (step 8#32 (step 4#32 (step 2#32 (step 1#32 (spread v))))))))))

/-- What one store writes: two heads' windows side by side. -/
def pc (u v : FVec Ideal S1x640 .f32) : FVec Ideal S1x576x128 .f32 :=
  shapeCast S1x576x128 (select (cmpi .slt (iota .tc S576x128 32 [1] Facts₀.iota_S576x128_d1_w32) (broadcast S576x128 64#32))
    (extractStridedSlice S576x128 ![0, 512] (rolled u) Facts₀.slices_S576x640_o0_512_S576x128)
    (extractStridedSlice S576x128 ![0, 512] (rolled v) Facts₀.slices_S576x640_o0_512_S576x128)) Facts₀.shapeCasts_S576x128_S1x576x128

/-- Each row `r` of `x` is `b` rolled by `r` modulo `k`. -/
def Rolled (k : ℕ) (b : Fin 640 → EReal) (x : FVec Ideal S576x640 .f32) : Prop :=
  ∀ (r : Fin 576) (l : Fin 640), x (ix2 r l) = b ⟨(l.val + 1280 - r.val % k) % 640, Nat.mod_lt _ (by omega)⟩

theorem rot_at (p : BitVec 32) (q : ℕ) (hq : p.toNat = q) (h : q ≤ 512) (x : FVec Ideal S576x640 .f32) (hr) (r : Fin 576) (l : Fin 640) :
    dynamicRotate 1 p none x hr (ix2 r l) = x (ix2 r ⟨(l.val + 640 - q) % 640, Nat.mod_lt _ (by omega)⟩) := by
  subst hq
  unfold dynamicRotate
  refine congrArg x (funext fun a => Fin.ext ?_)
  match a with
  | ⟨0, _⟩ => rfl
  | ⟨1, _⟩ =>
    show (l.val + 640 - (p.toNat + 0) % 640) % 640 = (l.val + 640 - p.toNat) % 640
    omega

theorem bit_at (p : BitVec 32) (r : Fin 576) (l : Fin 640) :
    bit p (ix2 r l) = if BitVec.ofNat 32 r.val &&& p = 0#32 then 0#1 else 1#1 := by
  show BitVec.ofBool ((BitVec.ofNat 32 (0 * 576 + r.val) &&& p) != 0#32) = _
  rw [Nat.zero_mul, Nat.zero_add]
  split
  · next h => rw [h]; rfl
  · next h => rw [bne_iff_ne.2 h]; rfl

theorem step_rolled (p : BitVec 32) (q : ℕ) (hq : p.toNat = q) (h : q ≤ 512) (hb : ∀ r : Fin 576, BitVec.ofNat 32 r.val &&& p = 0#32 ↔ r.val / q % 2 = 0)
    (b : Fin 640 → EReal) (x : FVec Ideal S576x640 .f32) (hx : Rolled q b x) : Rolled (q * 2) b (step p x) := by
  intro r l
  show (if bit p (ix2 r l) = 1 then _ else _) = _
  rw [bit_at]
  have hm : r.val % (q * 2) = r.val % q + q * (r.val / q % 2) := Nat.mod_mul
  by_cases h0 : BitVec.ofNat 32 r.val &&& p = 0#32
  · rw [if_pos h0, if_neg (by decide), hx r l]
    refine congrArg b (Fin.ext ?_)
    show (l.val + 1280 - r.val % q) % 640 = (l.val + 1280 - r.val % (q * 2)) % 640
    rw [hm, (hb r).1 h0, Nat.mul_zero]
    rfl
  · rw [if_neg h0]
    refine (if_pos rfl).trans ?_
    rw [rot_at p q hq h, hx r]
    refine congrArg b (Fin.ext ?_)
    have h1 : r.val / q % 2 = 1 := (Nat.mod_two_eq_zero_or_one _).resolve_left fun e => h0 ((hb r).2 e)
    show ((l.val + 640 - q) % 640 + 1280 - r.val % q) % 640 = (l.val + 1280 - r.val % (q * 2)) % 640
    rw [hm, h1, Nat.mul_one]
    have : r.val % q < 576 := Nat.lt_of_le_of_lt (Nat.mod_le _ _) r.isLt
    have hlt : r.val % q < q ∨ q = 0 := by
      rcases Nat.eq_zero_or_pos q with e | e
      · exact Or.inr e
      · exact Or.inl (Nat.mod_lt _ e)
    omega

theorem spread_at (v : FVec Ideal S1x640 .f32) (r : Fin 576) (l : Fin 640) : spread v (ix2 r l) = v (ix2 0 l) := by
  pointwise [spread]

theorem rolled_at (v : FVec Ideal S1x640 .f32) (r : Fin 576) (l : Fin 640) :
    rolled v (ix2 r l) = v (ix2 0 ⟨(l.val + 1280 - r.val) % 640, Nat.mod_lt _ (by omega)⟩) := by
  have h0 : Rolled 1 (fun w => v (ix2 0 w)) (spread v) := fun r l => (spread_at v r l).trans
    (congrArg (fun w => v (ix2 0 w)) (Fin.ext (by show l.val = (l.val + 1280 - r.val % 1) % 640; omega)))
  have h1 := step_rolled 1#32 1 rfl (by omega) (by decide +kernel) _ _ h0
  have h2 := step_rolled 2#32 2 rfl (by omega) (by decide +kernel) _ _ h1
  have h3 := step_rolled 4#32 4 rfl (by omega) (by decide +kernel) _ _ h2
  have h4 := step_rolled 8#32 8 rfl (by omega) (by decide +kernel) _ _ h3
  have h5 := step_rolled 16#32 16 rfl (by omega) (by decide +kernel) _ _ h4
  have h6 := step_rolled 32#32 32 rfl (by omega) (by decide +kernel) _ _ h5
  have h7 := step_rolled 64#32 64 rfl (by omega) (by decide +kernel) _ _ h6
  have h8 := step_rolled 128#32 128 rfl (by omega) (by decide +kernel) _ _ h7
  have h9 := step_rolled 256#32 256 rfl (by omega) (by decide +kernel) _ _ h8
  have h10 := step_rolled 512#32 512 rfl (by omega) (by decide +kernel) _ _ h9
  refine (h10 r l).trans (congrArg (fun w => v (ix2 0 w)) (Fin.ext ?_))
  show (l.val + 1280 - r.val % 1024) % 640 = (l.val + 1280 - r.val) % 640
  have := r.isLt
  omega

theorem lt64 : ∀ l : Fin 128, (IntOp.cmpi CmpIPredicate.slt (BitVec.ofNat 32 l.val) 64#32 = 1 ↔ l.val < 64) := by decide +kernel

theorem pc_at (u v : FVec Ideal S1x640 .f32) (r : Fin 576) (l : Fin 128) :
    pc u v (ix3 0 r l) = (if l.val < 64 then u else v) (ix2 0 ⟨(l.val + 1792 - r.val) % 640, Nat.mod_lt _ (by omega)⟩) := by
  have e : pc u v (ix3 0 r l) = if l.val < 64 then rolled u (ix2 r ⟨512 + l.val, by omega⟩) else rolled v (ix2 r ⟨512 + l.val, by omega⟩) := by
    pointwise [pc]
    exact if_congr (lt64 ⟨l.val, l.isLt⟩) rfl rfl
  rw [e, rolled_at, rolled_at]
  have h : (⟨(512 + l.val + 1280 - r.val) % 640, Nat.mod_lt _ (by omega)⟩ : Fin 640) = ⟨(l.val + 1792 - r.val) % 640, Nat.mod_lt _ (by omega)⟩ :=
    Fin.ext (by show (512 + l.val + 1280 - r.val) % 640 = (l.val + 1792 - r.val) % 640; congr 1; omega)
  split
  · exact congrArg (fun w => u (ix2 0 w)) h
  · exact congrArg (fun w => v (ix2 0 w)) h

/-- The stores are eight of these. -/
theorem out_eq (x : Vec Ideal S16x640 .f32) : out0_1 (F := Ideal) x = View.canon (Val := Elt Ideal) (s := S4x576x256) (e := .f32)
    [⟨r0_23, pc (View.ld (Val := Elt Ideal) (e' := .f32) x r0_21) (View.ld (Val := Elt Ideal) (e' := .f32) x r0_22)⟩, ⟨r0_20, pc (View.ld (Val := Elt Ideal) (e' := .f32) x r0_18) (View.ld (Val := Elt Ideal) (e' := .f32) x r0_19)⟩,
     ⟨r0_17, pc (View.ld (Val := Elt Ideal) (e' := .f32) x r0_15) (View.ld (Val := Elt Ideal) (e' := .f32) x r0_16)⟩, ⟨r0_14, pc (View.ld (Val := Elt Ideal) (e' := .f32) x r0_12) (View.ld (Val := Elt Ideal) (e' := .f32) x r0_13)⟩,
     ⟨r0_11, pc (View.ld (Val := Elt Ideal) (e' := .f32) x r0_9) (View.ld (Val := Elt Ideal) (e' := .f32) x r0_10)⟩, ⟨r0_8, pc (View.ld (Val := Elt Ideal) (e' := .f32) x r0_6) (View.ld (Val := Elt Ideal) (e' := .f32) x r0_7)⟩,
     ⟨r0_5, pc (View.ld (Val := Elt Ideal) (e' := .f32) x r0_3) (View.ld (Val := Elt Ideal) (e' := .f32) x r0_4)⟩, ⟨r0_2, pc (View.ld (Val := Elt Ideal) (e' := .f32) x r0_0) (View.ld (Val := Elt Ideal) (e' := .f32) x r0_1)⟩] := rfl

/-- The row of a head is the head's. -/
theorem ld_row (x : Vec Ideal S16x640 .f32) (h : ℕ) (hh : h < 16) (inb) (l : Fin 640) :
    View.ld (Val := Elt Ideal) (e' := .f32) x (Rect.unit (s := S16x640) ![h, 0] S1x640.size inb) (ix2 0 l) = x (ix2 ⟨h, hh⟩ l) := by
  show x _ = x _
  refine congrArg x (funext fun a => Fin.ext ?_)
  match a with
  | ⟨0, _⟩ => show h + 1 * 0 = h; omega
  | ⟨1, _⟩ => show 0 + 1 * l.val = l.val; omega

/-- The table of the heads' rows. -/
def table (x : Vec Ideal S16x640 .f32) (i : S4x576x256.Idx) : EReal :=
  x (ix2 ⟨4 * (i 0).val + (i 2).val / 64, by have h0 : (i 0).val < 4 := (i 0).isLt; have h2 : (i 2).val < 256 := (i 2).isLt; omega⟩
    ⟨((i 2).val % 128 + 1792 - (i 1).val) % 640, Nat.mod_lt _ (by omega)⟩)

theorem piece_at (x : Vec Ideal S16x640 .f32) (hq c : ℕ) (h : hq < 4) (hc : c < 2) (inb ia ib) (y : S1x576x128.Idx) :
    pc (View.ld (Val := Elt Ideal) (e' := .f32) x (Rect.unit (s := S16x640) ![4 * hq + 2 * c, 0] S1x640.size ia))
      (View.ld (Val := Elt Ideal) (e' := .f32) x (Rect.unit (s := S16x640) ![4 * hq + 2 * c + 1, 0] S1x640.size ib)) y
      = table x ((Rect.unit (s := S4x576x256) ![hq, 0, 128 * c] S1x576x128.size inb).emb y) := by
  obtain ⟨z, r, l, rfl⟩ : ∃ (z : Fin 1) (r : Fin 576) (l : Fin 128), y = ix3 z r l := ⟨y 0, y 1, y 2, by funext a; match a with | ⟨0, _⟩ => rfl | ⟨1, _⟩ => rfl | ⟨2, _⟩ => rfl⟩
  obtain rfl : z = 0 := Subsingleton.elim _ _
  have hl := l.isLt
  rw [pc_at]
  unfold table
  have e0 : ((Rect.unit (s := S4x576x256) ![hq, 0, 128 * c] S1x576x128.size inb).emb (ix3 0 r l) 0).val = hq := by show hq + 1 * 0 = hq; omega
  have e1 : ((Rect.unit (s := S4x576x256) ![hq, 0, 128 * c] S1x576x128.size inb).emb (ix3 0 r l) 1).val = r.val := by show 0 + 1 * r.val = r.val; omega
  have e2 : ((Rect.unit (s := S4x576x256) ![hq, 0, 128 * c] S1x576x128.size inb).emb (ix3 0 r l) 2).val = 128 * c + l.val := by show 128 * c + 1 * l.val = 128 * c + l.val; omega
  split
  · refine (ld_row x _ (by omega) ia _).trans (congrArg x (congrArg₂ ix2 (Fin.ext ?_) (Fin.ext ?_)))
    · show 4 * hq + 2 * c = 4 * _ + _ / 64
      rw [e0, e2]; omega
    · show (l.val + 1792 - r.val) % 640 = (_ % 128 + 1792 - _) % 640
      rw [e1, e2]; omega
  · refine (ld_row x _ (by omega) ib _).trans (congrArg x (congrArg₂ ix2 (Fin.ext ?_) (Fin.ext ?_)))
    · show 4 * hq + 2 * c + 1 = 4 * _ + _ / 64
      rw [e0, e2]; omega
    · show (l.val + 1792 - r.val) % 640 = (_ % 128 + 1792 - _) % 640
      rw [e1, e2]; omega

theorem out_at (x : Vec Ideal S16x640 .f32) : out0_1 (F := Ideal) x = table x := by
  rw [out_eq]
  funext y
  refine View.canon_apply_of_pieces (Val := Elt Ideal) (S := S4x576x256) (e := .f32) (table x) _ ?_ y (cover0_1 _ _ _ _ _ _ _ _ y)
  simp only [List.forall_mem_cons, List.not_mem_nil, false_imp_iff, implies_true, and_true]
  exact ⟨piece_at x 3 1 (by omega) (by omega) _ _ _, piece_at x 3 0 (by omega) (by omega) _ _ _, piece_at x 2 1 (by omega) (by omega) _ _ _,
    piece_at x 2 0 (by omega) (by omega) _ _ _, piece_at x 1 1 (by omega) (by omega) _ _ _, piece_at x 1 0 (by omega) (by omega) _ _ _,
    piece_at x 0 1 (by omega) (by omega) _ _ _, piece_at x 0 0 (by omega) (by omega) _ _ _⟩

/-! ## The rows the kernel's launch reads -/

/-- The row of a head: the biases of the distances falling, then the clipped one, then those before the window. -/
def base (x : FVec Ideal S16x513 .f32) : FVec Ideal S16x640 .f32 :=
  concatenate S16x640 1 [⟨S16x256, extractStridedSlice S16x256 ![0, 256] x Facts₀.slices_S16x513_S16x256_0_256⟩,
    ⟨S16x321, broadcastInDim S16x321 ![0, 1] Facts₀.bcast_S16x1_S16x321_0_1 (extractStridedSlice S16x1 ![0, 512] x Facts₀.slices_S16x513_S16x1_0_512)⟩,
    ⟨S16x63, extractStridedSlice S16x63 ![0, 193] x Facts₀.slices_S16x513_S16x63_0_193⟩] Facts₀.concatenates_S16x256_S16x321_S16x63_S16x640_d1

/-- The odd heads' rows, shifted by a head's queries. -/
def shifted (b : FVec Ideal S16x640 .f32) : FVec Ideal S16x640 .f32 :=
  concatenate S16x640 1 [⟨S16x64, extractStridedSlice S16x64 ![0, 576] b Facts₀.slices_S16x640_S16x64_0_576⟩,
    ⟨S16x576, extractStridedSlice S16x576 ![0, 0] b Facts₀.slices_S16x640_S16x576_0_0⟩] Facts₀.concatenates_S16x64_S16x576_S16x640_d1

theorem base_at (x : FVec Ideal S16x513 .f32) (h : Fin 16) (w : Fin 640) :
    base x (ix2 h w) = x (ix2 h ⟨if w.val < 256 then 256 + w.val else if w.val < 577 then 512 else w.val - 384, by have := w.isLt; split_ifs <;> omega⟩) := by
  pointwise [base]
  have hw := w.isLt
  by_cases h1 : w.val < 256
  · rw [dif_pos h1]
    exact congrArg (fun z => x (ix2 h z)) (Fin.ext (if_pos h1).symm)
  · rw [dif_neg h1]
    by_cases h2 : w.val < 577
    · rw [dif_pos (by omega)]
      exact congrArg (fun z => x (ix2 h z)) (Fin.ext ((if_neg h1).trans (if_pos h2)).symm)
    · rw [dif_neg (by omega)]
      refine congrArg (fun z => x (ix2 h z)) (Fin.ext (Eq.trans ?_ ((if_neg h1).trans (if_neg h2)).symm))
      show 193 + (w.val - 256 - 321) = w.val - 384
      omega

theorem shifted_at (x : FVec Ideal S16x640 .f32) (h : Fin 16) (w : Fin 640) :
    shifted x (ix2 h w) = x (ix2 h ⟨(w.val + 576) % 640, Nat.mod_lt _ (by omega)⟩) := by
  pointwise [shifted]
  have hw := w.isLt
  by_cases h1 : w.val < 64
  · rw [dif_pos h1]
    exact congrArg (fun z => x (ix2 h z)) (Fin.ext (by show 576 + w.val = (w.val + 576) % 640; omega))
  · rw [dif_neg h1]
    exact congrArg (fun z => x (ix2 h z)) (Fin.ext (by show w.val - 64 = (w.val + 576) % 640; omega))

variable (m : (ℓ : Loc nD τ sig) → Buf (Elt Ideal) ℓ)

/-- The divisor as the remainder's function reads it. -/
def two : IVec S_ 32 :=
  select (cmpi .eq (id (constantI S_ 32 2#32)) (constantI S_ 32 0#32)) (constantI S_ 32 1#32) (id (constantI S_ 32 2#32))

/-- The heads' numbers' remainders before their signs are mended. -/
def rems : IVec S16 32 := Host.remsi (iotaInDim S16 32 0) (broadcastInDim S16 ![] Facts₀.bcast_S_S16 two)

/-- Zeros. -/
def zeros : IVec S16 32 := broadcastInDim S16 ![] Facts₀.bcast_S_S16 (constantI S_ 32 0#32)

/-- Which heads are odd. -/
def odd : IVec S16 1 :=
  cmpi .eq (select (andi (cmpi .ne (cmpi .slt rems zeros) (broadcastInDim S16 ![] Facts₀.bcast_S_S16 (cmpi .slt two (constantI S_ 32 0#32)))) (cmpi .ne rems zeros))
    (addi rems (broadcastInDim S16 ![] Facts₀.bcast_S_S16 two)) rems) (broadcastInDim S16 ![] Facts₀.bcast_S_S16 (constantI S_ 32 1#32))

theorem odd_at : ∀ h : Fin 16, odd (ix1 h) = if h.val % 2 = 1 then 1#1 else 0#1 := by
  decide +kernel

theorem V_eq (c : Dev nD) : V m c main_v13 =
    select (broadcastInDim S16x640 ![0, 1] Facts₀.bcast_S16x1_S16x640_0_1 (broadcastInDim S16x1 ![0] Facts₀.bcast_S16_S16x1_0 odd))
      (shifted (base (m ((c.tc : Thread nD τ).loc main_arg0)))) (base (m ((c.tc : Thread nD τ).loc main_arg0))) := by
  simp only [V, hostOps0, hostOps0_1, hostOps0_2, hostOps0_3, List.flatten_cons, List.flatten_nil, List.append_nil, List.cons_append, List.nil_append,
    StableHlo.TRef.binary, StableHlo.TRef.unary, StableHlo.TRef.ternary, StableHlo.TRef.nullary, StableHlo.TRef.toBuf, StableHlo.TRef.ofBuf, cast_eq]
  after_results_simp <;> rfl

theorem V_at (c : Dev nD) (h : Fin 16) (w : Fin 640) : V m c main_v13 (ix2 h w) =
    base (m ((c.tc : Thread nD τ).loc main_arg0)) (ix2 h ⟨(w.val + 576 * (h.val % 2)) % 640, Nat.mod_lt _ (by omega)⟩) := by
  rw [V_eq]
  have e : select (broadcastInDim S16x640 ![0, 1] Facts₀.bcast_S16x1_S16x640_0_1 (broadcastInDim S16x1 ![0] Facts₀.bcast_S16_S16x1_0 odd))
      (shifted (base (m ((c.tc : Thread nD τ).loc main_arg0)))) (base (m ((c.tc : Thread nD τ).loc main_arg0))) (ix2 h w)
      = if odd (ix1 h) = 1 then shifted (base (m ((c.tc : Thread nD τ).loc main_arg0))) (ix2 h w) else base (m ((c.tc : Thread nD τ).loc main_arg0)) (ix2 h w) := by
    pointwise []
    rfl
  rw [e, odd_at, shifted_at]
  rcases Nat.mod_two_eq_zero_or_one h.val with hh | hh
  · rw [hh]
    exact congrArg (fun z => base _ (ix2 h z)) (Fin.ext (by show w.val = (w.val + 576 * 0) % 640; omega))
  · rw [hh]
    exact if_pos rfl

/-- The column of the biases for a query and a key: the clipped distance, from the least. -/
def col (q e : ℕ) : Fin 513 := ⟨min 512 (768 + q - e), by omega⟩

/-- The table of the relative biases. -/
def biases (x : FVec Ideal S16x513 .f32) (i : S4x576x256.Idx) : EReal :=
  x (ix2 ⟨4 * (i 0).val + (i 2).val / 64, by have h0 : (i 0).val < 4 := (i 0).isLt; have h2 : (i 2).val < 256 := (i 2).isLt; omega⟩
    (col ((i 2).val % 64) (i 1).val))

theorem oidx : ∀ t : Fin cfg0.N, win0_0.index t = ![0, 0] ∧ win0_1.index t = ![0, 0, 0] :=
  (by decide +kernel : ∀ t : Fin grid0.N, _)

theorem blk_eq (c : Dev nD) (t : Fin cfg0.N) (h : Fin 16) (w : Fin 640) : iblk m c 0 t (ix2 h w) = V m c main_v13 (ix2 h w) := by
  unfold iblk
  show V m c main_v13 _ = _
  refine congrArg (V m c main_v13) (funext fun a => Fin.ext ?_)
  have e0 := congrFun (oidx t).1 0
  have e1 := congrFun (oidx t).1 1
  match a with
  | ⟨0, _⟩ => show win0_0.index t 0 * 16 + 1 * h.val = h.val; rw [e0]; show 0 * 16 + 1 * h.val = h.val; omega
  | ⟨1, _⟩ => show win0_0.index t 1 * 640 + 1 * w.val = w.val; rw [e1]; show 0 * 640 + 1 * w.val = w.val; omega

theorem out_biases (c : Dev nD) (t : Fin cfg0.N) (i : S4x576x256.Idx) : out0_1 (F := Ideal) (iblk m c 0 t) i = biases (m ((c.tc : Thread nD τ).loc main_arg0)) i := by
  rw [out_at]
  have h0 : (i 0).val < 4 := (i 0).isLt
  have h1 : (i 1).val < 576 := (i 1).isLt
  have h2 : (i 2).val < 256 := (i 2).isLt
  unfold table biases
  rw [blk_eq, V_at, base_at]
  refine congrArg (fun z => m ((c.tc : Thread nD τ).loc main_arg0) (ix2 _ z)) (Fin.ext ?_)
  show (if (((i 2).val % 128 + 1792 - (i 1).val) % 640 + 576 * ((4 * (i 0).val + (i 2).val / 64) % 2)) % 640 < 256 then
      256 + (((i 2).val % 128 + 1792 - (i 1).val) % 640 + 576 * ((4 * (i 0).val + (i 2).val / 64) % 2)) % 640
    else if (((i 2).val % 128 + 1792 - (i 1).val) % 640 + 576 * ((4 * (i 0).val + (i 2).val / 64) % 2)) % 640 < 577 then 512
    else (((i 2).val % 128 + 1792 - (i 1).val) % 640 + 576 * ((4 * (i 0).val + (i 2).val / 64) % 2)) % 640 - 384) = min 512 (768 + (i 2).val % 64 - (i 1).val)
  have e : (((i 2).val % 128 + 1792 - (i 1).val) % 640 + 576 * ((4 * (i 0).val + (i 2).val / 64) % 2)) % 640 = ((i 2).val % 64 + 1792 - (i 1).val) % 640 := by
    have hp : (4 * (i 0).val + (i 2).val / 64) % 2 = (i 2).val / 64 % 2 := by omega
    have hq : (i 2).val % 128 = 64 * ((i 2).val / 64 % 2) + (i 2).val % 64 := by omega
    rw [hp, hq]
    have hn : (i 2).val % 64 < 64 := Nat.mod_lt _ (by omega)
    generalize (i 2).val % 64 = n at hn ⊢
    rcases Nat.mod_two_eq_zero_or_one ((i 2).val / 64) with h | h <;> rw [h] <;> generalize (i 1).val = k at h1 ⊢ <;> omega
  rw [e]
  split_ifs <;> omega

theorem final (c : Dev nD) : (dats m 0 c).arrAt 1 cfg0.N = biases (m ((c.tc : Thread nD τ).loc main_arg0)) := by
  refine (dats m 0 c).arrAt_eq_of_covers 1 _ (by decide +kernel) fun t hf y => ?_
  rw [cast_eq, after0_1]
  refine (out_biases m c t _).trans (congrArg _ (funext fun a => Fin.ext ?_))
  have e0 := congrFun (oidx t).2 0
  have e1 := congrFun (oidx t).2 1
  have e2 := congrFun (oidx t).2 2
  match a with
  | ⟨0, _⟩ => show (y 0).val = win0_1.index t 0 * 4 + 1 * (y 0).val; rw [e0]; show (y 0).val = 0 * 4 + 1 * (y 0).val; omega
  | ⟨1, _⟩ => show (y 1).val = win0_1.index t 1 * 576 + 1 * (y 1).val; rw [e1]; show (y 1).val = 0 * 576 + 1 * (y 1).val; omega
  | ⟨2, _⟩ => show (y 2).val = win0_1.index t 2 * 256 + 1 * (y 2).val; rw [e2]; show (y 2).val = 0 * 256 + 1 * (y 2).val; omega

end Ker

section Ref
open Cert.Reference4Ideal

theorem gather_at {α : Type} (x : S16x513.Idx → α) (idx : IVec S64x576x1 32) (h : Fin 16) (q : Fin 64) (e : Fin 576) :
    Host.gather gather_S16x513_S64x576x1_S16x64x576_0_1_n_n_1_2_161 x idx (ix3 h q e) = x (ix2 h ⟨min (idx (ix3 q e 0)).toInt.toNat 512, by omega⟩) := by
  unfold Host.gather
  refine congrArg x (funext fun a => Fin.ext ?_)
  show gather_S16x513_S64x576x1_S16x64x576_0_1_n_n_1_2_161.start _ _ a + gather_S16x513_S64x576x1_S16x64x576_0_1_n_n_1_2_161.batchCoord _ a
    + gather_S16x513_S64x576x1_S16x64x576_0_1_n_n_1_2_161.offCoord _ a = _
  match a with
  | ⟨0, _⟩ =>
    rw [GatherDims.batchCoord_eq_zero _ _ _ List.not_mem_nil]
    show 0 + 0 + h.val = h.val
    omega
  | ⟨1, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (idx z).toInt.toNat 512) (funext fun b => Fin.ext ?_)
    match b with
    | ⟨0, _⟩ => rfl
    | ⟨1, _⟩ => rfl
    | ⟨2, _⟩ => rfl

/-- The reference's columns: the distance, clipped. -/
def dist : IVec S64x576 32 :=
  subi (broadcastInDim S64x576 ![0, 1] Facts₀.bcast_S64x1_S64x576_0_1 (addi (broadcastInDim S64x1 ![] Facts₀.bcast_S_S64x1 (constantI S_ 32 512#32))
    (broadcastInDim S64x1 ![0] Facts₀.bcast_S64_S64x1_0 (iotaInDim S64 32 0))))
    (broadcastInDim S64x576 ![0, 1] Facts₀.bcast_S1x576_S64x576_0_1 (broadcastInDim S1x576 ![1] Facts₀.bcast_S576_S1x576_1 (iotaInDim S576 32 0)))

/-- A number everywhere. -/
def all (k : BitVec 32) : IVec S64x576 32 := broadcastInDim S64x576 ![] Facts₀.bcast_S_S64x576 (constantI S_ 32 k)

/-- The clipped distance, from the least. -/
def clipped : IVec S64x576 32 := addi (minsi (all 256#32) (maxsi (all 4294967040#32) dist)) (all 256#32)

/-- The columns of the biases. -/
def cols : IVec S64x576 32 := select (cmpi .slt clipped (all 0#32)) (addi clipped (all 513#32)) clipped

/-- The reference's result. -/
def rB (x : FVec Ideal S16x513 .f32) : FVec Ideal S4x576x256 .f32 :=
  shapeCast S4x576x256 (transpose S4x576x4x64 [0, 3, 1, 2] (shapeCast S4x4x64x576 (Host.gather gather_S16x513_S64x576x1_S16x64x576_0_1_n_n_1_2_161 x
    (broadcastInDim S64x576x1 ![0, 1] Facts₀.bcast_S64x576_S64x576x1_0_1 cols)) Facts₀.shapeCasts_S16x64x576_S4x4x64x576)
    Facts₀.transposes_S4x4x64x576_S4x576x4x64_0_3_1_2) Facts₀.shapeCasts_S4x576x4x64_S4x576x256

theorem cols_at : ∀ (q : Fin 64) (e : Fin 576), min (cols (ix2 q e)).toInt.toNat 512 = min 512 (768 + q.val - e.val) := by
  decide +kernel

theorem rB_at (x : FVec Ideal S16x513 .f32) (i : S4x576x256.Idx) : rB x i = biases x i := by
  have e : rB x i = Host.gather gather_S16x513_S64x576x1_S16x64x576_0_1_n_n_1_2_161 x (broadcastInDim S64x576x1 ![0, 1] Facts₀.bcast_S64x576_S64x576x1_0_1 cols)
    (ix3 ⟨4 * (i 0).val + (i 2).val / 64, by have h0 : (i 0).val < 4 := (i 0).isLt; have h2 : (i 2).val < 256 := (i 2).isLt; omega⟩ ⟨(i 2).val % 64, Nat.mod_lt _ (by omega)⟩ (i 1)) := by
    pointwise [rB]
    exact congrArg (fun n => Host.gather gather_S16x513_S64x576x1_S16x64x576_0_1_n_n_1_2_161 x
      (broadcastInDim S64x576x1 ![0, 1] Facts₀.bcast_S64x576_S64x576x1_0_1 cols) (ix3 n ⟨(i 2).val % 64, Nat.mod_lt _ (by omega)⟩ (i 1)))
      (Fin.ext (Nat.add_right_cancel_iff.mpr (Nat.mul_comm (i 0).val 4)))
  refine (e.trans (gather_at x _ _ _ _)).trans ?_
  exact congrArg (fun z => x (ix2 _ z)) (Fin.ext (cols_at ⟨(i 2).val % 64, Nat.mod_lt _ (by omega)⟩ (i 1)))

end Ref

end Cert.Bias

end
-- ==== Proof.BiasClaims.lean ====
module

public import proofs.«01_k».proof.Defs
public import proofs.«01_k».proof.Proof.Gen.Kernel4.Frame
public import proofs.«01_k».proof.Proof.Gen.Kernel4Ideal.Frame
public import proofs.«01_k».proof.Proof.Bias

@[expose] public section

noncomputable section

open Idealize.ShloMosaic Idealize.ShloMosaic.TcCoe Idealize.SL.Sem

namespace Cert.Bias

/-- The kernel as printed runs to its end from every memory, leaves its argument as it was and no counter raised. -/
theorem frame_k : Cert.quiescent_Kernel4 := fun m ρ _ => Cert.Kernel4.Gen.frame m ρ
/-- The same of its idealization. -/
theorem frame_ki : Cert.quiescent_Kernel4Ideal := fun m ρ _ => Cert.Kernel4Ideal.Gen.frame m ρ
/-- The same of the reference, which has no counters. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The table of biases is the reference's, from arguments that agree. -/
theorem algebraic : Cert.algebraic_Kernel4Ideal_Reference4Ideal := by
  intro m ρ m' ρ' _ hag
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [hag c, final m c]
  exact funext fun i => rB_at _ i

end Cert.Bias

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.AttnClaims
public import proofs.«01_k».proof.Proof.InprojClaims
public import proofs.«01_k».proof.Proof.OutClaims
public import proofs.«01_k».proof.Proof.BiasClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Attn.pre_facts,
    Cert.Attn.frame_k, Cert.Attn.frame_ki, Cert.Attn.frame_ki_pre (hPre := Cert.Attn.pre_facts), Cert.Attn.frame_ri, Cert.Attn.frame_ri_pre (hPre := Cert.Attn.pre_facts),
    Cert.Inproj.frame_k, Cert.Inproj.frame_ki, Cert.Inproj.frame_ri,
    Cert.OutI.frame_k, Cert.OutI.frame_ki, Cert.OutI.frame_ri,
    Cert.Bias.frame_k, Cert.Bias.frame_ki, Cert.Bias.frame_ri,
    Cert.Attn.preserves, Cert.Attn.algebraic (hPre := Cert.Attn.pre_facts), trivial, Cert.Inproj.algebraic,
    Cert.OutI.preserves, Cert.OutI.algebraic, trivial, Cert.Bias.algebraic⟩

end Cert.Proof

end
